-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 768]⟩ ⟨2, ![768, 3072]⟩ 1 4 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![768, 768]⟩ ⟨2, ![3072, 768]⟩ 0 4 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S768x768 : Shape := ⟨2, ![768, 768]⟩
abbrev S1024x768 : Shape := ⟨2, ![1024, 768]⟩
abbrev S2x256x768 : Shape := ⟨3, ![2, 256, 768]⟩
abbrev S2x128x768 : Shape := ⟨3, ![2, 128, 768]⟩
abbrev S1024x384 : Shape := ⟨2, ![1024, 384]⟩
abbrev S4x4 : Shape := ⟨2, ![4, 4]⟩
abbrev S_ : Shape := ⟨0, ![]⟩
abbrev S2x4608 : Shape := ⟨2, ![2, 4608]⟩
abbrev S2x768 : Shape := ⟨2, ![2, 768]⟩
abbrev S2x512 : Shape := ⟨2, ![2, 512]⟩
abbrev S2x512x1 : Shape := ⟨3, ![2, 512, 1]⟩
abbrev S2x1x768 : Shape := ⟨3, ![2, 1, 768]⟩
abbrev S256x384 : Shape := ⟨2, ![256, 384]⟩
abbrev S256x96 : Shape := ⟨2, ![256, 96]⟩
abbrev S512x96 : Shape := ⟨2, ![512, 96]⟩
abbrev S256x512 : Shape := ⟨2, ![256, 512]⟩
abbrev S256 : Shape := ⟨1, ![256]⟩
abbrev S256x1 : Shape := ⟨2, ![256, 1]⟩
abbrev S256x768 : Shape := ⟨2, ![256, 768]⟩
abbrev S1x1 : Shape := ⟨2, ![1, 1]⟩
abbrev S1x256x768 : Shape := ⟨3, ![1, 256, 768]⟩
abbrev S1x128x768 : Shape := ⟨3, ![1, 128, 768]⟩
abbrev S128x768 : Shape := ⟨2, ![128, 768]⟩
abbrev S1x768 : Shape := ⟨2, ![1, 768]⟩
abbrev S128 : Shape := ⟨1, ![128]⟩
abbrev S128x1 : Shape := ⟨2, ![128, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x512x768, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S384x768, .f32⟩
  | .hbm, ⟨5, _⟩ => ⟨S2x128, .f32⟩
  | .hbm, ⟨6, _⟩ => ⟨S128x4608, .f32⟩
  | .hbm, ⟨7, _⟩ => ⟨S768x768, .f32⟩
  | .hbm, ⟨8, _⟩ => ⟨S768x768, .f32⟩
  | .hbm, ⟨9, _⟩ => ⟨S2x512x768, .f32⟩
  | .local _ .vmem, ⟨0, _⟩ => ⟨S2x512x768, .f32⟩
  | .local _ .vmem, ⟨1, _⟩ => ⟨S768x384, .f32⟩
  | .local _ .vmem, ⟨2, _⟩ => ⟨S768x384, .f32⟩
  | .local _ .vmem, ⟨3, _⟩ => ⟨S768x384, .f32⟩
  | .local _ .vmem, ⟨4, _⟩ => ⟨S384x768, .f32⟩
  | .local _ .vmem, ⟨5, _⟩ => ⟨S2x128, .f32⟩
  | .local _ .vmem, ⟨6, _⟩ => ⟨S128x4608, .f32⟩
  | .local _ .vmem, ⟨7, _⟩ => ⟨S768x768, .f32⟩
  | .local _ .vmem, ⟨8, _⟩ => ⟨S768x768, .f32⟩
  | .local _ .vmem, ⟨9, _⟩ => ⟨S2x512x768, .f32⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S2x256x768, .bf16⟩
  | .local _ .vmem, ⟨14, _⟩ => ⟨S2x128x768, .bf16⟩
  | .local _ .vmem, ⟨15, _⟩ => ⟨S1024x384, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_13 : BitVec 32 := 1#32
  let v30 : BitVec 32 := Scalar.muli v27 c1_i32_13
  let v31 : BitVec 32 := Scalar.addi c0_i32_14 v30
  v31.toNat
def k0_dev2 (d0 : Dev nD) : Nat :=
  let c0_i32_17 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_16 : BitVec 32 := 1#32
  let v32 : BitVec 32 := Scalar.muli v28 c1_i32_16
  let v33 : BitVec 32 := Scalar.addi c0_i32_17 v32
  v33.toNat
def k0_off1 (d0 : Dev nD) : Fin 2 → Nat :=
  let c0_i32_58 : BitVec 32 := 0#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v36 : BitVec 32 := Scalar.subi c1_i32_20 v23
  let c256_i32_21 : BitVec 32 := 256#32
  let v37 : BitVec 32 := Scalar.muli v36 c256_i32_21
  let v118 : BitVec 32 := Scalar.addi c0_i32_58 v37
  let v119 : Index := Scalar.indexCast v118
  let c0_59 : Index := 0#32
  ![v119.toNat, 0]
def k0_off2 (d0 : Dev nD) : Fin 2 → Nat :=
  let c0_i32_81 : BitVec 32 := 0#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v36 : BitVec 32 := Scalar.subi c1_i32_20 v23
  let c256_i32_21 : BitVec 32 := 256#32
  let v37 : BitVec 32 := Scalar.muli v36 c256_i32_21
  let v193 : BitVec 32 := Scalar.addi c0_i32_81 v37
  let v194 : Index := Scalar.indexCast v193
  let c0_82 : Index := 0#32
  ![v194.toNat, 0]
def k0_off3 (d0 : Dev nD) : Fin 2 → Nat :=
  let c512_i32 : BitVec 32 := 512#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v38 : BitVec 32 := Scalar.subi c1_i32_22 v19
  let c256_i32_23 : BitVec 32 := 256#32
  let v39 : BitVec 32 := Scalar.muli v38 c256_i32_23
  let v198 : BitVec 32 := Scalar.addi c512_i32 v39
  let v199 : Index := Scalar.indexCast v198
  let c0_83 : Index := 0#32
  ![v199.toNat, 0]
def k0_off4 (d0 : Dev nD) : Fin 2 → Nat :=
  let c512_i32_105 : BitVec 32 := 512#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v38 : BitVec 32 := Scalar.subi c1_i32_22 v19
  let c256_i32_23 : BitVec 32 := 256#32
  let v39 : BitVec 32 := Scalar.muli v38 c256_i32_23
  let v273 : BitVec 32 := Scalar.addi c512_i32_105 v39
  let v274 : Index := Scalar.indexCast v273
  let c0_106 : Index := 0#32
  ![v274.toNat, 0]
def k0_off5 (d0 : Dev nD) : Fin 2 → Nat :=
  let c0_i32_107 : BitVec 32 := 0#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v36 : BitVec 32 := Scalar.subi c1_i32_20 v23
  let c256_i32_21 : BitVec 32 := 256#32
  let v37 : BitVec 32 := Scalar.muli v36 c256_i32_21
  let v278 : BitVec 32 := Scalar.addi c0_i32_107 v37
  let c0_i32_117 : BitVec 32 := 0#32
  ![v278.toNat, 0]
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_113 : BitVec 32 := 1#32
  let v279 : BitVec 32 := Scalar.muli v27 c1_i32_113
  let v280 : BitVec 32 := Scalar.addi c0_i32_114 v279
  v280.toNat
def k0_off6 (d0 : Dev nD) : Fin 2 → Nat :=
  let c512_i32_118 : BitVec 32 := 512#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v38 : BitVec 32 := Scalar.subi c1_i32_22 v19
  let c256_i32_23 : BitVec 32 := 256#32
  let v39 : BitVec 32 := Scalar.muli v38 c256_i32_23
  let v288 : BitVec 32 := Scalar.addi c512_i32_118 v39
  let c0_i32_128 : BitVec 32 := 0#32
  ![v288.toNat, 0]
def k0_dev4 (d0 : Dev nD) : Nat :=
  let c0_i32_125 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_124 : BitVec 32 := 1#32
  let v289 : BitVec 32 := Scalar.muli v28 c1_i32_124
  let v290 : BitVec 32 := Scalar.addi c0_i32_125 v289
  v290.toNat
def k0_off7 (d0 : Dev nD) : Fin 2 → Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32 : BitVec 32 := 256#32
  let v34 : BitVec 32 := Scalar.muli v23 c256_i32
  let v298 : BitVec 32 := Scalar.addi c0_i32_129 v34
  let v299 : Index := Scalar.indexCast v298
  let c0_130 : Index := 0#32
  ![v299.toNat, 0]
def k0_off8 (d0 : Dev nD) : Fin 2 → Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32 : BitVec 32 := 256#32
  let v34 : BitVec 32 := Scalar.muli v23 c256_i32
  let v373 : BitVec 32 := Scalar.addi c0_i32_152 v34
  let v374 : Index := Scalar.indexCast v373
  let c0_153 : Index := 0#32
  ![v374.toNat, 0]
def k0_off9 (d0 : Dev nD) : Fin 2 → Nat :=
  let c512_i32_154 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_19 : BitVec 32 := 256#32
  let v35 : BitVec 32 := Scalar.muli v19 c256_i32_19
  let v378 : BitVec 32 := Scalar.addi c512_i32_154 v35
  let v379 : Index := Scalar.indexCast v378
  let c0_155 : Index := 0#32
  ![v379.toNat, 0]
def k0_off10 (d0 : Dev nD) : Fin 2 → Nat :=
  let c512_i32_177 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_19 : BitVec 32 := 256#32
  let v35 : BitVec 32 := Scalar.muli v19 c256_i32_19
  let v453 : BitVec 32 := Scalar.addi c512_i32_177 v35
  let v454 : Index := Scalar.indexCast v453
  let c0_178 : Index := 0#32
  ![v454.toNat, 0]
def k0_off11 (d0 : Dev nD) : Fin 2 → Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32 : BitVec 32 := 256#32
  let v34 : BitVec 32 := Scalar.muli v23 c256_i32
  let c1_i32_230 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v504 : BitVec 32 := Scalar.subi c1_i32_230 v19
  let c128_i32_231 : BitVec 32 := 128#32
  let v505 : BitVec 32 := Scalar.muli v504 c128_i32_231
  let v506 : BitVec 32 := Scalar.addi v34 v505
  let v510 : BitVec 32 := Scalar.addi c0_i32_234 v506
  let c0_i32_244 : BitVec 32 := 0#32
  ![v510.toNat, 0]
def k0_dev5 (d0 : Dev nD) : Nat :=
  let c0_i32_241 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_240 : BitVec 32 := 1#32
  let v511 : BitVec 32 := Scalar.muli v28 c1_i32_240
  let v512 : BitVec 32 := Scalar.addi c0_i32_241 v511
  v512.toNat
def k0_off12 (d0 : Dev nD) : Fin 2 → Nat :=
  let c512_i32_245 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_19 : BitVec 32 := 256#32
  let v35 : BitVec 32 := Scalar.muli v19 c256_i32_19
  let c1_i32_232 : BitVec 32 := 1#32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v507 : BitVec 32 := Scalar.subi c1_i32_232 v23
  let c128_i32_233 : BitVec 32 := 128#32
  let v508 : BitVec 32 := Scalar.muli v507 c128_i32_233
  let v509 : BitVec 32 := Scalar.addi v35 v508
  let v520 : BitVec 32 := Scalar.addi c512_i32_245 v509
  let c0_i32_255 : BitVec 32 := 0#32
  ![v520.toNat, 0]
def k0_dev6 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_251 : BitVec 32 := 1#32
  let v521 : BitVec 32 := Scalar.muli v27 c1_i32_251
  let v522 : BitVec 32 := Scalar.addi c0_i32_252 v521
  v522.toNat
def k0_off13 (d0 : Dev nD) : Fin 2 → Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32_24 : BitVec 32 := 256#32
  let v40 : BitVec 32 := Scalar.muli v23 c256_i32_24
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32 : BitVec 32 := 128#32
  let v41 : BitVec 32 := Scalar.muli v19 c128_i32
  let v42 : BitVec 32 := Scalar.addi v40 v41
  let v554 : BitVec 32 := Scalar.addi c0_i32_294 v42
  let v555 : Index := Scalar.indexCast v554
  let c0_295 : Index := 0#32
  ![v555.toNat, 0]
def k0_off14 (d0 : Dev nD) : Fin 3 → Nat :=
  let c0_299 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32_24 : BitVec 32 := 256#32
  let v40 : BitVec 32 := Scalar.muli v23 c256_i32_24
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32 : BitVec 32 := 128#32
  let v41 : BitVec 32 := Scalar.muli v19 c128_i32
  let v42 : BitVec 32 := Scalar.addi v40 v41
  let v561 : Index := Scalar.indexCast v42
  let c0_300 : Index := 0#32
  ![0, v561.toNat, 0]
def k0_off15 (d0 : Dev nD) : Fin 2 → Nat :=
  let c512_i32_302 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_25 : BitVec 32 := 256#32
  let v43 : BitVec 32 := Scalar.muli v19 c256_i32_25
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c128_i32_26 : BitVec 32 := 128#32
  let v44 : BitVec 32 := Scalar.muli v23 c128_i32_26
  let v45 : BitVec 32 := Scalar.addi v43 v44
  let v573 : BitVec 32 := Scalar.addi c512_i32_302 v45
  let v574 : Index := Scalar.indexCast v573
  let c0_303 : Index := 0#32
  ![v574.toNat, 0]
def k0_off16 (d0 : Dev nD) : Fin 3 → Nat :=
  let c1_307 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_25 : BitVec 32 := 256#32
  let v43 : BitVec 32 := Scalar.muli v19 c256_i32_25
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c128_i32_26 : BitVec 32 := 128#32
  let v44 : BitVec 32 := Scalar.muli v23 c128_i32_26
  let v45 : BitVec 32 := Scalar.addi v43 v44
  let v580 : Index := Scalar.indexCast v45
  let c0_308 : Index := 0#32
  ![1, v580.toNat, 0]
def k0_off17 (d0 : Dev nD) : Fin 2 → Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32_24 : BitVec 32 := 256#32
  let v40 : BitVec 32 := Scalar.muli v23 c256_i32_24
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32 : BitVec 32 := 128#32
  let v41 : BitVec 32 := Scalar.muli v19 c128_i32
  let v42 : BitVec 32 := Scalar.addi v40 v41
  let v598 : BitVec 32 := Scalar.addi c0_i32_314 v42
  let c0_i32_321 : BitVec 32 := 0#32
  ![v598.toNat, 0]
def k0_dev7 (d0 : Dev nD) : Nat :=
  let c0_i32_320 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_319 : BitVec 32 := 1#32
  let v599 : BitVec 32 := Scalar.muli v28 c1_i32_319
  let v600 : BitVec 32 := Scalar.addi c0_i32_320 v599
  v600.toNat
def k0_off18 (d0 : Dev nD) : Fin 2 → Nat :=
  let c512_i32_323 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_25 : BitVec 32 := 256#32
  let v43 : BitVec 32 := Scalar.muli v19 c256_i32_25
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c128_i32_26 : BitVec 32 := 128#32
  let v44 : BitVec 32 := Scalar.muli v23 c128_i32_26
  let v45 : BitVec 32 := Scalar.addi v43 v44
  let v607 : BitVec 32 := Scalar.addi c512_i32_323 v45
  let c0_i32_330 : BitVec 32 := 0#32
  ![v607.toNat, 0]
def k0_dev8 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_328 : BitVec 32 := 1#32
  let v608 : BitVec 32 := Scalar.muli v27 c1_i32_328
  let v609 : BitVec 32 := Scalar.addi c0_i32_329 v608
  v609.toNat
def k0_off19 (d0 : Dev nD) : Fin 2 → Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32 : BitVec 32 := 256#32
  let v34 : BitVec 32 := Scalar.muli v23 c256_i32
  let v734 : BitVec 32 := Scalar.addi c0_i32_390 v34
  let c0_i32_397 : BitVec 32 := 0#32
  ![v734.toNat, 0]
def k0_dev9 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_395 : BitVec 32 := 1#32
  let v735 : BitVec 32 := Scalar.muli v27 c1_i32_395
  let v736 : BitVec 32 := Scalar.addi c0_i32_396 v735
  v736.toNat
def k0_off20 (d0 : Dev nD) : Fin 2 → Nat :=
  let c512_i32_399 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_19 : BitVec 32 := 256#32
  let v35 : BitVec 32 := Scalar.muli v19 c256_i32_19
  let v743 : BitVec 32 := Scalar.addi c512_i32_399 v35
  let c0_i32_406 : BitVec 32 := 0#32
  ![v743.toNat, 0]
def k0_dev10 (d0 : Dev nD) : Nat :=
  let c0_i32_405 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_404 : BitVec 32 := 1#32
  let v744 : BitVec 32 := Scalar.muli v28 c1_i32_404
  let v745 : BitVec 32 := Scalar.addi c0_i32_405 v744
  v745.toNat
def k0_off21 (d0 : Dev nD) : Fin 2 → Nat :=
  let c0_i32_408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32_27 : BitVec 32 := 256#32
  let v46 : BitVec 32 := Scalar.muli v23 c256_i32_27
  let c1_i32_28 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v47 : BitVec 32 := Scalar.subi c1_i32_28 v19
  let c128_i32_29 : BitVec 32 := 128#32
  let v48 : BitVec 32 := Scalar.muli v47 c128_i32_29
  let v49 : BitVec 32 := Scalar.addi v46 v48
  let v752 : BitVec 32 := Scalar.addi c0_i32_408 v49
  let v753 : Index := Scalar.indexCast v752
  let c0_409 : Index := 0#32
  ![v753.toNat, 0]
def k0_off22 (d0 : Dev nD) : Fin 2 → Nat :=
  let c512_i32_422 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_30 : BitVec 32 := 256#32
  let v50 : BitVec 32 := Scalar.muli v19 c256_i32_30
  let c1_i32_31 : BitVec 32 := 1#32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v51 : BitVec 32 := Scalar.subi c1_i32_31 v23
  let c128_i32_32 : BitVec 32 := 128#32
  let v52 : BitVec 32 := Scalar.muli v51 c128_i32_32
  let v53 : BitVec 32 := Scalar.addi v50 v52
  let v801 : BitVec 32 := Scalar.addi c512_i32_422 v53
  let v802 : Index := Scalar.indexCast v801
  let c0_423 : Index := 0#32
  ![v802.toNat, 0]
def k0_dev11 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_500 : BitVec 32 := 1#32
  let v969 : BitVec 32 := Scalar.muli v27 c1_i32_500
  let v970 : BitVec 32 := Scalar.addi c0_i32_501 v969
  v970.toNat
def k0_dev12 (d0 : Dev nD) : Nat :=
  let c0_i32_512 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_511 : BitVec 32 := 1#32
  let v979 : BitVec 32 := Scalar.muli v28 c1_i32_511
  let v980 : BitVec 32 := Scalar.addi c0_i32_512 v979
  v980.toNat
def k0_dev13 (d0 : Dev nD) : Nat :=
  let c0_i32_579 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_578 : BitVec 32 := 1#32
  let v1041 : BitVec 32 := Scalar.muli v28 c1_i32_578
  let v1042 : BitVec 32 := Scalar.addi c0_i32_579 v1041
  v1042.toNat
def k0_dev14 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_589 : BitVec 32 := 1#32
  let v1051 : BitVec 32 := Scalar.muli v27 c1_i32_589
  let v1052 : BitVec 32 := Scalar.addi c0_i32_590 v1051
  v1052.toNat
def k0_dev15 (d0 : Dev nD) : Nat :=
  let c0_i32_652 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_651 : BitVec 32 := 1#32
  let v1123 : BitVec 32 := Scalar.muli v28 c1_i32_651
  let v1124 : BitVec 32 := Scalar.addi c0_i32_652 v1123
  v1124.toNat
def k0_dev16 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_660 : BitVec 32 := 1#32
  let v1132 : BitVec 32 := Scalar.muli v27 c1_i32_660
  let v1133 : BitVec 32 := Scalar.addi c0_i32_661 v1132
  v1133.toNat
def k0_dev17 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v24 : BitVec 32 := Scalar.addi v2 c1_i32_9
  let c2_i32_11 : BitVec 32 := 2#32
  let c2_i32_10 : BitVec 32 := 2#32
  let v25 : BitVec 32 := Scalar.remsi v2 c2_i32_10
  let v26 : BitVec 32 := Scalar.muli c2_i32_11 v25
  let v27 : BitVec 32 := Scalar.subi v24 v26
  let c1_i32_707 : BitVec 32 := 1#32
  let v1177 : BitVec 32 := Scalar.muli v27 c1_i32_707
  let v1178 : BitVec 32 := Scalar.addi c0_i32_708 v1177
  v1178.toNat
def k0_dev18 (d0 : Dev nD) : Nat :=
  let c0_i32_717 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi c3_i32 v2
  let c1_i32_716 : BitVec 32 := 1#32
  let v1186 : BitVec 32 := Scalar.muli v28 c1_i32_716
  let v1187 : BitVec 32 := Scalar.addi c0_i32_717 v1186
  v1187.toNat
def k0_off23 (d0 : Dev nD) : Fin 3 → Nat :=
  let c0_722 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let c256_i32_27 : BitVec 32 := 256#32
  let v46 : BitVec 32 := Scalar.muli v23 c256_i32_27
  let c1_i32_28 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v47 : BitVec 32 := Scalar.subi c1_i32_28 v19
  let c128_i32_29 : BitVec 32 := 128#32
  let v48 : BitVec 32 := Scalar.muli v47 c128_i32_29
  let v49 : BitVec 32 := Scalar.addi v46 v48
  let v1198 : Index := Scalar.indexCast v49
  let c0_723 : Index := 0#32
  ![0, v1198.toNat, 0]
def k0_off24 (d0 : Dev nD) : Fin 3 → Nat :=
  let c1_726 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_30 : BitVec 32 := 256#32
  let v50 : BitVec 32 := Scalar.muli v19 c256_i32_30
  let c1_i32_31 : BitVec 32 := 1#32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v51 : BitVec 32 := Scalar.subi c1_i32_31 v23
  let c128_i32_32 : BitVec 32 := 128#32
  let v52 : BitVec 32 := Scalar.muli v51 c128_i32_32
  let v53 : BitVec 32 := Scalar.addi v50 v52
  let v1206 : Index := Scalar.indexCast v53
  let c0_727 : Index := 0#32
  ![1, v1206.toNat, 0]
def k0_off25 (d0 : Dev nD) : Fin 3 → Nat :=
  let c0_760 : Index := 0#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v20 : BitVec 1 := Scalar.cmpi .eq v2 c1_i32_5
  let c2_i32_6 : BitVec 32 := 2#32
  let v21 : BitVec 1 := Scalar.cmpi .eq v2 c2_i32_6
  let v22 : BitVec 1 := Scalar.ori v20 v21
  let c1_i32_7 : BitVec 32 := 1#32
  let c0_i32_8 : BitVec 32 := 0#32
  let v23 : BitVec 32 := Scalar.select v22 c1_i32_7 c0_i32_8
  let v36 : BitVec 32 := Scalar.subi c1_i32_20 v23
  let c256_i32_21 : BitVec 32 := 256#32
  let v37 : BitVec 32 := Scalar.muli v36 c256_i32_21
  let v1234 : Index := Scalar.indexCast v37
  let c0_761 : Index := 0#32
  ![0, v1234.toNat, 0]
def k0_off26 (d0 : Dev nD) : Fin 3 → Nat :=
  let c1_764 : Index := 1#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v38 : BitVec 32 := Scalar.subi c1_i32_22 v19
  let c256_i32_23 : BitVec 32 := 256#32
  let v39 : BitVec 32 := Scalar.muli v38 c256_i32_23
  let v1242 : Index := Scalar.indexCast v39
  let c0_765 : Index := 0#32
  ![1, v1242.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x512x768 : Shape := ⟨3, ![2, 512, 768]⟩
abbrev S768x1536 : Shape := ⟨2, ![768, 1536]⟩
abbrev S1536x768 : Shape := ⟨2, ![1536, 768]⟩
abbrev S2x128 : Shape := ⟨2, ![2, 128]⟩
abbrev S128x4608 : Shape := ⟨2, ![128, 4608]⟩
abbrev S768x3072 : Shape := ⟨2, ![768, 3072]⟩
abbrev S3072x768 : Shape := ⟨2, ![3072, 768]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x1536 : Shape := ⟨3, ![2, 512, 1536]⟩
abbrev S2x512x16x96 : Shape := ⟨4, ![2, 512, 16, 96]⟩
abbrev S2x16x512x1 : Shape := ⟨4, ![2, 16, 512, 1]⟩
abbrev S2x16x512x512 : Shape := ⟨4, ![2, 16, 512, 512]⟩
abbrev S2x16x512 : Shape := ⟨3, ![2, 16, 512]⟩
abbrev S2x512x16x1 : Shape := ⟨4, ![2, 512, 16, 1]⟩
abbrev S2x16x96x512 : Shape := ⟨4, ![2, 16, 96, 512]⟩
abbrev S2x512x3072 : Shape := ⟨3, ![2, 512, 3072]⟩

abbrev nBuf : Space → Nat
  | .hbm => 167
  | .vmem => 0
  | .smem => 0
  | _ => 0

abbrev hbmTy0_0 (i : Nat) : BufTy := match i % 128 with
  | 0 => ⟨S2x512x768, .f32⟩
  | 1 => ⟨S768x1536, .f32⟩
  | 2 => ⟨S768x1536, .f32⟩
  | 3 => ⟨S768x1536, .f32⟩
  | 4 => ⟨S1536x768, .f32⟩
  | 5 => ⟨S2x128, .f32⟩
  | 6 => ⟨S128x4608, .f32⟩
  | 7 => ⟨S768x3072, .f32⟩
  | 8 => ⟨S3072x768, .f32⟩
  | 9 => ⟨S2x4608, .f32⟩
  | 10 => ⟨S2x768, .f32⟩
  | 11 => ⟨S2x768, .f32⟩
  | 12 => ⟨S2x768, .f32⟩
  | 13 => ⟨S2x768, .f32⟩
  | 14 => ⟨S2x768, .f32⟩
  | 15 => ⟨S2x768, .f32⟩
  | 16 => ⟨S_, .f32⟩
  | 17 => ⟨S2x512, .f32⟩
  | 18 => ⟨S2x512x1, .f32⟩
  | 19 => ⟨S_, .f32⟩
  | 20 => ⟨S2x512x1, .f32⟩
  | 21 => ⟨S2x512x1, .f32⟩
  | 22 => ⟨S_, .i32⟩
  | 23 => ⟨S_, .f32⟩
  | 24 => ⟨S2x512, .f32⟩
  | 25 => ⟨S2x512x1, .f32⟩
  | 26 => ⟨S_, .f32⟩
  | 27 => ⟨S2x512x1, .f32⟩
  | 28 => ⟨S2x512x1, .f32⟩
  | 29 => ⟨S2x512x768, .f32⟩
  | 30 => ⟨S2x512x768, .f32⟩
  | 31 => ⟨S2x512x768, .f32⟩
  | 32 => ⟨S_, .f32⟩
  | 33 => ⟨S_, .f32⟩
  | 34 => ⟨S_, .f32⟩
  | 35 => ⟨S_, .f32⟩
  | 36 => ⟨S2x512, .f32⟩
  | 37 => ⟨S2x512x1, .f32⟩
  | 38 => ⟨S2x512x1, .f32⟩
  | 39 => ⟨S2x512x1, .f32⟩
  | 40 => ⟨S_, .f32⟩
  | 41 => ⟨S_, .i1⟩
  | 42 => ⟨S_, .f32⟩
  | 43 => ⟨S_, .f32⟩
  | 44 => ⟨S2x512x1, .f32⟩
  | 45 => ⟨S2x512x1, .f32⟩
  | 46 => ⟨S2x512x768, .f32⟩
  | 47 => ⟨S2x512x768, .f32⟩
  | 48 => ⟨S_, .f32⟩
  | 49 => ⟨S2x512x1, .f32⟩
  | 50 => ⟨S2x512x1, .f32⟩
  | 51 => ⟨S2x512x1, .f32⟩
  | 52 => ⟨S2x512x768, .f32⟩
  | 53 => ⟨S2x512x768, .f32⟩
  | 54 => ⟨S2x1x768, .f32⟩
  | 55 => ⟨S_, .f32⟩
  | 56 => ⟨S2x1x768, .f32⟩
  | 57 => ⟨S2x1x768, .f32⟩
  | 58 => ⟨S2x512x768, .f32⟩
  | 59 => ⟨S2x512x768, .f32⟩
  | 60 => ⟨S2x1x768, .f32⟩
  | 61 => ⟨S2x512x768, .f32⟩
  | 62 => ⟨S2x512x768, .f32⟩
  | 63 => ⟨S2x512x1536, .f32⟩
  | 64 => ⟨S2x512x16x96, .f32⟩
  | 65 => ⟨S2x512x1536, .f32⟩
  | 66 => ⟨S2x512x16x96, .f32⟩
  | 67 => ⟨S2x512x1536, .f32⟩
  | 68 => ⟨S2x512x16x96, .f32⟩
  | 69 => ⟨S_, .f32⟩
  | 70 => ⟨S2x512x16x96, .f32⟩
  | 71 => ⟨S_, .f32⟩
  | 72 => ⟨S2x16x512x1, .f32⟩
  | 73 => ⟨S_, .f32⟩
  | 74 => ⟨S2x16x512x1, .f32⟩
  | 75 => ⟨S2x16x512x512, .f32⟩
  | 76 => ⟨S_, .f32⟩
  | 77 => ⟨S2x16x512x512, .f32⟩
  | 78 => ⟨S2x16x512x512, .f32⟩
  | 79 => ⟨S_, .f32⟩
  | 80 => ⟨S2x16x512, .f32⟩
  | 81 => ⟨S2x16x512x1, .f32⟩
  | 82 => ⟨S2x16x512x1, .f32⟩
  | 83 => ⟨S2x16x512x1, .f32⟩
  | 84 => ⟨S2x16x512x1, .f32⟩
  | 85 => ⟨S2x16x512x512, .f32⟩
  | 86 => ⟨S2x16x512x512, .f32⟩
  | 87 => ⟨S2x16x512x512, .f32⟩
  | 88 => ⟨S2x16x512x1, .f32⟩
  | 89 => ⟨S_, .f32⟩
  | 90 => ⟨S2x16x512, .f32⟩
  | 91 => ⟨S2x16x512x1, .f32⟩
  | 92 => ⟨S2x16x512x1, .f32⟩
  | 93 => ⟨S2x512x16x1, .f32⟩
  | 94 => ⟨S2x512x16x96, .f32⟩
  | 95 => ⟨S2x512x16x96, .f32⟩
  | 96 => ⟨S2x16x96x512, .f32⟩
  | 97 => ⟨S2x512x16x96, .f32⟩
  | 98 => ⟨S2x512x16x96, .f32⟩
  | 99 => ⟨S2x512x16x1, .f32⟩
  | 100 => ⟨S2x512x16x96, .f32⟩
  | 101 => ⟨S2x512x16x96, .f32⟩
  | 102 => ⟨S2x512x1536, .f32⟩
  | 103 => ⟨S2x512x768, .f32⟩
  | 104 => ⟨S2x1x768, .f32⟩
  | 105 => ⟨S2x512x768, .f32⟩
  | 106 => ⟨S2x512x768, .f32⟩
  | 107 => ⟨S2x512x768, .f32⟩
  | 108 => ⟨S_, .f32⟩
  | 109 => ⟨S2x512, .f32⟩
  | 110 => ⟨S2x512x1, .f32⟩
  | 111 => ⟨S_, .f32⟩
  | 112 => ⟨S2x512x1, .f32⟩
  | 113 => ⟨S2x512x1, .f32⟩
  | 114 => ⟨S_, .i32⟩
  | 115 => ⟨S_, .f32⟩
  | 116 => ⟨S2x512, .f32⟩
  | 117 => ⟨S2x512x1, .f32⟩
  | 118 => ⟨S_, .f32⟩
  | 119 => ⟨S2x512x1, .f32⟩
  | 120 => ⟨S2x512x1, .f32⟩
  | 121 => ⟨S2x512x768, .f32⟩
  | 122 => ⟨S2x512x768, .f32⟩
  | 123 => ⟨S2x512x768, .f32⟩
  | 124 => ⟨S_, .f32⟩
  | 125 => ⟨S_, .f32⟩
  | 126 => ⟨S_, .f32⟩
  | 127 => ⟨S_, .f32⟩
  | _ => ⟨S2x512x768, .f32⟩

abbrev hbmTy0_1 (i : Nat) : BufTy := match i % 128 with
  | 0 => ⟨S2x512, .f32⟩
  | 1 => ⟨S2x512x1, .f32⟩
  | 2 => ⟨S2x512x1, .f32⟩
  | 3 => ⟨S2x512x1, .f32⟩
  | 4 => ⟨S_, .f32⟩
  | 5 => ⟨S_, .i1⟩
  | 6 => ⟨S_, .f32⟩
  | 7 => ⟨S_, .f32⟩
  | 8 => ⟨S2x512x1, .f32⟩
  | 9 => ⟨S2x512x1, .f32⟩
  | 10 => ⟨S2x512x768, .f32⟩
  | 11 => ⟨S2x512x768, .f32⟩
  | 12 => ⟨S_, .f32⟩
  | 13 => ⟨S2x512x1, .f32⟩
  | 14 => ⟨S2x512x1, .f32⟩
  | 15 => ⟨S2x512x1, .f32⟩
  | 16 => ⟨S2x512x768, .f32⟩
  | 17 => ⟨S2x512x768, .f32⟩
  | 18 => ⟨S2x1x768, .f32⟩
  | 19 => ⟨S_, .f32⟩
  | 20 => ⟨S2x1x768, .f32⟩
  | 21 => ⟨S2x1x768, .f32⟩
  | 22 => ⟨S2x512x768, .f32⟩
  | 23 => ⟨S2x512x768, .f32⟩
  | 24 => ⟨S2x1x768, .f32⟩
  | 25 => ⟨S2x512x768, .f32⟩
  | 26 => ⟨S2x512x768, .f32⟩
  | 27 => ⟨S2x512x3072, .f32⟩
  | 28 => ⟨S2x512x3072, .f32⟩
  | 29 => ⟨S2x512x3072, .f32⟩
  | 30 => ⟨S_, .f32⟩
  | 31 => ⟨S2x512x3072, .f32⟩
  | 32 => ⟨S2x512x3072, .f32⟩
  | 33 => ⟨S2x512x3072, .f32⟩
  | 34 => ⟨S2x1x768, .f32⟩
  | 35 => ⟨S2x512x768, .f32⟩
  | 36 => ⟨S2x512x768, .f32⟩
  | 37 => ⟨S2x512x768, .f32⟩
  | 38 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_9 : Ref sig .tc := ⟨.hbm, 108, rfl⟩
abbrev main_v66 : Ref sig .tc := ⟨.hbm, 109, rfl⟩
abbrev main_v67 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_13 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩

abbrev nD : Nat := 1
abbrev τ : Topo := Topo.v7x

variable {F : FTy → Type} [FloatOps F]
-- ==== Proof.Own.lean ====
/-
# Owning part of a buffer at known contents

`Own c m q M X`: device `c` holds, at share `q`, the elements `M` of the memref `m`, and on `M` the memref reads `X`.
What the buffer holds off `M` is not said, so a piece of a buffer can be named by contents that describe the whole of
it. The laws: pieces split and join, a full share is two halves, and the load and store rules at such a piece.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy (duties `Unit`) beside this kernel's (duties `Bool`). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

section
variable {sp : Space} {s : Shape} {e : EltTy}

/-- Device `c` holds the elements `M` of `m` at share `q`, and on `M` the memref reads `X`. -/
def Own (c : Dev nD) (m : Memref sig .tc sp s e) (q : PosShare TreeShare) (M : Finset s.Idx) (X : s.Idx → Elt F e) : sProp 𝕄 :=
  iprop(∃ f : Buf (Elt F) (m.view.loc (c : Thread nD τ)), ⌜∀ i ∈ M, m.view.read (Elt F) f i = X i⌝
    ∗ (m.view.loc (c : Thread nD τ) ↦[m.view.setOn M]{q} f))

omit [FloatOps F] in
instance own_storable (c : Dev nD) (m : Memref sig .tc sp s e) (q : PosShare TreeShare) (M : Finset s.Idx) (X : s.Idx → Elt F e) :
    BI.Storable (upEmb : UEmb _ 𝕄) (Own c m q M X) := by unfold Own; infer_instance

variable {c : Dev nD} {m : Memref sig .tc sp s e} {q : PosShare TreeShare} {M M' : Finset s.Idx} {X Y : s.Idx → Elt F e}

omit [FloatOps F] in
/-- Only the contents on `M` count. -/
theorem own_congr (h : ∀ i ∈ M, X i = Y i) : (Own c m q M X : sProp 𝕄) ⊢ Own c m q M Y := by
  unfold Own
  iintro ⟨%f, %hf, H⟩
  iexists f
  isplitr; · ipureintro; exact fun i hi => (hf i hi).trans (h i hi)
  iexact H

omit [FloatOps F] in
/-- A piece splits into two disjoint pieces, -/
theorem own_split (h : Disjoint M M') : (Own c m q (M ∪ M') X : sProp 𝕄) ⊢ iprop(Own c m q M X ∗ Own c m q M' X) := by
  unfold Own
  iintro ⟨%f, %hf, H⟩
  have hd : Disjoint (m.view.setOn M) (m.view.setOn M') := (Finset.disjoint_map _).mpr h
  have hu : m.view.setOn (M ∪ M') = m.view.setOn M ∪ m.view.setOn M' := Finset.map_union _ _
  rw [hu]
  ihave H := (pointsTo_union hd).1 $$ H
  icases H with ⟨H1, H2⟩
  isplitl [H1]
  · iexists f
    isplitr; · ipureintro; exact fun i hi => hf i (Finset.mem_union_left _ hi)
    iexact H1
  · iexists f
    isplitr; · ipureintro; exact fun i hi => hf i (Finset.mem_union_right _ hi)
    iexact H2

omit [FloatOps F] in
/-- and two disjoint pieces join. -/
theorem own_join (h : Disjoint M M') : iprop(Own c m q M X ∗ Own c m q M' X) ⊢ (Own c m q (M ∪ M') X : sProp 𝕄) := by
  unfold Own
  iintro ⟨⟨%f, %hf, H⟩, ⟨%g, %hg, H'⟩⟩
  have hd : Disjoint (m.view.setOn M) (m.view.setOn M') := (Finset.disjoint_map _).mpr h
  have hu : m.view.setOn (M ∪ M') = m.view.setOn M ∪ m.view.setOn M' := Finset.map_union _ _
  rw [hu]
  iexists (m.view.setOn M').piecewise g f
  isplitr
  · ipureintro
    intro i hi
    rw [View.read_apply]
    by_cases hi' : i ∈ M'
    · rw [Finset.piecewise_eq_of_mem _ _ _ (m.view.mem_setOn.mpr hi'), ← View.read_apply]
      exact hg i hi'
    · rw [Finset.piecewise_eq_of_notMem _ _ _ (fun h' => hi' (m.view.mem_setOn.mp h')), ← View.read_apply]
      exact hf i ((Finset.mem_union.mp hi).resolve_right hi')
  iapply (pointsTo_join hd)
  isplitl [H]; · iexact H
  iexact H'

omit [FloatOps F] in
/-- A full share is two halves, -/
theorem own_halve : (Own c m fullShare M X : sProp 𝕄) ⊢ iprop(Own c m fullShare.left M X ∗ Own c m fullShare.right M X) := by
  unfold Own
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2

omit [FloatOps F] in
/-- and two halves are a full share. -/
theorem own_whole : iprop(Own c m fullShare.left M X ∗ Own c m fullShare.right M X) ⊢ (Own c m fullShare M X : sProp 𝕄) := by
  unfold Own
  iintro ⟨⟨%f, %hf, H⟩, ⟨%g, %hg, H'⟩⟩
  iexists f
  isplitr; · ipureintro; exact hf
  have he : (m.view.loc (c : Thread nD τ) ↦[m.view.setOn M]{fullShare.right} g : sProp 𝕄)
      = (m.view.loc (c : Thread nD τ) ↦[m.view.setOn M]{fullShare.right} f) := by
    refine pointsTo_congr fun j hj => ?_
    obtain ⟨i, hi, rfl⟩ := Finset.mem_map.mp hj
    have h' := (hg i hi).trans (hf i hi).symm
    rw [View.read_apply, View.read_apply] at h'
    exact ((cast_inj _).mp h')
  ihave H' := (Entails.of_eq he) $$ H'
  have hj : iprop((m.view.loc (c : Thread nD τ) ↦[m.view.setOn M]{fullShare.left} f) ∗ (m.view.loc (c : Thread nD τ) ↦[m.view.setOn M]{fullShare.right} f))
      ⊢ (m.view.loc (c : Thread nD τ) ↦[m.view.setOn M]{fullShare} f : sProp 𝕄) := (pointsTo_share (PosShare.mem_left_op_right fullShare)).2
  iapply hj
  isplitl [H]; · iexact H
  iexact H'

omit [FloatOps F] in
/-- A whole buffer at contents `f` is owned at them, -/
theorem own_of_pts (b : Ref sig .tc) (q : PosShare TreeShare) (f : Buf (Elt F) (((c : Dev nD) : Thread nD τ).loc b)) :
    ((((c : Thread nD τ).loc b) ↦{q} f) : sProp 𝕄) ⊢ Own c (Memref.whole b) q Finset.univ f := by
  unfold Own
  iintro H
  iexists f
  isplitr; · ipureintro; exact fun _ _ => rfl
  rw [show (Memref.whole b).view.setOn Finset.univ = Finset.univ from View.set_whole b]
  iexact H

omit [FloatOps F] in
/-- and back. -/
theorem pts_of_own (b : Ref sig .tc) (q : PosShare TreeShare) (f : b.ty.Contents (Elt F)) :
    (Own c (Memref.whole b) q Finset.univ f : sProp 𝕄) ⊢ (((c : Thread nD τ).loc b) ↦{q} f) := by
  unfold Own
  iintro ⟨%g, %hg, H⟩
  have : g = f := funext fun i => hg i (Finset.mem_univ _)
  subst this
  rw [show (Memref.whole b).view.setOn Finset.univ = Finset.univ from View.set_whole b]
  iexact H

omit [FloatOps F] in
/-- A piece that is a rectangle is the rectangle's slice, owned whole. -/
theorem own_slice (r : Rect s) (hr : ∀ a, r.stride a = 1) :
    (Own c m q r.set X : sProp 𝕄) ⊢ Own c (m.slice r hr) q Finset.univ (fun y => X (r.emb y)) := by
  unfold Own
  iintro ⟨%f, %hf, H⟩
  iexists f
  isplitr
  · ipureintro
    intro y _
    exact hf _ (by rw [← Rect.map_emb_univ]; exact Finset.mem_map_of_mem _ (Finset.mem_univ _))
  have hs : (m.slice r hr).view.setOn Finset.univ = m.view.setOn r.set := m.view.set_slice r
  rw [hs]; iexact H

omit [FloatOps F] in
theorem own_unslice (r : Rect s) (hr : ∀ a, r.stride a = 1) :
    (Own c (m.slice r hr) q Finset.univ (fun y => X (r.emb y)) : sProp 𝕄) ⊢ Own c m q r.set X := by
  unfold Own
  iintro ⟨%f, %hf, H⟩
  iexists f
  isplitr
  · ipureintro
    intro i hi
    rw [← Rect.map_emb_univ] at hi
    obtain ⟨y, _, rfl⟩ := Finset.mem_map.mp hi
    exact hf y (Finset.mem_univ _)
  have hs : (m.slice r hr).view.setOn Finset.univ = m.view.setOn r.set := m.view.set_slice r
  rw [hs]; iexact H

omit [FloatOps F] in
/-- A memref re-indexed without its unit axes is the memref. -/
theorem own_squeeze {s' : Shape} (h : s.Squeezes s') :
    (Own c m q Finset.univ X : sProp 𝕄) ⊢ Own c (m.squeeze s' h) q Finset.univ (fun y => X (Shape.reshapeEquiv h.numel_eq y)) := by
  unfold Own
  iintro ⟨%f, %hf, H⟩
  iexists f
  isplitr
  · ipureintro; exact fun y _ => hf _ (Finset.mem_univ _)
  have hs : (m.squeeze s' h).view.setOn Finset.univ = m.view.setOn Finset.univ := m.view.set_reshape h.numel_eq
  rw [hs]; iexact H

omit [FloatOps F] in
theorem own_unsqueeze {s' : Shape} (h : s.Squeezes s') :
    (Own c (m.squeeze s' h) q Finset.univ (fun y => X (Shape.reshapeEquiv h.numel_eq y)) : sProp 𝕄) ⊢ Own c m q Finset.univ X := by
  unfold Own
  iintro ⟨%f, %hf, H⟩
  iexists f
  isplitr
  · ipureintro
    intro i _
    obtain ⟨y, rfl⟩ := (Shape.reshapeEquiv h.numel_eq).surjective i
    exact hf y (Finset.mem_univ _)
  have hs : (m.squeeze s' h).view.setOn Finset.univ = m.view.setOn Finset.univ := m.view.set_reshape h.numel_eq
  rw [hs]; iexact H

end

abbrev 𝒱₀ : Variants := Variants.none

section Rules
variable {s : Shape} {e : EltTy} {c : Dev nD} {cs : CoreSpace} {m : Memref sig .tc cs s e} {q : PosShare TreeShare}
  {M : Finset s.Idx} {X : s.Idx → Elt F e} {α : Type}

/-- A load of a rectangle inside the piece reads the contents there. -/
theorem wp_own_load {r : Rect s} {hl : m.view.LoadsAt r} {Q : α → sProp 𝕄} {k : (r.shape.Idx → Elt F e) → Prog (TpuEff nD τ sig (Elt F) Λ₀ .tc) α}
    (hr : r.set ⊆ M) :
    (Own c m q M X : sProp 𝕄)
      ⊢ iprop((Own c m q M X -∗ wp frame (wpE (defs₀ (F := F)) 𝒱₀ (c : Thread nD τ) none) Set.univ (k (fun y => X (r.emb y))) Q)
        -∗ wp frame (wpE (defs₀ (F := F)) 𝒱₀ (c : Thread nD τ) none) Set.univ (.op (.load m r hl) k) Q) := by
  unfold Own
  iintro ⟨%f, %hf, H⟩ Hk
  have hv : m.view.readAt (Elt F) r.toLoadRect f = fun y => X (r.emb y) := by
    funext y
    exact hf _ (hr (by rw [← Rect.map_emb_univ]; exact Finset.mem_map_of_mem _ (Finset.mem_univ _)))
  iapply (wp_load 𝒱₀ (c : Thread nD τ) none Set.univ (m := m) (r := r) (S := m.view.setOn M)
    (show m.view.setOn r.set ⊆ m.view.setOn M from Finset.map_subset_map.mpr hr)) $$ H
  iintro H
  rw [hv]
  iapply Hk
  iexists f
  isplitr; · ipureintro; exact hf
  iexact H

/-- A store of a rectangle inside a piece owned in full leaves the piece at any contents that agree with what is
    stored on the rectangle and with what was there off it. -/
theorem wp_own_store {r : Rect s} {w : r.shape.Idx → Elt F e} {hx : (m.access r).Stores Finset.univ}
    {hm : (Finset.univ : Finset r.shape.Idx) = Finset.univ ∨ ∀ a, r.stride a = 1}
    {Q : α → sProp 𝕄} {k : PUnit → Prog (TpuEff nD τ sig (Elt F) Λ₀ .tc) α} (Y : s.Idx → Elt F e)
    (hr : r.set ⊆ M) (hw : ∀ y, w y = Y (r.emb y)) (hY : ∀ i ∈ M, i ∉ r.set → X i = Y i) :
    (Own c m fullShare M X : sProp 𝕄)
      ⊢ iprop((Own c m fullShare M Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold Own
  iintro ⟨%f, %hf, H⟩ Hk
  have hset : (m.access r).setOn Finset.univ = m.view.setOn r.set := m.view.set_slice r
  iapply (wp_store 𝒱₀ (c : Thread nD τ) none Set.univ (m := m) (r := r) (S := m.view.setOn M)
    (by rw [hset]; exact Finset.map_subset_map.mpr hr)) $$ H
  iintro H
  iapply Hk
  iexists ((m.access r).write (Elt F) f w Finset.univ)
  isplitr
  · ipureintro
    intro i hi
    by_cases hir : i ∈ r.set
    · rw [← Rect.map_emb_univ] at hir
      obtain ⟨y, _, rfl⟩ := Finset.mem_map.mp hir
      rw [← hw y]
      exact View.read_write_of_mem (v := m.access r) f w (Finset.mem_univ y)
    · rw [← hY i hi hir, ← hf i hi, View.read_apply, View.read_apply,
        View.write_of_not_mem (v := m.access r) f w Finset.univ (by rw [hset]; exact fun h => hir (m.view.mem_setOn.mp h))]
  iexact H

end Rules

end Cert.KernelProof
-- ==== Proof.Geo.lean ====
/-
# The 2×2 mesh and the row chunks

Device `c` has two coordinates on the mesh, `xc c` and `yc c`; `pA` flips the second, `pB` the first. Batch `h` halves
its 512 rows first across one axis and then across the other: batch 0 by `(yc, xc)` with partners `(pA, pB)`, batch 1 by
`(xc, yc)` with `(pB, pA)`. A chunk of 256 rows is numbered `t < 4`, one of 128 rows `u < 8`. Device `c` keeps one half of each batch
(`keepT`) and sends the other (`sendT`); of what it keeps it finishes one quarter (`mineU`) and sends the other
(`st2U`). A set of 128-row chunks (`Finset (Fin 8)`) names a set of rows of a 1024-row buffer (`band`).
-/
module

public import proofs.«01_k».proof.Proof.Own
public import Idealize.ShloMosaic.Lib.ValueIdxCore

@[expose] public section

noncomputable section

namespace Cert.KernelProof

open Cert.KernelIdeal Cert.KernelIdeal.Gen

open Idealize.ShloMosaic
open Idealize.ShloMosaic.TcCoe
open Idealize.ShloMosaic.ValueIdx

/-! ## Devices -/

def xc (c : Dev nD) : Fin 2 := if c.val < 2 then 0 else 1
def yc (c : Dev nD) : Fin 2 := if c.val = 1 ∨ c.val = 2 then 1 else 0
/-- The device at given coordinates. -/
def devAt (x y : Fin 2) : Dev nD := if x.val = 0 then (if y.val = 0 then 0 else 1) else (if y.val = 0 then 3 else 2)
def pA (c : Dev nD) : Dev nD := devAt (xc c) (1 - yc c)
def pB (c : Dev nD) : Dev nD := devAt (1 - xc c) (yc c)

/-- Batch `h`'s partner at level `l` (0: halves, 1: quarters). -/
def peer (h l : Fin 2) (c : Dev nD) : Dev nD := if h = l then pA c else pB c
/-- Batch `h`'s coordinate at level `l`. -/
def crd (h l : Fin 2) (c : Dev nD) : Fin 2 := if h = l then yc c else xc c
/-- The device that finishes quarter `b` of half `a` of batch `h`. -/
def own (h a b : Fin 2) : Dev nD := if h = 0 then devAt b a else devAt a b

theorem peer_peer (h l : Fin 2) (c : Dev nD) : peer h l (peer h l c) = c := by revert h l c; decide
theorem crd_peer (h l : Fin 2) (c : Dev nD) : crd h l (peer h l c) = 1 - crd h l c := by revert h l c; decide
theorem crd_peer' (h : Fin 2) (c : Dev nD) : crd h 0 (peer h 1 c) = crd h 0 c := by revert h c; decide
theorem own_crd (h : Fin 2) (c : Dev nD) : own h (crd h 0 c) (crd h 1 c) = c := by revert h c; decide

/-! ## Chunks -/

def chT (h a : Fin 2) : Fin 4 := ⟨2 * h.val + a.val, by omega⟩
def chU (h a b : Fin 2) : Fin 8 := ⟨4 * h.val + 2 * a.val + b.val, by omega⟩
def keepT (h : Fin 2) (c : Dev nD) : Fin 4 := chT h (crd h 0 c)
def sendT (h : Fin 2) (c : Dev nD) : Fin 4 := chT h (1 - crd h 0 c)
def mineU (h : Fin 2) (c : Dev nD) : Fin 8 := chU h (crd h 0 c) (crd h 1 c)
def st2U (h : Fin 2) (c : Dev nD) : Fin 8 := chU h (crd h 0 c) (1 - crd h 1 c)
/-- The batch a chunk lies in. -/
def hT (t : Fin 4) : Fin 2 := ⟨t.val / 2, by omega⟩
def hU (u : Fin 8) : Fin 2 := ⟨u.val / 4, by omega⟩
/-- The device that finishes chunk `u`. -/
def ownU (u : Fin 8) : Dev nD := own (hU u) ⟨u.val / 2 % 2, by omega⟩ ⟨u.val % 2, by omega⟩
/-- The two quarters of a half. -/
def two (t : Fin 4) : Finset (Fin 8) := Finset.univ.filter fun u => u.val / 2 = t.val

theorem ownU_mine (h : Fin 2) (c : Dev nD) : ownU (mineU h c) = c := by revert h c; decide
theorem hU_mine (h : Fin 2) (c : Dev nD) : hU (mineU h c) = h := by revert h c; decide
theorem hU_st2 (h : Fin 2) (c : Dev nD) : hU (st2U h c) = h := by revert h c; decide
theorem hT_keep (h : Fin 2) (c : Dev nD) : hT (keepT h c) = h := by revert h c; decide
theorem hT_send (h : Fin 2) (c : Dev nD) : hT (sendT h c) = h := by revert h c; decide
theorem send_peer (h : Fin 2) (c : Dev nD) : sendT h (peer h 0 c) = keepT h c := by revert h c; decide
theorem keep_peer (h : Fin 2) (c : Dev nD) : keepT h (peer h 0 c) = sendT h c := by revert h c; decide
theorem st2_peer (h : Fin 2) (c : Dev nD) : st2U h (peer h 1 c) = mineU h c := by revert h c; decide
theorem mine_peer (h : Fin 2) (c : Dev nD) : mineU h (peer h 1 c) = st2U h c := by revert h c; decide
theorem mine_div (h : Fin 2) (c : Dev nD) : (mineU h c).val / 2 = (keepT h c).val := by revert h c; decide
theorem st2_div (h : Fin 2) (c : Dev nD) : (st2U h c).val / 2 = (keepT h c).val := by revert h c; decide
theorem two_keep (h : Fin 2) (c : Dev nD) : two (keepT h c) = {mineU h c} ∪ {st2U h c} := by revert h c; decide
theorem mine_ne_st2 (h : Fin 2) (c : Dev nD) : Disjoint ({mineU h c} : Finset (Fin 8)) {st2U h c} := by revert h c; decide
theorem keep_send (h : Fin 2) (c : Dev nD) : Disjoint (two (keepT h c)) (two (sendT h c)) := by revert h c; decide
theorem batch_disj (c : Dev nD) : Disjoint (two (keepT 0 c) ∪ two (sendT 0 c)) (two (keepT 1 c) ∪ two (sendT 1 c)) := by
  revert c; decide
theorem batch_univ (c : Dev nD) : (two (keepT 0 c) ∪ two (sendT 0 c)) ∪ (two (keepT 1 c) ∪ two (sendT 1 c)) = Finset.univ := by
  revert c; decide

/-! ## Rows -/

/-- The 128-row chunk an index of a 1024-row buffer lies in, -/
def uOf (i : S1024x768.Idx) : Fin 8 := ⟨(i 0).val / 128, by have := idx2_lt0 i; omega⟩
/-- and the 256-row chunk; -/
def tOf (i : S1024x768.Idx) : Fin 4 := ⟨(i 0).val / 256, by have := idx2_lt0 i; omega⟩
/-- the index inside the chunk. -/
def locU (i : S1024x768.Idx) : S128x768.Idx := ix2 (⟨(i 0).val % 128, Nat.mod_lt _ (by decide)⟩ : Fin 128) (i 1 : Fin 768)
def locT (i : S1024x768.Idx) : S256x768.Idx := ix2 (⟨(i 0).val % 256, Nat.mod_lt _ (by decide)⟩ : Fin 256) (i 1 : Fin 768)

/-- The rows of the chunks `U`. -/
def band (U : Finset (Fin 8)) : Finset S1024x768.Idx := Finset.univ.filter fun i => uOf i ∈ U

theorem mem_band {U : Finset (Fin 8)} {i : S1024x768.Idx} : i ∈ band U ↔ uOf i ∈ U := by simp [band]
theorem band_union (U V : Finset (Fin 8)) : band (U ∪ V) = band U ∪ band V := by
  ext i; simp only [mem_band, Finset.mem_union]
theorem band_univ : band Finset.univ = Finset.univ := by ext i; simp [mem_band]
theorem band_disj {U V : Finset (Fin 8)} (h : Disjoint U V) : Disjoint (band U) (band V) :=
  Finset.disjoint_left.mpr fun i hi hj => Finset.disjoint_left.mp h (mem_band.mp hi) (mem_band.mp hj)

/-- Chunk `u` of whole-buffer contents, -/
def cutU {α : Type} (u : Fin 8) (X : S1024x768.Idx → α) : S128x768.Idx → α := fun y =>
  X (ix2 (⟨128 * u.val + (y 0).val, by have := idx2_lt0 y; omega⟩ : Fin 1024) (y 1 : Fin 768))
/-- chunk `t`, -/
def cutT {α : Type} (t : Fin 4) (X : S1024x768.Idx → α) : S256x768.Idx → α := fun y =>
  X (ix2 (⟨256 * t.val + (y 0).val, by have := idx2_lt0 y; omega⟩ : Fin 1024) (y 1 : Fin 768))
/-- and of the narrower queries. -/
def cutQ {α : Type} (t : Fin 4) (X : S1024x384.Idx → α) : S256x384.Idx → α := fun y =>
  X (ix2 (⟨256 * t.val + (y 0).val, by have := idx2_lt0 y; omega⟩ : Fin 1024) (y 1 : Fin 384))

section Rects
variable {α : Type}

theorem cutU_rect (u : Fin 8) (X : S1024x768.Idx → α) (off : Fin 2 → Nat) (inb) (h : off = ![128 * u.val, 0]) :
    (fun y => X ((Rect.unit (s := S1024x768) off S128x768.size inb).emb y)) = cutU u X := by
  subst h; funext y; unfold cutU; congr 1; funext a; apply Fin.ext
  match a with
  | ⟨0, _⟩ => simp [Rect.emb_apply]
  | ⟨1, _⟩ => simp [Rect.emb_apply]

theorem cutT_rect (t : Fin 4) (X : S1024x768.Idx → α) (off : Fin 2 → Nat) (inb) (h : off = ![256 * t.val, 0]) :
    (fun y => X ((Rect.unit (s := S1024x768) off S256x768.size inb).emb y)) = cutT t X := by
  subst h; funext y; unfold cutT; congr 1; funext a; apply Fin.ext
  match a with
  | ⟨0, _⟩ => simp [Rect.emb_apply]
  | ⟨1, _⟩ => simp [Rect.emb_apply]

theorem cutQ_rect (t : Fin 4) (X : S1024x384.Idx → α) (off : Fin 2 → Nat) (inb) (h : off = ![256 * t.val, 0]) :
    (fun y => X ((Rect.unit (s := S1024x384) off S256x384.size inb).emb y)) = cutQ t X := by
  subst h; funext y; unfold cutQ; congr 1; funext a; apply Fin.ext
  match a with
  | ⟨0, _⟩ => simp [Rect.emb_apply]
  | ⟨1, _⟩ => simp [Rect.emb_apply]

theorem set_U (u : Fin 8) (off : Fin 2 → Nat) (inb) (h : off = ![128 * u.val, 0]) :
    (Rect.unit (s := S1024x768) off S128x768.size inb).set = band {u} := by
  subst h; ext i
  have h0 := idx2_lt0 i; have h1 := idx2_lt1 i
  rw [Rect.mem_set_unit, mem_band, Finset.mem_singleton, Fin.ext_iff]
  constructor
  · intro h
    have := h 0
    simp only [uOf, Matrix.cons_val_zero] at this ⊢
    omega
  · intro h a
    simp only [uOf] at h
    match a with
    | ⟨0, _⟩ => simp; omega
    | ⟨1, _⟩ => simp; exact h1

theorem set_T (t : Fin 4) (off : Fin 2 → Nat) (inb) (h : off = ![256 * t.val, 0]) :
    (Rect.unit (s := S1024x768) off S256x768.size inb).set = band (two t) := by
  subst h; ext i
  have h0 := idx2_lt0 i; have h1 := idx2_lt1 i
  rw [Rect.mem_set_unit, mem_band]
  simp only [two, Finset.mem_filter, Finset.mem_univ, true_and]
  constructor
  · intro h
    have := h 0
    simp only [uOf, Matrix.cons_val_zero] at this ⊢
    omega
  · intro h a
    simp only [uOf] at h
    match a with
    | ⟨0, _⟩ => simp; omega
    | ⟨1, _⟩ => simp; exact h1

/-- Inside a chunk of 128 rows, an index of the buffer is the chunk and its place. -/
theorem uOf_emb (u : Fin 8) (off : Fin 2 → Nat) (inb) (h : off = ![128 * u.val, 0]) (y : S128x768.Idx) :
    uOf ((Rect.unit (s := S1024x768) off S128x768.size inb).emb y) = u
      ∧ locU ((Rect.unit (s := S1024x768) off S128x768.size inb).emb y) = y := by
  subst h
  have h0 := idx2_lt0 y
  have e0 : (((Rect.unit (s := S1024x768) ![128 * u.val, 0] S128x768.size inb).emb y) 0).val = 128 * u.val + (y 0).val := by
    simp [Rect.emb_apply]
  constructor
  · apply Fin.ext; simp only [uOf]; rw [e0]; omega
  · funext a; apply Fin.ext
    match a with
    | ⟨0, _⟩ => show (((Rect.unit (s := S1024x768) ![128 * u.val, 0] S128x768.size inb).emb y) 0).val % 128 = (y 0).val; rw [e0]; omega
    | ⟨1, _⟩ => show (((Rect.unit (s := S1024x768) ![128 * u.val, 0] S128x768.size inb).emb y) 1).val = (y 1).val; simp [Rect.emb_apply]

theorem tOf_emb (t : Fin 4) (off : Fin 2 → Nat) (inb) (h : off = ![256 * t.val, 0]) (y : S256x768.Idx) :
    tOf ((Rect.unit (s := S1024x768) off S256x768.size inb).emb y) = t
      ∧ locT ((Rect.unit (s := S1024x768) off S256x768.size inb).emb y) = y := by
  subst h
  have h0 := idx2_lt0 y
  have e0 : (((Rect.unit (s := S1024x768) ![256 * t.val, 0] S256x768.size inb).emb y) 0).val = 256 * t.val + (y 0).val := by
    simp [Rect.emb_apply]
  constructor
  · apply Fin.ext; simp only [tOf]; rw [e0]; omega
  · funext a; apply Fin.ext
    match a with
    | ⟨0, _⟩ => show (((Rect.unit (s := S1024x768) ![256 * t.val, 0] S256x768.size inb).emb y) 0).val % 256 = (y 0).val; rw [e0]; omega
    | ⟨1, _⟩ => show (((Rect.unit (s := S1024x768) ![256 * t.val, 0] S256x768.size inb).emb y) 1).val = (y 1).val; simp [Rect.emb_apply]

/-- A 256-row chunk holds the two 128-row chunks it names. -/
theorem tOf_uOf (i : S1024x768.Idx) : (tOf i).val = (uOf i).val / 2 := by simp only [tOf, uOf]; omega

end Rects

/-! ## The same of the input and result blocks, `2 × 512` rows -/

def u3 (i : S2x512x768.Idx) : Fin 8 :=
  ⟨4 * (i 0).val + (i 1).val / 128, by have h0 : (i 0).val < 2 := (i 0).isLt; have h1 : (i 1).val < 512 := (i 1).isLt; omega⟩
def t3 (i : S2x512x768.Idx) : Fin 4 :=
  ⟨2 * (i 0).val + (i 1).val / 256, by have h0 : (i 0).val < 2 := (i 0).isLt; have h1 : (i 1).val < 512 := (i 1).isLt; omega⟩
def loc3U (i : S2x512x768.Idx) : S1x128x768.Idx :=
  ix3 (0 : Fin 1) (⟨(i 1).val % 128, Nat.mod_lt _ (by decide)⟩ : Fin 128) (i 2 : Fin 768)
def loc3T (i : S2x512x768.Idx) : S1x256x768.Idx :=
  ix3 (0 : Fin 1) (⟨(i 1).val % 256, Nat.mod_lt _ (by decide)⟩ : Fin 256) (i 2 : Fin 768)

def band3 (U : Finset (Fin 8)) : Finset S2x512x768.Idx := Finset.univ.filter fun i => u3 i ∈ U

theorem mem_band3 {U : Finset (Fin 8)} {i : S2x512x768.Idx} : i ∈ band3 U ↔ u3 i ∈ U := by simp [band3]
theorem band3_union (U V : Finset (Fin 8)) : band3 (U ∪ V) = band3 U ∪ band3 V := by
  ext i; simp only [mem_band3, Finset.mem_union]
theorem band3_univ : band3 Finset.univ = Finset.univ := by ext i; simp [mem_band3]
theorem band3_disj {U V : Finset (Fin 8)} (h : Disjoint U V) : Disjoint (band3 U) (band3 V) :=
  Finset.disjoint_left.mpr fun i hi hj => Finset.disjoint_left.mp h (mem_band3.mp hi) (mem_band3.mp hj)

/-- Chunk `u` of a `2 × 512`-row block. -/
def cut3 {α : Type} (u : Fin 8) (X : S2x512x768.Idx → α) : S1x128x768.Idx → α := fun y =>
  X (ix3 (⟨u.val / 4, by omega⟩ : Fin 2)
    (⟨128 * (u.val % 4) + (y 1).val, by have h : (y 1).val < 128 := (y 1).isLt; omega⟩ : Fin 512) (y 2 : Fin 768))

section Rects3
variable {α : Type}

theorem emb3_eq (n : Nat) (off : Fin 3 → Nat) (a b : Nat) (h : off = ![a, b, 0])
    (inb : ∀ i, off i + (⟨3, ![1, n, 768]⟩ : Shape).size i ≤ S2x512x768.size i) (y : (⟨3, ![1, n, 768]⟩ : Shape).Idx) :
    (((Rect.unit (s := S2x512x768) off (⟨3, ![1, n, 768]⟩ : Shape).size inb).emb y) 0).val = a
    ∧ (((Rect.unit (s := S2x512x768) off (⟨3, ![1, n, 768]⟩ : Shape).size inb).emb y) 1).val = b + (y 1).val
    ∧ (((Rect.unit (s := S2x512x768) off (⟨3, ![1, n, 768]⟩ : Shape).size inb).emb y) 2).val = (y 2).val := by
  subst h
  have h0 : (y 0).val < 1 := (y 0).isLt
  refine ⟨?_, ?_, ?_⟩
  · simp only [Rect.emb_apply, Rect.off_unit, Rect.stride_unit, Matrix.cons_val_zero]; omega
  · simp [Rect.emb_apply]
  · simp [Rect.emb_apply]

theorem cut3_rect (u : Fin 8) (X : S2x512x768.Idx → α) (off : Fin 3 → Nat) (inb) (h : off = ![u.val / 4, 128 * (u.val % 4), 0]) :
    (fun y => X ((Rect.unit (s := S2x512x768) off S1x128x768.size inb).emb y)) = cut3 u X := by
  funext y; unfold cut3; congr 1
  obtain ⟨e0, e1, e2⟩ := emb3_eq 128 off _ _ h inb y
  funext a; apply Fin.ext
  match a with
  | ⟨0, _⟩ => exact e0
  | ⟨1, _⟩ => exact e1
  | ⟨2, _⟩ => exact e2

theorem set3_U (u : Fin 8) (off : Fin 3 → Nat) (inb) (h : off = ![u.val / 4, 128 * (u.val % 4), 0]) :
    (Rect.unit (s := S2x512x768) off S1x128x768.size inb).set = band3 {u} := by
  subst h; ext i
  have h0 : (i 0).val < 2 := (i 0).isLt
  have h1 : (i 1).val < 512 := (i 1).isLt
  have h2 : (i 2).val < 768 := (i 2).isLt
  rw [Rect.mem_set_unit, mem_band3, Finset.mem_singleton, Fin.ext_iff]
  constructor
  · intro h
    have a0 := h 0; have a1 := h 1
    simp only [u3, Matrix.cons_val_zero, Matrix.cons_val_one] at a0 a1 ⊢
    omega
  · intro h a
    simp only [u3] at h
    match a with
    | ⟨0, _⟩ => simp; omega
    | ⟨1, _⟩ => simp; omega
    | ⟨2, _⟩ => simp; exact h2

theorem set3_T (t : Fin 4) (off : Fin 3 → Nat) (inb) (h : off = ![t.val / 2, 256 * (t.val % 2), 0]) :
    (Rect.unit (s := S2x512x768) off S1x256x768.size inb).set = band3 (two t) := by
  subst h; ext i
  have h0 : (i 0).val < 2 := (i 0).isLt
  have h1 : (i 1).val < 512 := (i 1).isLt
  have h2 : (i 2).val < 768 := (i 2).isLt
  rw [Rect.mem_set_unit, mem_band3]
  simp only [two, Finset.mem_filter, Finset.mem_univ, true_and]
  constructor
  · intro h
    have a0 := h 0; have a1 := h 1
    simp only [u3, Matrix.cons_val_zero, Matrix.cons_val_one] at a0 a1 ⊢
    omega
  · intro h a
    simp only [u3] at h
    match a with
    | ⟨0, _⟩ => simp; omega
    | ⟨1, _⟩ => simp; omega
    | ⟨2, _⟩ => simp; exact h2

theorem u3_emb (u : Fin 8) (off : Fin 3 → Nat) (inb) (h : off = ![u.val / 4, 128 * (u.val % 4), 0]) (y : S1x128x768.Idx) :
    u3 ((Rect.unit (s := S2x512x768) off S1x128x768.size inb).emb y) = u
      ∧ loc3U ((Rect.unit (s := S2x512x768) off S1x128x768.size inb).emb y) = y := by
  obtain ⟨e0, e1, e2⟩ := emb3_eq 128 off _ _ h inb y
  have h0 : (y 0).val < 1 := (y 0).isLt
  have h1 : (y 1).val < 128 := (y 1).isLt
  constructor
  · apply Fin.ext; simp only [u3]; rw [e0, e1]; omega
  · funext a; apply Fin.ext
    match a with
    | ⟨0, _⟩ => show 0 = (y 0).val; omega
    | ⟨1, _⟩ => show (((Rect.unit (s := S2x512x768) off S1x128x768.size inb).emb y) 1).val % 128 = (y 1).val; rw [e1]; omega
    | ⟨2, _⟩ => exact e2

theorem t3_emb (t : Fin 4) (off : Fin 3 → Nat) (inb) (h : off = ![t.val / 2, 256 * (t.val % 2), 0]) (y : S1x256x768.Idx) :
    t3 ((Rect.unit (s := S2x512x768) off S1x256x768.size inb).emb y) = t
      ∧ loc3T ((Rect.unit (s := S2x512x768) off S1x256x768.size inb).emb y) = y := by
  obtain ⟨e0, e1, e2⟩ := emb3_eq 256 off _ _ h inb y
  have h0 : (y 0).val < 1 := (y 0).isLt
  have h1 : (y 1).val < 256 := (y 1).isLt
  constructor
  · apply Fin.ext; simp only [t3]; rw [e0, e1]; omega
  · funext a; apply Fin.ext
    match a with
    | ⟨0, _⟩ => show 0 = (y 0).val; omega
    | ⟨1, _⟩ => show (((Rect.unit (s := S2x512x768) off S1x256x768.size inb).emb y) 1).val % 256 = (y 1).val; rw [e1]; omega
    | ⟨2, _⟩ => exact e2

theorem t3_u3 (i : S2x512x768.Idx) : (t3 i).val = (u3 i).val / 2 := by
  have h1 : (i 1).val < 512 := (i 1).isLt
  simp only [t3, u3]; omega

end Rects3

/-! ## The program's offsets and targets -/

section Offs
variable (c : Dev nD)

theorem off1_at : k0_off1 c = ![256 * (sendT 0 c).val, 0] := by revert c; decide +kernel
theorem off2_at : k0_off2 c = ![256 * (sendT 0 c).val, 0] := by revert c; decide +kernel
theorem off3_at : k0_off3 c = ![256 * (sendT 1 c).val, 0] := by revert c; decide +kernel
theorem off4_at : k0_off4 c = ![256 * (sendT 1 c).val, 0] := by revert c; decide +kernel
theorem off5_at : k0_off5 c = ![256 * (sendT 0 c).val, 0] := by revert c; decide +kernel
theorem off6_at : k0_off6 c = ![256 * (sendT 1 c).val, 0] := by revert c; decide +kernel
theorem off7_at : k0_off7 c = ![256 * (keepT 0 c).val, 0] := by revert c; decide +kernel
theorem off8_at : k0_off8 c = ![256 * (keepT 0 c).val, 0] := by revert c; decide +kernel
theorem off9_at : k0_off9 c = ![256 * (keepT 1 c).val, 0] := by revert c; decide +kernel
theorem off10_at : k0_off10 c = ![256 * (keepT 1 c).val, 0] := by revert c; decide +kernel
theorem off11_at : k0_off11 c = ![128 * (st2U 0 c).val, 0] := by revert c; decide +kernel
theorem off12_at : k0_off12 c = ![128 * (st2U 1 c).val, 0] := by revert c; decide +kernel
theorem off13_at : k0_off13 c = ![128 * (mineU 0 c).val, 0] := by revert c; decide +kernel
theorem off14_at : k0_off14 c = ![(mineU 0 c).val / 4, 128 * ((mineU 0 c).val % 4), 0] := by revert c; decide +kernel
theorem off15_at : k0_off15 c = ![128 * (mineU 1 c).val, 0] := by revert c; decide +kernel
theorem off16_at : k0_off16 c = ![(mineU 1 c).val / 4, 128 * ((mineU 1 c).val % 4), 0] := by revert c; decide +kernel
theorem off17_at : k0_off17 c = ![128 * (mineU 0 c).val, 0] := by revert c; decide +kernel
theorem off18_at : k0_off18 c = ![128 * (mineU 1 c).val, 0] := by revert c; decide +kernel
theorem off19_at : k0_off19 c = ![256 * (keepT 0 c).val, 0] := by revert c; decide +kernel
theorem off20_at : k0_off20 c = ![256 * (keepT 1 c).val, 0] := by revert c; decide +kernel
theorem off21_at : k0_off21 c = ![128 * (st2U 0 c).val, 0] := by revert c; decide +kernel
theorem off22_at : k0_off22 c = ![128 * (st2U 1 c).val, 0] := by revert c; decide +kernel
theorem off23_at : k0_off23 c = ![(st2U 0 c).val / 4, 128 * ((st2U 0 c).val % 4), 0] := by revert c; decide +kernel
theorem off24_at : k0_off24 c = ![(st2U 1 c).val / 4, 128 * ((st2U 1 c).val % 4), 0] := by revert c; decide +kernel
theorem off25_at : k0_off25 c = ![(sendT 0 c).val / 2, 256 * ((sendT 0 c).val % 2), 0] := by revert c; decide +kernel
theorem off26_at : k0_off26 c = ![(sendT 1 c).val / 2, 256 * ((sendT 1 c).val % 2), 0] := by revert c; decide +kernel

theorem dev1_at : (⟨k0_dev1 c, k0_dev1_lt c⟩ : Dev nD) = pA c := by revert c; decide +kernel
theorem dev2_at : (⟨k0_dev2 c, k0_dev2_lt c⟩ : Dev nD) = pB c := by revert c; decide +kernel
theorem dev3_at : (⟨k0_dev3 c, k0_dev3_lt c⟩ : Dev nD) = pA c := by revert c; decide +kernel
theorem dev4_at : (⟨k0_dev4 c, k0_dev4_lt c⟩ : Dev nD) = pB c := by revert c; decide +kernel
theorem dev5_at : (⟨k0_dev5 c, k0_dev5_lt c⟩ : Dev nD) = pB c := by revert c; decide +kernel
theorem dev6_at : (⟨k0_dev6 c, k0_dev6_lt c⟩ : Dev nD) = pA c := by revert c; decide +kernel
theorem dev7_at : (⟨k0_dev7 c, k0_dev7_lt c⟩ : Dev nD) = pB c := by revert c; decide +kernel
theorem dev8_at : (⟨k0_dev8 c, k0_dev8_lt c⟩ : Dev nD) = pA c := by revert c; decide +kernel
theorem dev9_at : (⟨k0_dev9 c, k0_dev9_lt c⟩ : Dev nD) = pA c := by revert c; decide +kernel
theorem dev10_at : (⟨k0_dev10 c, k0_dev10_lt c⟩ : Dev nD) = pB c := by revert c; decide +kernel
theorem dev11_at : (⟨k0_dev11 c, k0_dev11_lt c⟩ : Dev nD) = pA c := by revert c; decide +kernel
theorem dev12_at : (⟨k0_dev12 c, k0_dev12_lt c⟩ : Dev nD) = pB c := by revert c; decide +kernel
theorem dev13_at : (⟨k0_dev13 c, k0_dev13_lt c⟩ : Dev nD) = pB c := by revert c; decide +kernel
theorem dev14_at : (⟨k0_dev14 c, k0_dev14_lt c⟩ : Dev nD) = pA c := by revert c; decide +kernel
theorem dev15_at : (⟨k0_dev15 c, k0_dev15_lt c⟩ : Dev nD) = pB c := by revert c; decide +kernel
theorem dev16_at : (⟨k0_dev16 c, k0_dev16_lt c⟩ : Dev nD) = pA c := by revert c; decide +kernel
theorem dev17_at : (⟨k0_dev17 c, k0_dev17_lt c⟩ : Dev nD) = pA c := by revert c; decide +kernel
theorem dev18_at : (⟨k0_dev18 c, k0_dev18_lt c⟩ : Dev nD) = pB c := by revert c; decide +kernel

end Offs

end Cert.KernelProof
-- ==== Proof.Contents.lean ====
/-
# What the buffers hold

Every intermediate of the kernel as a function of the devices' inputs, chunk by chunk and independently of which device
holds it. A device's attention output for a chunk of rows (`att`) is its partial product; two partners' partial products add
up (`sumA`), twice, and the device that finishes the chunk adds the input (`G1`). The second half is the same again
from `G1`: the MLP (`mlpU`, `mlpT`), the two sums, and the second addition (`G2`).
-/
module

public import proofs.«01_k».proof.Proof.Geo

@[expose] public section

noncomputable section

namespace Cert.KernelProof

open Cert.KernelIdeal Cert.KernelIdeal.Gen

open Idealize.ShloMosaic
open Idealize.ShloMosaic.TcCoe
open Idealize.ShloMosaic.ValueIdx

variable {F : FTy → Type} [FloatOps F]

/-- The nine arguments as one device reads them. -/
structure In (F : FTy → Type) where
  x : Vec F S2x512x768 .f32
  wq : Vec F S768x384 .f32
  wk : Vec F S768x384 .f32
  wv : Vec F S768x384 .f32
  wo : Vec F S384x768 .f32
  tv : Vec F S2x128 .f32
  wa : Vec F S128x4608 .f32
  w1 : Vec F S768x768 .f32
  w2 : Vec F S768x768 .f32

namespace In
variable (J : In F)

/-- The six modulation rows. -/
abbrev m0 : FVec F S2x768 .f32 := k0_pay2 J.tv J.wa
abbrev m1 : FVec F S2x768 .f32 := k0_pay3 J.tv J.wa
abbrev m2 : FVec F S2x768 .f32 := k0_pay4 J.tv J.wa
abbrev m3 : FVec F S2x768 .f32 := k0_pay5 J.tv J.wa
abbrev m4 : FVec F S2x768 .f32 := k0_pay6 J.tv J.wa
abbrev m5 : FVec F S2x768 .f32 := k0_pay7 J.tv J.wa
/-- The modulated normal of the input, and the device's queries, keys and values. -/
abbrev xn : FVec F S1024x768 .bf16 := k0_pay9 J.m0 J.m1 (k0_pay8 J.x)
abbrev q : FVec F S1024x384 .bf16 := k0_pay14 (k0_pay13 J.m0 J.m1 (k0_pay8 J.x) J.wq)
abbrev kk : FVec F S1024x384 .bf16 := k0_pay15 J.xn (k0_pay10 J.wk)
abbrev vv : FVec F S1024x384 .bf16 := k0_pay16 J.xn (k0_pay11 J.wv)
abbrev wob : FVec F S384x768 .bf16 := k0_pay12 J.wo
abbrev w1b : FVec F S768x768 .bf16 := k0_pay43 J.w1
abbrev w2b : FVec F S768x768 .bf16 := k0_pay44 J.w2

/-- The device's share of the attention output for 256 queries of batch 0, -/
abbrev att0 (qc : Vec F S256x384 .bf16) : FVec F S256x768 .bf16 :=
  k0_pay19 J.wob J.kk J.vv qc (k0_pay17 J.xn (k0_pay10 J.wk) (k0_pay11 J.wv) qc) (k0_pay18 J.xn (k0_pay10 J.wk) (k0_pay11 J.wv) qc)
/-- and of batch 1. -/
abbrev att1 (qc : Vec F S256x384 .bf16) : FVec F S256x768 .bf16 :=
  k0_pay24 J.wob J.kk J.vv qc (k0_pay20 J.kk J.vv qc) (k0_pay21 J.kk J.vv qc) (k0_pay22 J.vv) (k0_pay23 J.kk qc)
def att (t : Fin 4) : FVec F S256x768 .bf16 := if hT t = 0 then J.att0 (cutQ t J.q) else J.att1 (cutQ t J.q)

/-- The device's share of the MLP of a chunk of 128 rows, -/
abbrev mlpU0 (g : Vec F S128x768 .bf16) : FVec F S128x768 .bf16 :=
  k0_pay55 J.w2b (k0_pay53 J.m3 J.m4 J.w1b g) (k0_pay54 J.m3 J.m4 J.w1b g)
abbrev mlpU1 (g : Vec F S128x768 .bf16) : FVec F S128x768 .bf16 :=
  k0_pay59 J.w2b (k0_pay56 J.m3 J.m4 J.w1b g) (k0_pay57 J.m3 J.m4 J.w1b g) k0_pay58
def mlpU (u : Fin 8) (g : Vec F S128x768 .bf16) : FVec F S128x768 .bf16 := if hU u = 0 then J.mlpU0 g else J.mlpU1 g
/-- and of 256. -/
abbrev mlpT0 (g : Vec F S256x768 .bf16) : FVec F S256x768 .bf16 :=
  k0_pay62 J.w2b (k0_pay60 J.m3 J.m4 J.w1b g) (k0_pay61 J.m3 J.m4 J.w1b g) (Scalar.ofBits .f32 0x3F800000#32)
abbrev mlpT1 (g : Vec F S256x768 .bf16) : FVec F S256x768 .bf16 :=
  k0_pay65 J.w2b (k0_pay63 J.m3 J.m4 J.w1b g) (k0_pay64 J.m3 J.m4 J.w1b g)
def mlpT (t : Fin 4) (g : Vec F S256x768 .bf16) : FVec F S256x768 .bf16 := if hT t = 0 then J.mlpT0 g else J.mlpT1 g

end In

/-- A block re-indexed with a leading unit axis, as a landing buffer holds it. -/
def liftT {α : Type} (v : S256x768.Idx → α) : S1x256x768.Idx → α := fun z =>
  v ((Shape.reshapeEquiv (squeezes_S1x256x768_S256x768 : S1x256x768.Squeezes S256x768).numel_eq).symm z)
def liftU {α : Type} (v : S128x768.Idx → α) : S1x128x768.Idx → α := fun z =>
  v ((Shape.reshapeEquiv (squeezes_S1x128x768_S128x768 : S1x128x768.Squeezes S128x768).numel_eq).symm z)

/-- Two chunks of 256 rows added. -/
def sumT (a b : Vec F S256x768 .bf16) : FVec F S256x768 .bf16 := k0_pay37 a (liftT b)
/-- The first residual: two chunks of 128 rows added, gated by row `h` and added to the input. -/
def res0 (g : FVec F S2x768 .f32) (a b : Vec F S128x768 .bf16) (x : Vec F S1x128x768 .f32) : FVec F S128x768 .bf16 :=
  k0_pay41 g (k0_pay39 a (liftU b)) (k0_pay40 x)
def res1 (g : FVec F S2x768 .f32) (a b : Vec F S128x768 .bf16) (x : Vec F S1x128x768 .f32) : FVec F S128x768 .bf16 :=
  k0_pay42 g a (liftU b) x
/-- The second residual. -/
def fin0 (g : FVec F S2x768 .f32) (a b : Vec F S128x768 .bf16) (x : Vec F S128x768 .bf16) : FVec F S128x768 .bf16 :=
  k0_pay69 g (k0_pay68 a (liftU b)) x
def fin1 (g : FVec F S2x768 .f32) (a b : Vec F S128x768 .bf16) (x : Vec F S128x768 .bf16) : FVec F S128x768 .bf16 :=
  k0_pay70 g a (liftU b) x

section Global
variable (J : Dev nD → In F)

/-- What device `c`'s accumulator holds of the attention output before any exchange; -/
def A0 (c : Dev nD) : S1024x768.Idx → Elt F .bf16 := fun i => (J c).att (tOf i) (locT i)
/-- after the first, -/
def sumA (A : Dev nD → S1024x768.Idx → Elt F .bf16) (c : Dev nD) : S1024x768.Idx → Elt F .bf16 := fun i =>
  sumT (cutT (tOf i) (A c)) (cutT (tOf i) (A (peer (hT (tOf i)) 0 c))) (locT i)
/-- One finished chunk of the first residual, on device `c`, -/
def g1U (c : Dev nD) (u : Fin 8) : FVec F S128x768 .bf16 :=
  if hU u = 0 then res0 (J c).m2 (cutU u (sumA (A0 J) c)) (cutU u (sumA (A0 J) (peer (hU u) 1 c))) (cut3 u (J c).x)
  else res1 (J c).m2 (cutU u (sumA (A0 J) c)) (cutU u (sumA (A0 J) (peer (hU u) 1 c))) (cut3 u (J c).x)
/-- and the whole of it, each chunk by the device that finishes it. -/
def G1 : S1024x768.Idx → Elt F .bf16 := fun i => g1U J (ownU (uOf i)) (uOf i) (locU i)

/-- What device `c`'s accumulator holds of the MLP: the half it sends computed whole, the half it keeps by quarters. -/
def A1 (c : Dev nD) : S1024x768.Idx → Elt F .bf16 := fun i =>
  if tOf i = sendT (hT (tOf i)) c then (J c).mlpT (tOf i) (cutT (tOf i) (G1 J)) (locT i)
  else (J c).mlpU (uOf i) (cutU (uOf i) (G1 J)) (locU i)
def g2U (c : Dev nD) (u : Fin 8) : FVec F S128x768 .bf16 :=
  if hU u = 0 then fin0 (J c).m5 (cutU u (sumA (A1 J) c)) (cutU u (sumA (A1 J) (peer (hU u) 1 c))) (cutU u (G1 J))
  else fin1 (J c).m5 (cutU u (sumA (A1 J) c)) (cutU u (sumA (A1 J) (peer (hU u) 1 c))) (cutU u (G1 J))
def G2 : S1024x768.Idx → Elt F .bf16 := fun i => g2U J (ownU (uOf i)) (uOf i) (locU i)

/-- What device `c` stores as its result. -/
def OUT (c : Dev nD) : S2x512x768.Idx → Elt F .f32 := fun i =>
  if t3 i = sendT (hT (t3 i)) c then k0_pay75 (cutT (t3 i) (G2 J)) (loc3T i) else k0_pay71 (cutU (u3 i) (G2 J)) (loc3U i)

/-- The accumulator by half of the kernel (0: attention, 1: MLP), before and after the first exchange, and the gathered buffer. -/
def AA (b : Fin 2) : Dev nD → S1024x768.Idx → Elt F .bf16 := if b = 0 then A0 J else A1 J
def BB (b : Fin 2) : Dev nD → S1024x768.Idx → Elt F .bf16 := sumA (AA J b)
def GG (b : Fin 2) : S1024x768.Idx → Elt F .bf16 := if b = 0 then G1 J else G2 J

end Global

/-! ## The other spellings of the same chunk computations -/

section Spell
variable (J : In F)

theorem att0_keep (qc : Vec F S256x384 .bf16) :
    k0_pay31 J.wob (k0_pay25 J.kk J.vv qc) (k0_pay28 (k0_pay26 J.vv) (k0_pay27 J.kk qc) (Scalar.ofBits .f32 0x3DD105EC#32))
      (k0_pay29 J.kk J.vv qc) (k0_pay30 J.kk J.vv qc) = J.att0 qc := rfl
theorem att1_keep (qc : Vec F S256x384 .bf16) :
    k0_pay36 J.wob J.kk J.vv qc (k0_pay32 J.kk J.vv qc) (k0_pay34 J.kk qc) (k0_pay35 J.kk J.vv qc) = J.att1 qc := rfl
theorem mlpU1_mine (g : Vec F S128x768 .bf16) :
    k0_pay52 J.m3 J.m4 J.w1b J.w2b (k0_pay50 g) (k0_pay51 g) = J.mlpU1 g := rfl
theorem mlpU0_mine (g : Vec F S128x768 .bf16) :
    k0_pay47 J.m4 J.w1b J.w2b (k0_pay45 g) (k0_pay46 J.m3) (Scalar.ofBits .f32 0x3F800000#32) = J.mlpU0 g := rfl
theorem sumT_spell : (k0_pay38 (F := F)) = k0_pay37 ∧ (k0_pay66 (F := F)) = k0_pay37 ∧ (k0_pay67 (F := F)) = k0_pay37 :=
  ⟨rfl, rfl, rfl⟩
theorem out_spell : (k0_pay72 (F := F)) = k0_pay71 ∧ (k0_pay73 (F := F)) = k0_pay71 ∧ (k0_pay74 (F := F)) = k0_pay71
    ∧ (k0_pay76 (F := F)) = k0_pay75 := ⟨rfl, rfl, rfl, rfl⟩

end Spell

end Cert.KernelProof
-- ==== Proof.Sched.lean ====
/-
# The exchanges as a schedule of signals, transfers and waits

The sixteen transfers of a device are numbered in the order it issues them: `p = 8 b + 2 j + h` is transfer `j` of batch
`h` in half `b` of the kernel (attention, MLP). Transfer 0 sends the half of the accumulator the device does not keep, 1 the
quarter it does not finish, 2 the quarter it has finished, 3 the half it has gathered. Each transfer has its own send
and receive semaphore. The landing places of a device are handed to its partners by its two barrier signals; those
of transfers 0 and 1 come back for the second half along with transfers 3 and 2 of the first.
-/
module

public import proofs.«01_k».proof.Proof.Contents

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Numbering -/

def bP (p : Fin 16) : Fin 2 := ⟨p.val / 8, by omega⟩
def jP (p : Fin 16) : Fin 4 := ⟨p.val / 2 % 4, by omega⟩
def hP (p : Fin 16) : Fin 2 := ⟨p.val % 2, by omega⟩
def pos (b h : Fin 2) (j : Fin 4) : Fin 16 := ⟨8 * b.val + 2 * j.val + h.val, by omega⟩
theorem bP_pos (b h j) : bP (pos b h j) = b := by revert b h j; decide
theorem jP_pos (b h j) : jP (pos b h j) = j := by revert b h j; decide
theorem hP_pos (b h j) : hP (pos b h j) = h := by revert b h j; decide
/-- The level a transfer's partner is at. -/
def lvl (j : Fin 4) : Fin 2 := if j = 0 ∨ j = 3 then 0 else 1
/-- The partner transfer `p` goes to (and comes from). -/
def tgt (p : Fin 16) (c : Dev nD) : Dev nD := peer (hP p) (lvl (jP p)) c
theorem tgt_tgt (p : Fin 16) (c : Dev nD) : tgt p (tgt p c) = c := peer_peer _ _ _

/-- A transfer's place in the kernel's 4×4 arrays of semaphores, -/
def sq (p : Fin 16) : DmaSem sig := ⟨10 + (4 * (2 * (bP p).val + (hP p).val) + (jP p).val), by
  show _ < 42; have := (bP p).isLt; have := (hP p).isLt; have := (jP p).isLt; omega⟩
def rq (p : Fin 16) : DmaSem sig := ⟨26 + (4 * (2 * (bP p).val + (hP p).val) + (jP p).val), by
  show _ < 42; have := (bP p).isLt; have := (hP p).isLt; have := (jP p).isLt; omega⟩
/-- and back. -/
def posOf (q : DmaSem sig) : Fin 16 :=
  pos ⟨(q.val + 6) % 16 / 8, by omega⟩ ⟨(q.val + 6) % 16 / 4 % 2, by omega⟩ ⟨(q.val + 6) % 16 % 4, by omega⟩
theorem posOf_sq (p : Fin 16) : posOf (sq p) = p := by revert p; decide
theorem posOf_rq (p : Fin 16) : posOf (rq p) = p := by revert p; decide
theorem sq_lt (p : Fin 16) : (sq p).val < 26 := by revert p; decide
theorem sq_ge (p : Fin 16) : 10 ≤ (sq p).val := by revert p; decide
theorem rq_ge (p : Fin 16) : 26 ≤ (rq p).val := by revert p; decide

/-! ## The buffers and the cells -/

abbrev accM : Memref sig .tc .vmem S1024x768 .bf16 := Memref.whole cc0_scratch0
abbrev g1M : Memref sig .tc .vmem S1024x768 .bf16 := Memref.whole cc0_scratch1
abbrev g2M : Memref sig .tc .vmem S1024x768 .bf16 := Memref.whole cc0_scratch2
abbrev rbM : Memref sig .tc .vmem S2x256x768 .bf16 := Memref.whole cc0_scratch3
abbrev rsM : Memref sig .tc .vmem S2x128x768 .bf16 := Memref.whole cc0_scratch4
abbrev qM : Memref sig .tc .vmem S1024x384 .bf16 := Memref.whole cc0_scratch5
/-- The gathered buffer of half `b`. -/
abbrev gM (b : Fin 2) : Memref sig .tc .vmem S1024x768 .bf16 := if b = 0 then g1M else g2M

theorem big_inb (h : Fin 2) : ∀ a, (![h.val, 0, 0] : Fin 3 → Nat) a + S1x256x768.size a ≤ S2x256x768.size a := by revert h; decide
theorem small_inb (h : Fin 2) : ∀ a, (![h.val, 0, 0] : Fin 3 → Nat) a + S1x128x768.size a ≤ S2x128x768.size a := by revert h; decide
abbrev bigR (h : Fin 2) : Rect S2x256x768 := Rect.unit (s := S2x256x768) ![h.val, 0, 0] S1x256x768.size (big_inb h)
abbrev smallR (h : Fin 2) : Rect S2x128x768 := Rect.unit (s := S2x128x768) ![h.val, 0, 0] S1x128x768.size (small_inb h)
/-- Batch `h`'s landing places. -/
abbrev bigM (h : Fin 2) : Memref sig .tc .vmem S1x256x768 .bf16 := rbM.slice (bigR h) (fun _ => rfl)
abbrev smallM (h : Fin 2) : Memref sig .tc .vmem S1x128x768 .bf16 := rsM.slice (smallR h) (fun _ => rfl)

abbrev barS : Sem sig := (SemArray.scalar (sig.barrier 0 rfl) : Sems sig S_).sem
abbrev barCell (c : Dev nD) : GSem nD τ sig := ((c : Thread nD τ), .reg barS)
abbrev sendCell (c : Dev nD) (p : Fin 16) : GSem nD τ sig := ((c : Thread nD τ), .dma (sq p))
abbrev recvCell (c : Dev nD) (p : Fin 16) : GSem nD τ sig := ((c : Thread nD τ), .dma (rq p))

/-- The kernel's own semaphores, -/
abbrev osem : Bool × Fin 16 → SemLoc sig := fun k => .dma (if k.1 then rq k.2 else sq k.2)
/-- and with the barrier. -/
abbrev CK : Type := Option (Bool × Fin 16)
abbrev csem : CK → SemLoc sig := fun | none => .reg barS | some k => osem k
abbrev kcell (ck : Dev nD × CK) : GSem nD τ sig := ((ck.1 : Thread nD τ), csem ck.2)

/-- What a transfer credits: the count of a block of 256 rows, or of 128. -/
abbrev nT : ℕ := (cc0_scratch0 : Ref sig .tc).dmaCredit S256x768 .bf16
abbrev nU : ℕ := (cc0_scratch0 : Ref sig .tc).dmaCredit S128x768 .bf16
def amt (p : Fin 16) : ℕ := if jP p = 0 ∨ jP p = 3 then nT else nU
theorem amt_pos (p : Fin 16) : 0 < amt p := by
  unfold amt; split
  · exact View.dmaCredit_pos (View.whole cc0_scratch0 |>.slice (Rect.unit (s := S1024x768) ![0, 0] S256x768.size (by decide))) (by decide)
  · exact View.dmaCredit_pos (View.whole cc0_scratch0 |>.slice (Rect.unit (s := S1024x768) ![0, 0] S128x768.size (by decide))) (by decide)

theorem rb_credit : (cc0_scratch3 : Ref sig .tc).dmaCredit S256x768 .bf16 = nT := rfl
theorem g_credit : (cc0_scratch1 : Ref sig .tc).dmaCredit S256x768 .bf16 = nT := rfl
theorem rs_credit : (cc0_scratch4 : Ref sig .tc).dmaCredit S128x768 .bf16 = nU := rfl

/-! ## What changes hands -/

/-- Elements at whatever contents. -/
def Any {s : Shape} {e : EltTy} (c : Dev nD) (m : Memref sig .tc .vmem s e) (M : Finset s.Idx) : sProp 𝕄 :=
  iprop(∃ X, Own c m fullShare M X)

omit [FloatOps F] in
instance any_storable {s : Shape} {e : EltTy} (c : Dev nD) (m : Memref sig .tc .vmem s e) (M : Finset s.Idx) :
    BI.Storable (upEmb : UEmb _ 𝕄) (Any (F := F) c m M) := by unfold Any; infer_instance

section Pay
variable (J : Dev nD → In F)

/-- The landing place of device `c`'s transfer `j` of batch `h` in half `b`, on the partner. -/
def zone (b h : Fin 2) (j : Fin 4) (c : Dev nD) : sProp 𝕄 :=
  match j with
  | 0 => Any (peer h 0 c) (bigM h) Finset.univ
  | 1 => Any (peer h 1 c) (smallM h) Finset.univ
  | 2 => Any (peer h 1 c) (gM b) (band {mineU h c})
  | 3 => Any (peer h 0 c) (gM b) (band (two (keepT h c)))

/-- What the partner of batch `h`'s first level gives device `c` at the barrier: every landing place on it but those of the
    second half's transfers 0 and 1. -/
def barPay (c : Dev nD) (h : Fin 2) : sProp 𝕄 :=
  iprop(zone 0 h 0 c ∗ zone 0 h 3 c ∗ zone 1 h 3 c ∗ zone 0 (1 - h) 1 c ∗ zone 0 (1 - h) 2 c ∗ zone 1 (1 - h) 2 c)

/-- What comes back to the sender when its transfer has been read: the rows sent (half a share of those it reads meanwhile). -/
def sendPay (b h : Fin 2) (j : Fin 4) (c : Dev nD) : sProp 𝕄 :=
  match j with
  | 0 => Own c accM fullShare (band (two (sendT h c))) (AA J b c)
  | 1 => Own c accM fullShare (band {st2U h c}) (BB J b c)
  | 2 => Own c (gM b) fullShare.left (band {mineU h c}) (GG J b)
  | 3 => Own c (gM b) fullShare.left (band (two (keepT h c))) (GG J b)

/-- What a transfer brings its receiver `c`: the landing place with the sender's rows, and in the first half, with
    transfers 2 and 3, the sender's own landing place for the second half. -/
def recvPay (b h : Fin 2) (j : Fin 4) (c : Dev nD) : sProp 𝕄 :=
  match j with
  | 0 => Own c (bigM h) fullShare Finset.univ (liftT (cutT (keepT h c) (AA J b (peer h 0 c))))
  | 1 => Own c (smallM h) fullShare Finset.univ (liftU (cutU (mineU h c) (BB J b (peer h 1 c))))
  | 2 => iprop(Own c (gM b) fullShare (band {st2U h c}) (GG J b) ∗ (if b = 0 then zone 1 h 1 c else iprop(emp)))
  | 3 => iprop(Own c (gM b) fullShare (band (two (sendT h c))) (GG J b) ∗ (if b = 0 then zone 1 h 0 c else iprop(emp)))

omit [FloatOps F] in
instance zone_storable (b h : Fin 2) (j : Fin 4) (c : Dev nD) : BI.Storable (upEmb : UEmb _ 𝕄) (zone (F := F) b h j c) := by
  unfold zone; split <;> infer_instance
instance sendPay_storable (b h : Fin 2) (j : Fin 4) (c : Dev nD) : BI.Storable (upEmb : UEmb _ 𝕄) (sendPay J b h j c) := by
  unfold sendPay; split <;> infer_instance
instance recvPay_storable (b h : Fin 2) (j : Fin 4) (c : Dev nD) : BI.Storable (upEmb : UEmb _ 𝕄) (recvPay J b h j c) := by
  unfold recvPay; split <;> first | infer_instance | (split <;> infer_instance)
omit [FloatOps F] in
instance barPay_storable (c : Dev nD) (h : Fin 2) : BI.Storable (upEmb : UEmb _ 𝕄) (barPay (F := F) c h) := by
  unfold barPay; infer_instance

/-! ## The schedule -/

abbrev IsBar (g : GSem nD τ sig) : Prop := g.1.2 = .tc ∧ g.2 = .reg barS
/-- A DMA semaphore past the ten of the staged blocks. -/
def isX : SemLoc sig → Bool | .dma q => decide (10 ≤ q.val) | .reg _ => false
abbrev IsXfer (g : GSem nD τ sig) : Prop := g.1.2 = .tc ∧ isX g.2 = true

/-- One round: a barrier cell has a duty for each partner, of one unit; a send or receive cell one, of the transfer's
    count. -/
def sched : Rounds.Schedule (GSem nD τ sig) Bool 𝕄 where
  duties g r := if r = 0 ∧ IsBar g then Finset.univ else if r = 0 ∧ IsXfer g then {false} else ∅
  unitless _ := False
  amount g _ _ := match g.2 with | .reg _ => 1 | .dma q => amt (posOf q)
  payload g _ d := match g.2 with
    | .reg _ => barPay g.1.1 (if d then 1 else 0)
    | .dma q => if q.val < 26 then sendPay J (bP (posOf q)) (hP (posOf q)) (jP (posOf q)) g.1.1
        else recvPay J (bP (posOf q)) (hP (posOf q)) (jP (posOf q)) g.1.1
  amount_pos g _ _ _ := by
    split
    · exact Nat.one_pos
    · exact amt_pos _

instance sched_payload_storable (g : GSem nD τ sig) (r : ℕ) (d : Bool) :
    BI.Storable (upEmb : UEmb _ 𝕄) ((sched J).payload g r d) := by
  unfold sched
  dsimp only
  split
  · infer_instance
  · split <;> infer_instance

section Facts
variable (c : Dev nD) (p : Fin 16)

theorem isX_sq : isX (.dma (sq p)) = true := decide_eq_true (sq_ge p)
theorem isX_rq : isX (.dma (rq p)) = true := decide_eq_true (Nat.le_trans (by decide) (rq_ge p))

theorem duties_bar : (sched J).duties (barCell c) 0 = Finset.univ := by dsimp only [sched]; exact if_pos ⟨rfl, rfl, rfl⟩
theorem duties_send : (sched J).duties (sendCell c p) 0 = {false} := by
  dsimp only [sched]; rw [if_neg (fun h => by cases h.2.2)]; exact if_pos ⟨rfl, rfl, isX_sq p⟩
theorem duties_recv : (sched J).duties (recvCell c p) 0 = {false} := by
  dsimp only [sched]; rw [if_neg (fun h => by cases h.2.2)]; exact if_pos ⟨rfl, rfl, isX_rq p⟩
theorem duties_later (g : GSem nD τ sig) : ∀ r, 1 ≤ r → (sched J).duties g r = ∅ :=
  fun r hr => by dsimp only [sched]; rw [if_neg fun h => by omega, if_neg fun h => by omega]

theorem amount_bar (d : Bool) : (sched J).amount (barCell c) 0 d = 1 := rfl
theorem amount_send (d : Bool) : (sched J).amount (sendCell c p) 0 d = amt p := by
  show amt (posOf (sq p)) = _; rw [posOf_sq]
theorem amount_recv (d : Bool) : (sched J).amount (recvCell c p) 0 d = amt p := by
  show amt (posOf (rq p)) = _; rw [posOf_rq]

theorem expect_bar : (sched J).expect (barCell c) 0 = 2 := by
  unfold Schedule.expect Schedule.amountOf
  rw [duties_bar, Finset.sum_congr rfl fun d _ => amount_bar J c d, Finset.sum_const, Finset.card_univ, Fintype.card_bool, smul_eq_mul]
theorem expect_send : (sched J).expect (sendCell c p) 0 = amt p := by
  unfold Schedule.expect Schedule.amountOf; rw [duties_send, Finset.sum_singleton, amount_send]
theorem expect_recv : (sched J).expect (recvCell c p) 0 = amt p := by
  unfold Schedule.expect Schedule.amountOf; rw [duties_recv, Finset.sum_singleton, amount_recv]

theorem payload_bar (d : Bool) : (sched J).payload (barCell c) 0 d = barPay c (if d then 1 else 0) := rfl
theorem payload_send (d : Bool) : (sched J).payload (sendCell c p) 0 d = sendPay J (bP p) (hP p) (jP p) c := by
  show (if (sq p).val < 26 then sendPay J (bP (posOf (sq p))) (hP (posOf (sq p))) (jP (posOf (sq p))) c else _) = _
  rw [if_pos (sq_lt p), posOf_sq]
theorem payload_recv (d : Bool) : (sched J).payload (recvCell c p) 0 d = recvPay J (bP p) (hP p) (jP p) c := by
  show (if (rq p).val < 26 then _ else recvPay J (bP (posOf (rq p))) (hP (posOf (rq p))) (jP (posOf (rq p))) c) = _
  rw [if_neg (Nat.not_lt.mpr (rq_ge p)), posOf_rq]

theorem rest_bar : bigSep ((sched J).duties (barCell c) 0 \ ∅) (fun d => (sched J).payload (barCell c) 0 d)
    = iprop(barPay c 0 ∗ barPay c 1) := by
  rw [Finset.sdiff_empty, duties_bar, bigSep_univ_eq_bigSepL [false, true] (by decide) (by decide), bigSepL_cons_cons, bigSepL_singleton]
  rfl
theorem rest_send : bigSep ((sched J).duties (sendCell c p) 0 \ ∅) (fun d => (sched J).payload (sendCell c p) 0 d)
    = sendPay J (bP p) (hP p) (jP p) c := by
  rw [Finset.sdiff_empty, duties_send, bigSep_singleton, payload_send]
theorem rest_recv : bigSep ((sched J).duties (recvCell c p) 0 \ ∅) (fun d => (sched J).payload (recvCell c p) 0 d)
    = recvPay J (bP p) (hP p) (jP p) c := by
  rw [Finset.sdiff_empty, duties_recv, bigSep_singleton, payload_recv]

end Facts
end Pay

/-! ## What is owed, and the levels -/

/-- The transfers from number `a` on, and those before it. -/
def since (a : ℕ) : Finset (Fin 16) := Finset.univ.filter fun p => a ≤ p.val
def before (a : ℕ) : Finset (Fin 16) := Finset.univ.filter fun p => p.val < a
theorem since_zero : since 0 = Finset.univ := by decide
theorem since_end : since 16 = ∅ := by decide
theorem before_zero : before 0 = ∅ := by decide
theorem before_end : before 16 = Finset.univ := by decide
theorem since_eq (p : Fin 16) : since p.val = insert p (since (p.val + 1)) := by revert p; decide
theorem notMem_since (p : Fin 16) : p ∉ since (p.val + 1) := by revert p; decide
theorem before_eq (p : Fin 16) : before (p.val + 1) = insert p (before p.val) := by revert p; decide
theorem notMem_before (p : Fin 16) : p ∉ before p.val := by revert p; decide

/-- Device `c` still owes the credits of the transfers from `a` on. -/
def due (c : Dev nD) (a : ℕ) : CellTallies nD τ sig Unit := ∑ p ∈ since a, tallyAt (recvCell (tgt p c) p) () (amt p)
theorem due_step (c : Dev nD) (p : Fin 16) : due c p.val = due c (p.val + 1) + tallyAt (recvCell (tgt p c) p) () (amt p) := by
  unfold due; rw [since_eq, Finset.sum_insert (notMem_since p), add_comm]
theorem due_end (c : Dev nD) : due c 16 = 0 := by unfold due; rw [since_end, Finset.sum_empty]

/-- At launch also a unit to each partner's barrier, the signal to `pA` coming first. -/
def O₁ (c : Dev nD) : CellTallies nD τ sig Unit := due c 0 + tallyAt (barCell (pB c)) () 1
def O₀ (c : Dev nD) : CellTallies nD τ sig Unit := O₁ c + tallyAt (barCell (pA c)) () 1

theorem due_pos {c : Dev nD} {a : ℕ} {g : GSem nD τ sig} {u : Unit} (h : 0 < due c a g u) : ∃ p : Fin 16, a ≤ p.val ∧ g = recvCell (tgt p c) p := by
  unfold due at h
  rw [Finset.sum_apply, Finsupp.finset_sum_apply] at h
  obtain ⟨p, hp, hne⟩ := Finset.exists_ne_zero_of_sum_ne_zero h.ne'
  refine ⟨p, (Finset.mem_filter.mp hp).2, ?_⟩
  by_contra hg
  rw [tallyAt_apply, if_neg (fun h' => hg h'.1)] at hne
  exact hne rfl

def L (g : GSem nD τ sig) : Finset Unit := if g.1.2 = .tc then {()} else ∅
/-- The barrier at 1, the receive cells above it in the order of the transfers, two by two; everything else at 0. -/
def lvS : SemLoc sig → ℕ | .reg _ => 1 | .dma q => if q.val < 26 then 0 else 2 + (posOf q).val / 2
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_rq (p : Fin 16) : lvS (.dma (rq p)) = 2 + p.val / 2 := by
  show (if (rq p).val < 26 then 0 else 2 + (posOf (rq p)).val / 2) = _
  rw [if_neg (Nat.not_lt.mpr (rq_ge p)), posOf_rq]
theorem lvS_sq (p : Fin 16) : lvS (.dma (sq p)) = 0 := if_pos (sq_lt p)

/-- A device that owes the credits from `a` on may wait on any cell below them all. -/
theorem mayWait_due (c : Dev nD) (sm : SemLoc sig) (a : ℕ) (h : ∀ p : Fin 16, a ≤ p.val → lvS sm < 2 + p.val / 2) :
    (levAts L lv : sProp 𝕄) ⊢ MayWait (c : Thread nD τ) sm () (due c a) :=
  MayOwe.of_cut (L := L) (lev := lv) (lvS sm) (fun p hp => by rw [Finset.mem_singleton.mp hp, L_tc]; exact Finset.mem_singleton_self _)
    (fun g u hg => by obtain ⟨p, _, rfl⟩ := due_pos hg; exact Finset.mem_singleton_self _)
    (fun p hp => by rw [Finset.mem_singleton.mp hp]; exact Nat.le_refl _)
    (fun g u hg => by
      obtain ⟨p, hp, rfl⟩ := due_pos hg
      show lvS sm < lvS (.dma (rq p)); rw [lvS_rq]; exact h p hp)

theorem O₀_pos {c : Dev nD} {g : GSem nD τ sig} {u : Unit} (h : 0 < O₀ c g u) :
    (∃ p : Fin 16, g = recvCell (tgt p c) p) ∨ g = barCell (pB c) ∨ g = barCell (pA c) := by
  unfold O₀ O₁ at h
  rw [Pi.add_apply, Finsupp.add_apply, Pi.add_apply, Finsupp.add_apply, tallyAt_apply, tallyAt_apply] at h
  by_contra hn
  rw [not_or, not_or] at hn
  rw [if_neg (c := g = barCell (pB c) ∧ _) (fun h' => hn.2.1 h'.1), if_neg (c := g = barCell (pA c) ∧ _) (fun h' => hn.2.2 h'.1)] at h
  simp only [Nat.add_zero] at h
  obtain ⟨p, _, hp⟩ := due_pos h
  exact hn.1 ⟨p, hp⟩

/-- The waits of the staging of blocks, below everything a device owes at launch or (nothing) at the end. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | rfl | rfl <;> exact Finset.mem_singleton_self _)
      (fun p hp => by
        rw [Finset.mem_singleton.mp hp]; show lvS (.dma q) ≤ 0
        rw [show lvS (.dma q) = 0 from if_pos (Nat.lt_of_lt_of_le hq (by decide))])
      (fun g u hg => by
        rcases O₀_pos hg with ⟨p, rfl⟩ | rfl | rfl
        · show 0 < lvS (.dma (rq p)); rw [lvS_rq]; omega
        · exact Nat.one_pos
        · exact Nat.one_pos)
  · rw [MayWait_zero]; iintro -; iempintro

end Cert.KernelProof
-- ==== Proof.Cuts.lean ====
/-
# Loads and stores of chunks, and the contents chunk by chunk

The loads and stores of the kernel, each of one chunk of rows at the chunk's offset; and what each named contents
(`A0`, `sumA`, `G1`, …) is on one chunk.
-/
module

public import proofs.«01_k».proof.Proof.Sched

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunk by chunk -/

section Funs
variable {α : Type}

theorem tOf_at (t : Fin 4) (y : S256x768.Idx) (h : 256 * t.val + (y 0).val < 1024) :
    tOf (ix2 (⟨256 * t.val + (y 0).val, h⟩ : Fin 1024) (y 1 : Fin 768)) = t := by
  have h0 := idx2_lt0 y
  apply Fin.ext; show (256 * t.val + (y 0).val) / 256 = t.val; omega
theorem locT_at (t : Fin 4) (y : S256x768.Idx) (h : 256 * t.val + (y 0).val < 1024) :
    locT (ix2 (⟨256 * t.val + (y 0).val, h⟩ : Fin 1024) (y 1 : Fin 768)) = y := by
  have h0 := idx2_lt0 y
  funext a; apply Fin.ext
  match a with
  | ⟨0, _⟩ => show (256 * t.val + (y 0).val) % 256 = (y 0).val; omega
  | ⟨1, _⟩ => rfl
theorem uOf_at (u : Fin 8) (y : S128x768.Idx) (h : 128 * u.val + (y 0).val < 1024) :
    uOf (ix2 (⟨128 * u.val + (y 0).val, h⟩ : Fin 1024) (y 1 : Fin 768)) = u := by
  have h0 := idx2_lt0 y
  apply Fin.ext; show (128 * u.val + (y 0).val) / 128 = u.val; omega
theorem locU_at (u : Fin 8) (y : S128x768.Idx) (h : 128 * u.val + (y 0).val < 1024) :
    locU (ix2 (⟨128 * u.val + (y 0).val, h⟩ : Fin 1024) (y 1 : Fin 768)) = y := by
  have h0 := idx2_lt0 y
  funext a; apply Fin.ext
  match a with
  | ⟨0, _⟩ => show (128 * u.val + (y 0).val) % 128 = (y 0).val; omega
  | ⟨1, _⟩ => rfl

/-- A chunk of contents given chunk by chunk. -/
theorem cutT_fun (t : Fin 4) (f : Fin 4 → S256x768.Idx → α) : cutT t (fun i => f (tOf i) (locT i)) = f t := by
  funext y; exact congrArg₂ f (tOf_at t y _) (locT_at t y _)
theorem cutU_fun (u : Fin 8) (f : Fin 8 → S128x768.Idx → α) : cutU u (fun i => f (uOf i) (locU i)) = f u := by
  funext y; exact congrArg₂ f (uOf_at u y _) (locU_at u y _)
end Funs

section Named
variable (J : Dev nD → In F) (c : Dev nD)

theorem cutT_A0 (t : Fin 4) : cutT t (A0 J c) = (J c).att t := cutT_fun t fun t => (J c).att t
theorem cutT_sumA (A : Dev nD → S1024x768.Idx → Elt F .bf16) (t : Fin 4) :
    cutT t (sumA A c) = sumT (cutT t (A c)) (cutT t (A (peer (hT t) 0 c))) :=
  cutT_fun t fun t => sumT (cutT t (A c)) (cutT t (A (peer (hT t) 0 c)))
theorem cutU_G1 (u : Fin 8) : cutU u (G1 J) = g1U J (ownU u) u := cutU_fun u fun u => g1U J (ownU u) u
theorem cutU_G2 (u : Fin 8) : cutU u (G2 J) = g2U J (ownU u) u := cutU_fun u fun u => g2U J (ownU u) u
theorem cutT_A1 (h : Fin 2) : cutT (sendT h c) (A1 J c) = (J c).mlpT (sendT h c) (cutT (sendT h c) (G1 J)) := by
  funext y
  show (if tOf _ = sendT (hT (tOf _)) c then (J c).mlpT (tOf _) (cutT (tOf _) (G1 J)) (locT _) else _) = _
  rw [tOf_at, locT_at, hT_send, if_pos rfl]
theorem cutU_A1 (h : Fin 2) (u : Fin 8) (hu : u.val / 2 = (keepT h c).val) :
    cutU u (A1 J c) = (J c).mlpU u (cutU u (G1 J)) := by
  funext y
  have ht : ∀ i : S1024x768.Idx, uOf i = u → tOf i ≠ sendT (hT (tOf i)) c := by
    intro i hi
    have e : tOf i = keepT h c := Fin.ext (by rw [tOf_uOf, hi, hu])
    rw [e, hT_keep]
    clear e hi hu i
    revert h c; decide
  show (if tOf _ = sendT (hT (tOf _)) c then _ else (J c).mlpU (uOf _) (cutU (uOf _) (G1 J)) (locU _)) = _
  rw [if_neg (ht _ (uOf_at u y _)), uOf_at, locU_at]

end Named

/-! ## Loads and stores -/

section Rules
variable {e : EltTy} {c : Dev nD} {α : Type} {q : PosShare TreeShare}

/-- A load of everything. -/
theorem wp_load_all {cs : CoreSpace} {s : Shape} {m : Memref sig .tc cs s e} {X : s.Idx → Elt F e} {off : Fin s.rank → Nat} {inb} {hl}
    {Q : α → sProp 𝕄} {k} (hoff : ∀ a, off a = 0) :
    (Own c m q Finset.univ X : sProp 𝕄)
      ⊢ iprop((Own c m q Finset.univ X -∗ wp frame (wpE (defs₀ (F := F)) 𝒱₀ (c : Thread nD τ) none) Set.univ (k X) Q)
        -∗ wp frame (wpE (defs₀ (F := F)) 𝒱₀ (c : Thread nD τ) none) Set.univ
          (.op (.load m (Rect.unit (s := s) off s.size inb).toLoadRect hl) k) Q) := by
  have hv : (fun y => X ((Rect.unit (s := s) off s.size inb).emb y)) = X := by
    funext y; congr 1; funext a; apply Fin.ext
    simp [Rect.emb_apply, hoff a]
  iintro H Hk
  iapply (wp_own_load (r := Rect.unit (s := s) off s.size inb) (Finset.subset_univ _)) $$ H
  iintro H
  rw [hv]
  iapply Hk; iexact H

section Wide
variable {m : Memref sig .tc .vmem S1024x768 e} {M : Finset S1024x768.Idx} {X : S1024x768.Idx → Elt F e} {off : Fin 2 → Nat}

theorem wp_loadT {inb} {hl} {Q : α → sProp 𝕄} {k} (t : Fin 4) (hoff : off = ![256 * t.val, 0]) (hM : band (two t) ⊆ M) :
    (Own c m q M X : sProp 𝕄)
      ⊢ iprop((Own c m q M X -∗ wp frame (wpE (defs₀ (F := F)) 𝒱₀ (c : Thread nD τ) none) Set.univ (k (cutT t X)) Q)
        -∗ wp frame (wpE (defs₀ (F := F)) 𝒱₀ (c : Thread nD τ) none) Set.univ
          (.op (.load m (Rect.unit (s := S1024x768) off S256x768.size inb).toLoadRect hl) k) Q) := by
  iintro H Hk
  iapply (wp_own_load (r := Rect.unit (s := S1024x768) off S256x768.size inb) (by rw [set_T t off inb hoff]; exact hM)) $$ H
  iintro H
  rw [cutT_rect t X off inb hoff]
  iapply Hk; iexact H

theorem wp_loadU {inb} {hl} {Q : α → sProp 𝕄} {k} (u : Fin 8) (hoff : off = ![128 * u.val, 0]) (hM : band {u} ⊆ M) :
    (Own c m q M X : sProp 𝕄)
      ⊢ iprop((Own c m q M X -∗ wp frame (wpE (defs₀ (F := F)) 𝒱₀ (c : Thread nD τ) none) Set.univ (k (cutU u X)) Q)
        -∗ wp frame (wpE (defs₀ (F := F)) 𝒱₀ (c : Thread nD τ) none) Set.univ
          (.op (.load m (Rect.unit (s := S1024x768) off S128x768.size inb).toLoadRect hl) k) Q) := by
  iintro H Hk
  iapply (wp_own_load (r := Rect.unit (s := S1024x768) off S128x768.size inb) (by rw [set_U u off inb hoff]; exact hM)) $$ H
  iintro H
  rw [cutU_rect u X off inb hoff]
  iapply Hk; iexact H

theorem wp_storeT {inb} {w : S256x768.Idx → Elt F e} {hx hm} {Q : α → sProp 𝕄} {k} (t : Fin 4) (Y : S1024x768.Idx → Elt F e)
    (hoff : off = ![256 * t.val, 0]) (hw : cutT t Y = w) :
    (Own c m fullShare (band (two t)) X : sProp 𝕄)
      ⊢ iprop((Own c m fullShare (band (two t)) Y -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := S1024x768) off S256x768.size inb) w Finset.univ hx hm) k) Q) :=
  wp_own_store Y (by rw [set_T t off inb hoff]) (fun y => by rw [← hw, ← cutT_rect t Y off inb hoff])
    (fun i hi hn => absurd (by rw [set_T t off inb hoff]; exact hi) hn)

theorem wp_storeU {inb} {w : S128x768.Idx → Elt F e} {hx hm} {Q : α → sProp 𝕄} {k} (u : Fin 8) (Y : S1024x768.Idx → Elt F e)
    (hoff : off = ![128 * u.val, 0]) (hw : cutU u Y = w) :
    (Own c m fullShare (band {u}) X : sProp 𝕄)
      ⊢ iprop((Own c m fullShare (band {u}) Y -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := S1024x768) off S128x768.size inb) w Finset.univ hx hm) k) Q) :=
  wp_own_store Y (by rw [set_U u off inb hoff]) (fun y => by rw [← hw, ← cutU_rect u Y off inb hoff])
    (fun i hi hn => absurd (by rw [set_U u off inb hoff]; exact hi) hn)

end Wide

theorem wp_loadQ {m : Memref sig .tc .vmem S1024x384 e} {X : S1024x384.Idx → Elt F e} {off : Fin 2 → Nat} {inb} {hl} {Q : α → sProp 𝕄} {k}
    (t : Fin 4) (hoff : off = ![256 * t.val, 0]) :
    (Own c m q Finset.univ X : sProp 𝕄)
      ⊢ iprop((Own c m q Finset.univ X -∗ wp frame (wpE (defs₀ (F := F)) 𝒱₀ (c : Thread nD τ) none) Set.univ (k (cutQ t X)) Q)
        -∗ wp frame (wpE (defs₀ (F := F)) 𝒱₀ (c : Thread nD τ) none) Set.univ
          (.op (.load m (Rect.unit (s := S1024x384) off S256x384.size inb).toLoadRect hl) k) Q) := by
  iintro H Hk
  iapply (wp_own_load (r := Rect.unit (s := S1024x384) off S256x384.size inb) (Finset.subset_univ _)) $$ H
  iintro H
  rw [cutQ_rect t X off inb hoff]
  iapply Hk; iexact H

theorem wp_store_all {cs : CoreSpace} {s : Shape} {m : Memref sig .tc cs s e} {X : s.Idx → Elt F e} {off : Fin s.rank → Nat} {inb} {w : s.Idx → Elt F e}
    {hx hm} {Q : α → sProp 𝕄} {k} (hoff : ∀ a, off a = 0) :
    (Own c m fullShare Finset.univ X : sProp 𝕄)
      ⊢ iprop((Own c m fullShare Finset.univ w -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := s) off s.size inb) w Finset.univ hx hm) k) Q) := by
  have hv : ∀ y : s.Idx, ((Rect.unit (s := s) off s.size inb).emb y) = y := by
    intro y; funext a; apply Fin.ext
    simp [Rect.emb_apply, hoff a]
  exact wp_own_store w (Finset.subset_univ _) (fun y => congrArg w (hv y).symm)
    (fun i _ hn => absurd (by rw [← Rect.map_emb_univ]; exact Finset.mem_map.mpr ⟨i, Finset.mem_univ _, hv i⟩) hn)

section Out
variable {m : Memref sig .tc .vmem S2x512x768 e} {M : Finset S2x512x768.Idx} {X : S2x512x768.Idx → Elt F e} {off : Fin 3 → Nat}

theorem wp_load3U {inb} {hl} {Q : α → sProp 𝕄} {k} (u : Fin 8) (hoff : off = ![u.val / 4, 128 * (u.val % 4), 0]) (hM : band3 {u} ⊆ M) :
    (Own c m q M X : sProp 𝕄)
      ⊢ iprop((Own c m q M X -∗ wp frame (wpE (defs₀ (F := F)) 𝒱₀ (c : Thread nD τ) none) Set.univ (k (cut3 u X)) Q)
        -∗ wp frame (wpE (defs₀ (F := F)) 𝒱₀ (c : Thread nD τ) none) Set.univ
          (.op (.load m (Rect.unit (s := S2x512x768) off S1x128x768.size inb).toLoadRect hl) k) Q) := by
  iintro H Hk
  iapply (wp_own_load (r := Rect.unit (s := S2x512x768) off S1x128x768.size inb) (by rw [set3_U u off inb hoff]; exact hM)) $$ H
  iintro H
  rw [cut3_rect u X off inb hoff]
  iapply Hk; iexact H

/-- A load of 256 rows of it. -/
theorem wp_load3T {inb} {hl} {Q : α → sProp 𝕄} {k} (t : Fin 4) (hoff : off = ![t.val / 2, 256 * (t.val % 2), 0]) (hM : band3 (two t) ⊆ M) :
    (Own c m q M X : sProp 𝕄)
      ⊢ iprop((Own c m q M X -∗ wp frame (wpE (defs₀ (F := F)) 𝒱₀ (c : Thread nD τ) none) Set.univ
            (k (fun y => X ((Rect.unit (s := S2x512x768) off S1x256x768.size inb).emb y))) Q)
        -∗ wp frame (wpE (defs₀ (F := F)) 𝒱₀ (c : Thread nD τ) none) Set.univ
          (.op (.load m (Rect.unit (s := S2x512x768) off S1x256x768.size inb).toLoadRect hl) k) Q) :=
  wp_own_load (by rw [set3_T t off inb hoff]; exact hM)

theorem wp_store3U {inb} {w : S1x128x768.Idx → Elt F e} {hx hm} {Q : α → sProp 𝕄} {k} (u : Fin 8) (Y : S2x512x768.Idx → Elt F e)
    (hoff : off = ![u.val / 4, 128 * (u.val % 4), 0]) (hw : ∀ i, u3 i = u → Y i = w (loc3U i)) :
    (Own c m fullShare (band3 {u}) X : sProp 𝕄)
      ⊢ iprop((Own c m fullShare (band3 {u}) Y -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := S2x512x768) off S1x128x768.size inb) w Finset.univ hx hm) k) Q) :=
  wp_own_store Y (by rw [set3_U u off inb hoff])
    (fun y => by obtain ⟨h1, h2⟩ := u3_emb u off inb hoff y; rw [hw _ h1, h2])
    (fun i hi hn => absurd (by rw [set3_U u off inb hoff]; exact hi) hn)

theorem wp_store3T {inb} {w : S1x256x768.Idx → Elt F e} {hx hm} {Q : α → sProp 𝕄} {k} (t : Fin 4) (Y : S2x512x768.Idx → Elt F e)
    (hoff : off = ![t.val / 2, 256 * (t.val % 2), 0]) (hw : ∀ i, t3 i = t → Y i = w (loc3T i)) :
    (Own c m fullShare (band3 (two t)) X : sProp 𝕄)
      ⊢ iprop((Own c m fullShare (band3 (two t)) Y -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := S2x512x768) off S1x256x768.size inb) w Finset.univ hx hm) k) Q) :=
  wp_own_store Y (by rw [set3_T t off inb hoff])
    (fun y => by obtain ⟨h1, h2⟩ := t3_emb t off inb hoff y; rw [hw _ h1, h2])
    (fun i hi hn => absurd (by rw [set3_T t off inb hoff]; exact hi) hn)

end Out

omit [FloatOps F] in
/-- A slice owned whole is the rectangle of the memref it was cut from. -/
theorem own_unslice' {sp : Space} {s : Shape} {m : Memref sig .tc sp s e} (r : Rect s) (hr : ∀ a, r.stride a = 1) (Z : r.shape.Idx → Elt F e) :
    (Own c (m.slice r hr) q Finset.univ Z : sProp 𝕄) ⊢ iprop(∃ X, ⌜∀ y, X (r.emb y) = Z y⌝ ∗ Own c m q r.set X) := by
  unfold Own
  iintro ⟨%f, %hf, H⟩
  iexists (fun i => m.view.read (Elt F) f i)
  isplitr; · ipureintro; exact fun y => hf y (Finset.mem_univ _)
  iexists f
  isplitr; · ipureintro; exact fun _ _ => rfl
  have hs : (m.slice r hr).view.setOn Finset.univ = m.view.setOn r.set := m.view.set_slice r
  rw [← hs]; iexact H

/-- A load of a slice, through the memref it was cut from. -/
theorem wp_load_slice {cs : CoreSpace} {s : Shape} {m : Memref sig .tc cs s e} {r : Rect s} {hr : ∀ a, r.stride a = 1} {Z : r.shape.Idx → Elt F e}
    {hl : m.view.LoadsAt r} {Q : α → sProp 𝕄} {k} :
    (Own c (m.slice r hr) q Finset.univ Z : sProp 𝕄)
      ⊢ iprop((Own c (m.slice r hr) q Finset.univ Z -∗ wp frame (wpE (defs₀ (F := F)) 𝒱₀ (c : Thread nD τ) none) Set.univ (k Z) Q)
        -∗ wp frame (wpE (defs₀ (F := F)) 𝒱₀ (c : Thread nD τ) none) Set.univ (.op (.load m r hl) k) Q) := by
  iintro H Hk
  ihave H' := (own_unslice' r hr Z) $$ H
  icases H' with ⟨%X, %hX, H⟩
  have hv : (fun y => X (r.emb y)) = Z := funext hX
  iapply (wp_own_load (r := r) (hl := hl) (Finset.Subset.refl _)) $$ H
  iintro H
  ihave H := (own_slice r hr) $$ H
  rw [hv]
  iapply Hk; iexact H

end Rules

/-! ## Anything -/

section AnyRules
variable {s : Shape} {e : EltTy} {c : Dev nD} {m : Memref sig .tc .vmem s e} {M M' : Finset s.Idx}

omit [FloatOps F] in
theorem any_of_own (X : s.Idx → Elt F e) : (Own c m fullShare M X : sProp 𝕄) ⊢ Any c m M := by
  unfold Any; iintro H; iexists X; iexact H
omit [FloatOps F] in
theorem any_split (h : Disjoint M M') : (Any c m (M ∪ M') : sProp 𝕄) ⊢ iprop(Any (F := F) c m M ∗ Any (F := F) c m M') := by
  unfold Any
  iintro ⟨%X, H⟩
  ihave H := (own_split h) $$ H
  icases H with ⟨H1, H2⟩
  isplitl [H1]
  · iexists X; iexact H1
  · iexists X; iexact H2
omit [FloatOps F] in
theorem any_join (h : Disjoint M M') : iprop(Any (F := F) c m M ∗ Any (F := F) c m M') ⊢ (Any c m (M ∪ M') : sProp 𝕄) := by
  unfold Any
  iintro ⟨⟨%X, H1⟩, ⟨%Y, H2⟩⟩
  iexists (M'.piecewise Y X)
  iapply (own_join h)
  isplitl [H1]
  · iapply (own_congr (X := X) fun i hi => (Finset.piecewise_eq_of_notMem _ _ _ (fun h' => Finset.disjoint_left.mp h hi h')).symm)
    iexact H1
  · iapply (own_congr (X := Y) fun i hi => (Finset.piecewise_eq_of_mem _ _ _ hi).symm)
    iexact H2
end AnyRules

end Cert.KernelProof
-- ==== Proof.Steps.lean ====
/-
# One transfer, one wait

What a device holds of the exchanges (`St`), and the rule of each of the four transfers and of the two waits on it, each
once for every half, batch and device.
-/
module

public import proofs.«01_k».proof.Proof.Cuts

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- One conjunct apart. -/
theorem sep_insert {I : Type} [DecidableEq I] {i : I} {s : Finset I} (h : i ∉ s) (Φ : I → sProp 𝕄) :
    bigSep (insert i s) Φ = iprop(Φ i ∗ bigSep s Φ) := bigSep_insert h

variable (J : Dev nD → In F) (K : Dev nD × CK → ℕ)

/-- What every device knows: each cell's invariant, that each cell has reached its round, and the levels. -/
def Recs : sProp 𝕄 :=
  iprop(((bigSep Finset.univ fun ck : Dev nD × CK => cellInv ER (sched J) (K ck) (kcell ck))
    ∗ bigSep Finset.univ fun ck : Dev nD × CK => reached ER (kcell ck) 0) ∗ levAts L lv)

instance recs_persistent : BI.Persistent (Recs J K) := by unfold Recs; infer_instance

theorem recs_inv (ck : Dev nD × CK) : Recs J K ⊢ (cellInv ER (sched J) (K ck) (kcell ck) : sProp 𝕄) := by
  have h : (bigSep Finset.univ fun ck : Dev nD × CK => (cellInv ER (sched J) (K ck) (kcell ck) : sProp 𝕄)) ⊢ cellInv ER (sched J) (K ck) (kcell ck) :=
    bigSep_elim (Finset.mem_univ ck)
  unfold Recs; iintro ⟨⟨H, -⟩, -⟩; iapply h; iexact H
theorem recs_reached (ck : Dev nD × CK) : Recs J K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold Recs; iintro ⟨⟨-, H⟩, -⟩; iapply h; iexact H
theorem recs_lev : Recs J K ⊢ (levAts L lv : sProp 𝕄) := by
  unfold Recs; iintro ⟨-, H⟩; iexact H

/-- Device `c` has issued the transfers before `a`, waited on the send cells before `s` and on the receive cells before `r`. -/
def St (c : Dev nD) (a s r : ℕ) : sProp 𝕄 :=
  iprop((∃ W, owes (c : Thread nD τ) (due c a) W)
    ∗ (bigSep (since a) fun p => iprop(dutyTok ER (sendCell c p) 0 false ∗ dutyTok ER (recvCell (tgt p c) p) 0 false))
    ∗ (bigSep (since s) fun p => atPos ER (sendCell c p) 0 ∅ 0)
    ∗ (bigSep (since r) fun p => iprop(atPos ER (recvCell c p) 0 ∅ 0 ∗ cred (tallyAt (recvCell c p) () (amt p))))
    ∗ (bigSep (before s) fun p => semVal (sendCell c p) 0) ∗ bigSep (before r) fun p => semVal (recvCell c p) 0)

/-- The credit of an issued transfer, for the wait on its send cell. -/
abbrev cr (c : Dev nD) (p : Fin 16) : sProp 𝕄 := cred (tallyAt (sendCell c p) () (amt p))

variable {J K}
variable {c : Dev nD} {α : Type}

/-- A transfer of everything `src` reads, to the partner's `dst`. -/
theorem send_core {s : Shape} {src dst : Memref sig .tc .vmem s .bf16} (p : Fin 16) {n : Dev nD} {X : s.Idx → Elt F .bf16} {q : PosShare TreeShare}
    {Fx : sProp 𝕄} {sS sR : DmaSem sig} {hsc : dst.view.ref.isScScratch = false}
    {hsrc : src.view.WordExact} {hdst : dst.view.WordExact}
    {hsem : DmaTarget.Typed .vmem (.dma sR) (.remote (Dev.tc n : Thread nD τ) dst (.dma sS) hsc)}
    {Q : α → sProp 𝕄} {k : PUnit → Prog (TpuEff nD τ sig (Elt F) Λ₀ .tc) α} {a t r : ℕ}
    (hn : n = tgt p c) (hS : sS = sq p) (hR : sR = rq p) (ha : a = p.val) (hamt : dst.view.amount (.dma (rq p)) = amt p)
    (hp1 : Own c src q Finset.univ X ⊢ sendPay J (bP p) (hP p) (jP p) c)
    (hp2 : iprop(Own (tgt p c) dst fullShare Finset.univ X ∗ Fx) ⊢ recvPay J (bP p) (hP p) (jP p) (tgt p c)) :
    iprop(Recs J K ∗ St c a t r ∗ Own c src q Finset.univ X ∗ Any (F := F) (tgt p c) dst Finset.univ ∗ Fx)
      ⊢ iprop(((St c (a + 1) t r ∗ cr (F := F) c p) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR ha
  unfold St Any
  rw [since_eq p, sep_insert (notMem_since p)]
  unfold Own
  iintro ⟨#HR, ⟨⟨%W, HO⟩, ⟨⟨HtS, HtR⟩, Htk⟩, Hrest⟩, ⟨%fs, %hfs, Hs⟩, ⟨%Z, %fd, %hfd, Hd⟩, HF⟩ Hk
  ihave #HI1 := (recs_inv J K (c, some (false, p))) $$ HR
  ihave #HI2 := (recs_inv J K (tgt p c, some (true, p))) $$ HR
  ihave #HR1 := (recs_reached J K (c, some (false, p))) $$ HR
  ihave #HR2 := (recs_reached J K (tgt p c, some (true, p))) $$ HR
  iapply (Rounds.wp_send_pointsTo_with 𝒱₀ ER (sched J) (c : Thread nD τ) none (κ₁ := K (c, some (false, p))) (κ₂ := K (tgt p c, some (true, p)))
    (r₁ := 0) (r₂ := 0) (d₁ := false) (d₂ := false) (fs := fs) (fd := fd) (F := Fx)
    (by rw [duties_send]; exact Finset.mem_singleton_self _) (by rw [duties_recv]; exact Finset.mem_singleton_self _)
    () () (amt p) hamt (amount_send J c p false) (amount_recv J (tgt p c) p false) (due c (p.val + 1)) (due_step c p) (W := W)
    (by
      rw [payload_send]; refine BIBase.Entails.trans ?_ hp1
      unfold Own; iintro H; iexists fs
      isplitr; · ipureintro; exact hfs
      iexact H)
    (by
      rw [payload_recv]; refine BIBase.Entails.trans (sep_mono_left ?_) hp2
      unfold Own; iintro H; iexists (dst.view.write (Elt F) fd (src.view.read (Elt F) fs) Finset.univ)
      isplitr
      · ipureintro; intro i _
        rw [← hfs i (Finset.mem_univ _)]; exact View.read_write_of_mem (v := dst.view) fd _ (Finset.mem_univ i)
      iexact H)) $$ [HO HtS HtR Hs Hd HF]
  · isplitr; · iexact HI1
    isplitr; · iexact HI2
    isplitl [Hs]; · iexact Hs
    isplitl [Hd HF]
    · isplitl [Hd]; · iexact Hd
      iexact HF
    isplitl [HO]; · iexact HO
    isplitl [HtS]; · iexact HtS
    isplitr; · iexact HR1
    isplitl [HtR]; · iexact HtR
    iexact HR2
  iintro ⟨Hc, HO⟩
  iapply Hk
  isplitr [Hc]
  · isplitl [HO]; · iexists W; iexact HO
    isplitl [Htk]; · iexact Htk
    iexact Hrest
  iexact Hc

/-- The wait on the send cell of an issued transfer. -/
theorem wait_send {sp sp' : Space} {s s' : Shape} {e e' : EltTy} {sem : DmaSem sig} (p : Fin 16)
    {src : Memref sig .tc sp' s' e'} {κ' : Kind} {dst : Memref sig κ' sp s e} {hsrc : src.view.WordExact} {hdst : dst.view.WordExact}
    {Q : α → sProp 𝕄} {k : PUnit → Prog (TpuEff nD τ sig (Elt F) Λ₀ .tc) α} {a t r : ℕ}
    (hS : sem = sq p) (ht : t = p.val) (hamt : dst.view.dmaCredit = amt p) :
    iprop(Recs J K ∗ St c a t r ∗ cr (F := F) c p)
      ⊢ iprop(((St c a (t + 1) r ∗ sendPay J (bP p) (hP p) (jP p) c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hS ht
  unfold St
  rw [since_eq p, sep_insert (notMem_since p), before_eq p, sep_insert (notMem_before p)]
  iintro ⟨#HR, ⟨⟨%W, HO⟩, Htk, ⟨Hat, Hats⟩, Hrv, Hzs, Hzr⟩, Hc⟩ Hk
  ihave #HI := (recs_inv J K (c, some (false, p))) $$ HR
  ihave #Hl := (recs_lev J K) $$ HR
  iapply (Rounds.wp_wait_rest_token 𝒱₀ ER (sched J) (c : Thread nD τ) none (κ := K (c, some (false, p))) (sm := .dma (sq p)) (k' := amt p)
      (fun Q' => by rw [← hamt]; exact wpE_waitDma2_eq 𝒱₀ (c : Thread nD τ) none Set.univ Q') (Set.mem_univ _) () (O := due c a) (W := W) (R := 0) (m := 0) (T := ∅)
      (by rw [Nat.zero_add]; exact (expect_send J c p).symm)) $$ [Hc HO Hat]
  · isplitr; · iexact HI
    isplitl [Hc]; · iexact Hc
    isplitl [HO]; · iexact HO
    isplitr
    · iapply (mayWait_due (F := F) c (.dma (sq p)) a (fun p' _ => by rw [lvS_sq]; omega)); iexact Hl
    iexact Hat
  iintro ⟨HO, Hat, -, Hpay⟩
  ihave Hp := (Entails.of_eq (rest_send J c p)) $$ Hpay
  imod (Rounds.cell_close ER (sched J) (Set.mem_univ (K (c, some (false, p)))) (fun h => h) (R := 0 + 1) (duties_later J (sendCell c p))) $$ [Hat] with Hz
  · isplitr; · iexact HI
    iexact Hat
  iapply Hk
  isplitr [Hp]
  · isplitl [HO]; · iexists _; iexact HO
    isplitl [Htk]; · iexact Htk
    isplitl [Hats]; · iexact Hats
    isplitl [Hrv]; · iexact Hrv
    isplitl [Hz Hzs]
    · isplitl [Hz]; · iexact Hz
      iexact Hzs
    iexact Hzr
  iexact Hp

/-- The wait on a receive cell, once every transfer of its stage is issued. -/
theorem wait_recv {sp sp' : Space} {s s' : Shape} {e e' : EltTy} {sem : DmaSem sig} (p : Fin 16)
    {src : Memref sig .tc sp' s' e'} {κ' : Kind} {dst : Memref sig κ' sp s e} {hsrc : src.view.WordExact} {hdst : dst.view.WordExact}
    {Q : α → sProp 𝕄} {k : PUnit → Prog (TpuEff nD τ sig (Elt F) Λ₀ .tc) α} {a t r : ℕ}
    (hS : sem = rq p) (hr : r = p.val) (ha : p.val / 2 < a / 2) (hamt : dst.view.dmaCredit = amt p) :
    iprop(Recs J K ∗ St (F := F) c a t r)
      ⊢ iprop(((St c a t (r + 1) ∗ recvPay J (bP p) (hP p) (jP p) c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hS hr
  unfold St
  rw [since_eq p, sep_insert (notMem_since p), before_eq p, sep_insert (notMem_before p)]
  iintro ⟨#HR, ⟨⟨%W, HO⟩, Htk, Hats, ⟨⟨Hat, Hc⟩, Hrv⟩, Hzs, Hzr⟩⟩ Hk
  ihave #HI := (recs_inv J K (c, some (true, p))) $$ HR
  ihave #Hl := (recs_lev J K) $$ HR
  iapply (Rounds.wp_wait_rest_token 𝒱₀ ER (sched J) (c : Thread nD τ) none (κ := K (c, some (true, p))) (sm := .dma (rq p)) (k' := amt p)
      (fun Q' => by rw [← hamt]; exact wpE_waitDma2_eq 𝒱₀ (c : Thread nD τ) none Set.univ Q') (Set.mem_univ _) () (O := due c a) (W := W) (R := 0) (m := 0) (T := ∅)
      (by rw [Nat.zero_add]; exact (expect_recv J c p).symm)) $$ [Hc HO Hat]
  · isplitr; · iexact HI
    isplitl [Hc]; · iexact Hc
    isplitl [HO]; · iexact HO
    isplitr
    · iapply (mayWait_due (F := F) c (.dma (rq p)) a (fun p' h' => by rw [lvS_rq]; omega)); iexact Hl
    iexact Hat
  iintro ⟨HO, Hat, -, Hpay⟩
  ihave Hp := (Entails.of_eq (rest_recv J c p)) $$ Hpay
  imod (Rounds.cell_close ER (sched J) (Set.mem_univ (K (c, some (true, p)))) (fun h => h) (R := 0 + 1) (duties_later J (recvCell c p))) $$ [Hat] with Hz
  · isplitr; · iexact HI
    iexact Hat
  iapply Hk
  isplitr [Hp]
  · isplitl [HO]; · iexists _; iexact HO
    isplitl [Htk]; · iexact Htk
    isplitl [Hats]; · iexact Hats
    isplitl [Hrv]; · iexact Hrv
    isplitl [Hzs]; · iexact Hzs
    isplitl [Hz]; · iexact Hz
    iexact Hzr
  iexact Hp

end Cert.KernelProof
-- ==== Proof.Xfer.lean ====
/-
# The four transfers

Each of the four transfers of a batch as the kernel issues it, and what its two waits bring.
-/
module

public import proofs.«01_k».proof.Proof.Steps

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem amt_T (b h : Fin 2) (j : Fin 4) (hj : j = 0 ∨ j = 3) : amt (pos b h j) = nT := by unfold amt; rw [jP_pos, if_pos hj]
theorem amt_U (b h : Fin 2) (j : Fin 4) (hj : ¬(j = 0 ∨ j = 3)) : amt (pos b h j) = nU := by unfold amt; rw [jP_pos, if_neg hj]
theorem tgt_pos (b h : Fin 2) (j : Fin 4) (c : Dev nD) : tgt (pos b h j) c = peer h (lvl j) c := by unfold tgt; rw [hP_pos, jP_pos]

section Lift
variable {α : Type}
theorem liftT_reshape (v : S256x768.Idx → α) :
    (fun y => liftT v (Shape.reshapeEquiv (squeezes_S1x256x768_S256x768 : S1x256x768.Squeezes S256x768).numel_eq y)) = v := by
  funext y; exact congrArg v (Equiv.symm_apply_apply _ y)
theorem liftU_reshape (v : S128x768.Idx → α) :
    (fun y => liftU v (Shape.reshapeEquiv (squeezes_S1x128x768_S128x768 : S1x128x768.Squeezes S128x768).numel_eq y)) = v := by
  funext y; exact congrArg v (Equiv.symm_apply_apply _ y)
end Lift

section Chunk
variable {c : Dev nD} {q : PosShare TreeShare} {e : EltTy} {m : Memref sig .tc .vmem S1024x768 e} {X : S1024x768.Idx → Elt F e} {off : Fin 2 → Nat}

omit [FloatOps F] in
/-- A chunk of rows is the slice at its offset, -/
theorem own_cutT {inb} (t : Fin 4) (hoff : off = ![256 * t.val, 0]) :
    (Own c m q (band (two t)) X : sProp 𝕄)
      ⊢ Own c (m.slice (Rect.unit (s := S1024x768) off S256x768.size inb) (fun _ => rfl)) q Finset.univ (cutT t X) := by
  rw [← set_T t off inb hoff, ← cutT_rect t X off inb hoff]; exact own_slice _ _
omit [FloatOps F] in
theorem own_cutU {inb} (u : Fin 8) (hoff : off = ![128 * u.val, 0]) :
    (Own c m q (band {u}) X : sProp 𝕄)
      ⊢ Own c (m.slice (Rect.unit (s := S1024x768) off S128x768.size inb) (fun _ => rfl)) q Finset.univ (cutU u X) := by
  rw [← set_U u off inb hoff, ← cutU_rect u X off inb hoff]; exact own_slice _ _
omit [FloatOps F] in
/-- and back. -/
theorem own_uncutT {inb} (t : Fin 4) (hoff : off = ![256 * t.val, 0]) :
    (Own c (m.slice (Rect.unit (s := S1024x768) off S256x768.size inb) (fun _ => rfl)) q Finset.univ (cutT t X) : sProp 𝕄)
      ⊢ Own c m q (band (two t)) X := by
  rw [← set_T t off inb hoff, ← cutT_rect t X off inb hoff]; exact own_unslice _ _
omit [FloatOps F] in
theorem own_uncutU {inb} (u : Fin 8) (hoff : off = ![128 * u.val, 0]) :
    (Own c (m.slice (Rect.unit (s := S1024x768) off S128x768.size inb) (fun _ => rfl)) q Finset.univ (cutU u X) : sProp 𝕄)
      ⊢ Own c m q (band {u}) X := by
  rw [← set_U u off inb hoff, ← cutU_rect u X off inb hoff]; exact own_unslice _ _
end Chunk

variable {J : Dev nD → In F} {K : Dev nD × CK → ℕ} {c n : Dev nD} {α : Type} {a t r : ℕ} {sS sR : DmaSem sig}
  {off : Fin 2 → Nat} {off3 : Fin 3 → Nat}

/-- Transfer 0: half of the accumulator to the level-0 partner's landing place. -/
theorem send_0 (b h : Fin 2) {inb inb3 hsc hsrc hdst hsem} {Q : α → sProp 𝕄} {k : PUnit → Prog (TpuEff nD τ sig (Elt F) Λ₀ .tc) α}
    (hn : n = peer h 0 c) (hoff : off = ![256 * (sendT h c).val, 0]) (ho3 : off3 = ![h.val, 0, 0])
    (hS : sS = sq (pos b h 0)) (hR : sR = rq (pos b h 0)) (ha : a = (pos b h 0).val) :
    iprop(Recs J K ∗ St c a t r ∗ Own c accM fullShare (band (two (sendT h c))) (AA J b c) ∗ zone (F := F) b h 0 c)
      ⊢ iprop(((St c (a + 1) t r ∗ cr (F := F) c (pos b h 0)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (Rect.unit (s := S1024x768) off S256x768.size inb) (fun _ => rfl))
                (.remote (Dev.tc n : Thread nD τ) ((rbM.slice (Rect.unit (s := S2x256x768) off3 S1x256x768.size inb3) (fun _ => rfl)).squeeze
                  S256x768 squeezes_S1x256x768_S256x768) (.dma sS) hsc) (.dma sR) hsrc hdst hsem) k) Q) := by
  subst ho3
  iintro ⟨HR, HSt, Ho, Hz⟩
  ihave Ho := (own_cutT (inb := inb) (sendT h c) hoff) $$ Ho
  unfold zone Any
  icases Hz with ⟨%Z, Hz⟩
  ihave Hz := (own_squeeze squeezes_S1x256x768_S256x768) $$ Hz
  iapply (send_core (J := J) (K := K) (pos b h 0) (Fx := iprop(emp)) (hn.trans (tgt_pos b h 0 c).symm) hS hR ha
    (show (cc0_scratch3 : Ref sig .tc).dmaCredit S256x768 .bf16 = _ by rw [amt_T b h 0 (Or.inl rfl)])
    (by rw [bP_pos, hP_pos, jP_pos]; exact own_uncutT (inb := inb) (sendT h c) hoff)
    (by
      rw [bP_pos, hP_pos, jP_pos, tgt_pos]
      show iprop(Own (peer h 0 c) ((bigM h).squeeze S256x768 squeezes_S1x256x768_S256x768) _ _ _ ∗ emp)
        ⊢ Own (peer h 0 c) (bigM h) fullShare Finset.univ (liftT (cutT (keepT h (peer h 0 c)) (AA J b (peer h 0 (peer h 0 c)))))
      rw [keep_peer, peer_peer]
      iintro ⟨H, -⟩
      iapply (own_unsqueeze squeezes_S1x256x768_S256x768)
      rw [liftT_reshape]; iexact H))
  isplitl [HR]; · iexact HR
  isplitl [HSt]; · iexact HSt
  isplitl [Ho]; · iexact Ho
  isplitl [Hz]
  · unfold Any; rw [tgt_pos]; iexists _; iexact Hz
  iempintro

/-- Transfer 1: a quarter of the accumulator to the level-1 partner's landing place. -/
theorem send_1 (b h : Fin 2) {inb inb3 hsc hsrc hdst hsem} {Q : α → sProp 𝕄} {k : PUnit → Prog (TpuEff nD τ sig (Elt F) Λ₀ .tc) α}
    (hn : n = peer h 1 c) (hoff : off = ![128 * (st2U h c).val, 0]) (ho3 : off3 = ![h.val, 0, 0])
    (hS : sS = sq (pos b h 1)) (hR : sR = rq (pos b h 1)) (ha : a = (pos b h 1).val) :
    iprop(Recs J K ∗ St c a t r ∗ Own c accM fullShare (band {st2U h c}) (BB J b c) ∗ zone (F := F) b h 1 c)
      ⊢ iprop(((St c (a + 1) t r ∗ cr (F := F) c (pos b h 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (Rect.unit (s := S1024x768) off S128x768.size inb) (fun _ => rfl))
                (.remote (Dev.tc n : Thread nD τ) ((rsM.slice (Rect.unit (s := S2x128x768) off3 S1x128x768.size inb3) (fun _ => rfl)).squeeze
                  S128x768 squeezes_S1x128x768_S128x768) (.dma sS) hsc) (.dma sR) hsrc hdst hsem) k) Q) := by
  subst ho3
  iintro ⟨HR, HSt, Ho, Hz⟩
  ihave Ho := (own_cutU (inb := inb) (st2U h c) hoff) $$ Ho
  unfold zone Any
  icases Hz with ⟨%Z, Hz⟩
  ihave Hz := (own_squeeze squeezes_S1x128x768_S128x768) $$ Hz
  iapply (send_core (J := J) (K := K) (pos b h 1) (Fx := iprop(emp)) (hn.trans (tgt_pos b h 1 c).symm) hS hR ha
    (show (cc0_scratch4 : Ref sig .tc).dmaCredit S128x768 .bf16 = _ by rw [amt_U b h 1 (by decide)])
    (by rw [bP_pos, hP_pos, jP_pos]; exact own_uncutU (inb := inb) (st2U h c) hoff)
    (by
      rw [bP_pos, hP_pos, jP_pos, tgt_pos]
      show iprop(Own (peer h 1 c) ((smallM h).squeeze S128x768 squeezes_S1x128x768_S128x768) _ _ _ ∗ emp)
        ⊢ Own (peer h 1 c) (smallM h) fullShare Finset.univ (liftU (cutU (mineU h (peer h 1 c)) (BB J b (peer h 1 (peer h 1 c)))))
      rw [mine_peer, peer_peer]
      iintro ⟨H, -⟩
      iapply (own_unsqueeze squeezes_S1x128x768_S128x768)
      rw [liftU_reshape]; iexact H))
  isplitl [HR]; · iexact HR
  isplitl [HSt]; · iexact HSt
  isplitl [Ho]; · iexact Ho
  isplitl [Hz]
  · unfold Any; rw [tgt_pos]; iexists _; iexact Hz
  iempintro

/-- Transfer 2: a finished quarter to the same rows of the level-1 partner's gathered buffer; in the first half the
    device's own landing place of transfer 1 goes back along with it. -/
theorem send_2 (b h : Fin 2) {g : Memref sig .tc .vmem S1024x768 .bf16} {inb inb' hsc hsrc hdst hsem} {Q : α → sProp 𝕄} {k : PUnit → Prog (TpuEff nD τ sig (Elt F) Λ₀ .tc) α}
    (hg : g = gM b)
    (hn : n = peer h 1 c) (hoff : off = ![128 * (mineU h c).val, 0])
    (hS : sS = sq (pos b h 2)) (hR : sR = rq (pos b h 2)) (ha : a = (pos b h 2).val) :
    iprop(Recs J K ∗ St c a t r ∗ Own c g fullShare.left (band {mineU h c}) (GG J b) ∗ zone (F := F) b h 2 c
        ∗ (if b = 0 then Any (F := F) c (smallM h) Finset.univ else iprop(emp)))
      ⊢ iprop(((St c (a + 1) t r ∗ cr (F := F) c (pos b h 2)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (g.slice (Rect.unit (s := S1024x768) off S128x768.size inb) (fun _ => rfl))
                (.remote (Dev.tc n : Thread nD τ) (g.slice (Rect.unit (s := S1024x768) off S128x768.size inb') (fun _ => rfl))
                  (.dma sS) hsc) (.dma sR) hsrc hdst hsem) k) Q) := by
  subst hg
  iintro ⟨HR, HSt, Ho, Hz, HF⟩
  ihave Ho := (own_cutU (inb := inb) (mineU h c) hoff) $$ Ho
  unfold zone Any
  icases Hz with ⟨%Z, Hz⟩
  ihave Hz := (own_cutU (inb := inb') (mineU h c) hoff) $$ Hz
  iapply (send_core (J := J) (K := K) (pos b h 2) (Fx := if b = 0 then Any (F := F) c (smallM h) Finset.univ else iprop(emp)) (hn.trans (tgt_pos b h 2 c).symm) hS hR ha
    (show (gM b).view.ref.dmaCredit S128x768 .bf16 = _ by rw [amt_U b h 2 (by decide)])
    (by rw [bP_pos, hP_pos, jP_pos]; exact own_uncutU (inb := inb) (mineU h c) hoff)
    (by
      rw [bP_pos, hP_pos, jP_pos, tgt_pos]
      show _ ⊢ iprop(Own (peer h 1 c) (gM b) fullShare (band {st2U h (peer h 1 c)}) (GG J b)
        ∗ (if b = 0 then Any (peer h 1 (peer h 1 c)) (smallM h) Finset.univ else iprop(emp)))
      rw [st2_peer, peer_peer]
      exact sep_mono_left (own_uncutU (inb := inb') (mineU h c) hoff)))
  isplitl [HR]; · iexact HR
  isplitl [HSt]; · iexact HSt
  isplitl [Ho]; · iexact Ho
  isplitl [Hz]
  · unfold Any; rw [tgt_pos]; iexists _; iexact Hz
  unfold Any; iexact HF

/-- Transfer 3: the gathered half to the same rows of the level-0 partner's buffer; in the first half the device's own
    landing place of transfer 0 goes back along with it. -/
theorem send_3 (b h : Fin 2) {g : Memref sig .tc .vmem S1024x768 .bf16} {inb inb' hsc hsrc hdst hsem} {Q : α → sProp 𝕄} {k : PUnit → Prog (TpuEff nD τ sig (Elt F) Λ₀ .tc) α}
    (hg : g = gM b)
    (hn : n = peer h 0 c) (hoff : off = ![256 * (keepT h c).val, 0])
    (hS : sS = sq (pos b h 3)) (hR : sR = rq (pos b h 3)) (ha : a = (pos b h 3).val) :
    iprop(Recs J K ∗ St c a t r ∗ Own c g fullShare.left (band (two (keepT h c))) (GG J b) ∗ zone (F := F) b h 3 c
        ∗ (if b = 0 then Any (F := F) c (bigM h) Finset.univ else iprop(emp)))
      ⊢ iprop(((St c (a + 1) t r ∗ cr (F := F) c (pos b h 3)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (g.slice (Rect.unit (s := S1024x768) off S256x768.size inb) (fun _ => rfl))
                (.remote (Dev.tc n : Thread nD τ) (g.slice (Rect.unit (s := S1024x768) off S256x768.size inb') (fun _ => rfl))
                  (.dma sS) hsc) (.dma sR) hsrc hdst hsem) k) Q) := by
  subst hg
  iintro ⟨HR, HSt, Ho, Hz, HF⟩
  ihave Ho := (own_cutT (inb := inb) (keepT h c) hoff) $$ Ho
  unfold zone Any
  icases Hz with ⟨%Z, Hz⟩
  ihave Hz := (own_cutT (inb := inb') (keepT h c) hoff) $$ Hz
  iapply (send_core (J := J) (K := K) (pos b h 3) (Fx := if b = 0 then Any (F := F) c (bigM h) Finset.univ else iprop(emp)) (hn.trans (tgt_pos b h 3 c).symm) hS hR ha
    (show (gM b).view.ref.dmaCredit S256x768 .bf16 = _ by rw [amt_T b h 3 (Or.inr rfl)])
    (by rw [bP_pos, hP_pos, jP_pos]; exact own_uncutT (inb := inb) (keepT h c) hoff)
    (by
      rw [bP_pos, hP_pos, jP_pos, tgt_pos]
      show _ ⊢ iprop(Own (peer h 0 c) (gM b) fullShare (band (two (sendT h (peer h 0 c)))) (GG J b)
        ∗ (if b = 0 then Any (peer h 0 (peer h 0 c)) (bigM h) Finset.univ else iprop(emp)))
      rw [send_peer, peer_peer]
      exact sep_mono_left (own_uncutT (inb := inb') (keepT h c) hoff)))
  isplitl [HR]; · iexact HR
  isplitl [HSt]; · iexact HSt
  isplitl [Ho]; · iexact Ho
  isplitl [Hz]
  · unfold Any; rw [tgt_pos]; iexists _; iexact Hz
  unfold Any; iexact HF

/-- The wait on a send cell, by half, batch and transfer; -/
theorem got_send (b h : Fin 2) (j : Fin 4) {sp sp' : Space} {s s' : Shape} {e e' : EltTy} {sem : DmaSem sig}
    {src : Memref sig .tc sp' s' e'} {κ' : Kind} {dst : Memref sig κ' sp s e} {hsrc : src.view.WordExact} {hdst : dst.view.WordExact}
    {Q : α → sProp 𝕄} {k : PUnit → Prog (TpuEff nD τ sig (Elt F) Λ₀ .tc) α}
    (hS : sem = sq (pos b h j)) (ht : t = (pos b h j).val) (hamt : dst.view.dmaCredit = if j = 0 ∨ j = 3 then nT else nU) :
    iprop(Recs J K ∗ St c a t r ∗ cr (F := F) c (pos b h j))
      ⊢ iprop(((St c a (t + 1) r ∗ sendPay J b h j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have h' := wait_send (J := J) (K := K) (c := c) (a := a) (r := r) (pos b h j) (src := src) (dst := dst) (hsrc := hsrc) (hdst := hdst) (Q := Q) (k := k) hS ht
    (by unfold amt; rw [jP_pos]; exact hamt)
  rw [bP_pos, hP_pos, jP_pos] at h'
  exact h'

/-- and on a receive cell. -/
theorem got_recv (b h : Fin 2) (j : Fin 4) {sp sp' : Space} {s s' : Shape} {e e' : EltTy} {sem : DmaSem sig}
    {src : Memref sig .tc sp' s' e'} {κ' : Kind} {dst : Memref sig κ' sp s e} {hsrc : src.view.WordExact} {hdst : dst.view.WordExact}
    {Q : α → sProp 𝕄} {k : PUnit → Prog (TpuEff nD τ sig (Elt F) Λ₀ .tc) α}
    (hS : sem = rq (pos b h j)) (hr : r = (pos b h j).val) (ha : (pos b h j).val / 2 < a / 2)
    (hamt : dst.view.dmaCredit = if j = 0 ∨ j = 3 then nT else nU) :
    iprop(Recs J K ∗ St (F := F) c a t r)
      ⊢ iprop(((St c a t (r + 1) ∗ recvPay J b h j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have h' := wait_recv (J := J) (K := K) (c := c) (a := a) (t := t) (pos b h j) (src := src) (dst := dst) (hsrc := hsrc) (hdst := hdst) (Q := Q) (k := k) hS hr ha
    (by unfold amt; rw [jP_pos]; exact hamt)
  rw [bP_pos, hP_pos, jP_pos] at h'
  exact h'

end Cert.KernelProof
-- ==== Proof.Piece.lean ====
/-
# Pieces of the body: what they share

The body's pieces are run one by one. Here: the buffers they run at, the loads from the landing places, what the pieces
of a buffer make together, and what each chunk that is stored is to be.
-/
module

public import proofs.«01_k».proof.Proof.Xfer

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body at its buffers: the ten staged blocks, the six scratch buffers and the two arrays of semaphores. -/
abbrev withBufs {β : Type*}
    (f : (a0 : Memref sig .tc .vmem S2x512x768 .f32) → a0.IsWhole → (a1 : Memref sig .tc .vmem S768x384 .f32) → a1.IsWhole
      → (a2 : Memref sig .tc .vmem S768x384 .f32) → a2.IsWhole → (a3 : Memref sig .tc .vmem S768x384 .f32) → a3.IsWhole
      → (a4 : Memref sig .tc .vmem S384x768 .f32) → a4.IsWhole → (a5 : Memref sig .tc .vmem S2x128 .f32) → a5.IsWhole
      → (a6 : Memref sig .tc .vmem S128x4608 .f32) → a6.IsWhole → (a7 : Memref sig .tc .vmem S768x768 .f32) → a7.IsWhole
      → (a8 : Memref sig .tc .vmem S768x768 .f32) → a8.IsWhole → (a9 : Memref sig .tc .vmem S2x512x768 .f32) → a9.IsWhole
      → (a10 : Memref sig .tc .vmem S1024x768 .bf16) → a10.IsWhole → (a11 : Memref sig .tc .vmem S1024x768 .bf16) → a11.IsWhole
      → (a12 : Memref sig .tc .vmem S1024x768 .bf16) → a12.IsWhole → (a13 : Memref sig .tc .vmem S2x256x768 .bf16) → a13.IsWhole
      → (a14 : Memref sig .tc .vmem S2x128x768 .bf16) → a14.IsWhole → (a15 : Memref sig .tc .vmem S1024x384 .bf16) → a15.IsWhole
      → DmaSems sig S4x4 → DmaSems sig S4x4 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _) (Memref.whole cc0_stg9_0) (Memref.isWhole_whole _)
    accM (Memref.isWhole_whole _) g1M (Memref.isWhole_whole _) g2M (Memref.isWhole_whole _)
    rbM (Memref.isWhole_whole _) rsM (Memref.isWhole_whole _) qM (Memref.isWhole_whole _) cc0_scratch6 cc0_scratch7

/-- Running a piece of the body on device `c`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (J : Dev nD → In F) (K : Dev nD × CK → ℕ) (c : Dev nD)

theorem zero2 : ∀ a : Fin 2, (![0, 0] : Fin 2 → Nat) a = 0 := by decide
theorem zero3 : ∀ a : Fin 3, (![0, 0, 0] : Fin 3 → Nat) a = 0 := by decide

/-! ## Loads from the landing places -/

section Landing
variable {c} {α : Type} {q : PosShare TreeShare} {off3 : Fin 3 → Nat}

theorem wp_loadBig {inb hl} {Z : S1x256x768.Idx → Elt F .bf16} {Q : α → sProp 𝕄} {k} (h : Fin 2) (ho : off3 = ![h.val, 0, 0]) :
    (Own c (bigM h) q Finset.univ Z : sProp 𝕄)
      ⊢ iprop((Own c (bigM h) q Finset.univ Z -∗ Runs c (k Z) Q)
        -∗ Runs c (.op (.load rbM (Rect.unit (s := S2x256x768) off3 S1x256x768.size inb).toLoadRect hl) k) Q) := by
  subst ho; exact wp_load_slice

theorem wp_loadSmall {inb hl} {Z : S1x128x768.Idx → Elt F .bf16} {Q : α → sProp 𝕄} {k} (h : Fin 2) (ho : off3 = ![h.val, 0, 0]) :
    (Own c (smallM h) q Finset.univ Z : sProp 𝕄)
      ⊢ iprop((Own c (smallM h) q Finset.univ Z -∗ Runs c (k Z) Q)
        -∗ Runs c (.op (.load rsM (Rect.unit (s := S2x128x768) off3 S1x128x768.size inb).toLoadRect hl) k) Q) := by
  subst ho; exact wp_load_slice

end Landing

/-! ## What changes hands, transfer by transfer -/

section Pays
variable (b h : Fin 2)

theorem sendPay_0 : sendPay J b h 0 c = Own c accM fullShare (band (two (sendT h c))) (AA J b c) := rfl
theorem sendPay_1 : sendPay J b h 1 c = Own c accM fullShare (band {st2U h c}) (BB J b c) := rfl
theorem sendPay_2 : sendPay J b h 2 c = Own c (gM b) fullShare.left (band {mineU h c}) (GG J b) := rfl
theorem sendPay_3 : sendPay J b h 3 c = Own c (gM b) fullShare.left (band (two (keepT h c))) (GG J b) := rfl
theorem recvPay_0 : recvPay J b h 0 c = Own c (bigM h) fullShare Finset.univ (liftT (cutT (keepT h c) (AA J b (peer h 0 c)))) := rfl
theorem recvPay_1 : recvPay J b h 1 c = Own c (smallM h) fullShare Finset.univ (liftU (cutU (mineU h c) (BB J b (peer h 1 c)))) := rfl
theorem recvPay_2 : recvPay J 0 h 2 c = iprop(Own c g1M fullShare (band {st2U h c}) (GG J 0) ∗ zone 1 h 1 c) := rfl
theorem recvPay_3 : recvPay J 0 h 3 c = iprop(Own c g1M fullShare (band (two (sendT h c))) (GG J 0) ∗ zone 1 h 0 c) := rfl
theorem recvPay_2' : recvPay J 1 h 2 c = iprop(Own c g2M fullShare (band {st2U h c}) (GG J 1) ∗ emp) := rfl
theorem recvPay_3' : recvPay J 1 h 3 c = iprop(Own c g2M fullShare (band (two (sendT h c))) (GG J 1) ∗ emp) := rfl

end Pays

/-! ## A half and its quarters -/

section Quarters
variable {c}

theorem mine_sub (h : Fin 2) : band {mineU h c} ⊆ band (two (keepT h c)) := by
  rw [two_keep, band_union]; exact Finset.subset_union_left
theorem st2_sub (h : Fin 2) : band {st2U h c} ⊆ band (two (keepT h c)) := by
  rw [two_keep, band_union]; exact Finset.subset_union_right

variable {e : EltTy} {m : Memref sig .tc .vmem S1024x768 e} {q : PosShare TreeShare} {X : S1024x768.Idx → Elt F e}

omit [FloatOps F] in
theorem keep_split (h : Fin 2) : (Own c m q (band (two (keepT h c))) X : sProp 𝕄)
    ⊢ iprop(Own c m q (band {mineU h c}) X ∗ Own c m q (band {st2U h c}) X) := by
  rw [two_keep, band_union]; exact own_split (band_disj (mine_ne_st2 h c))
omit [FloatOps F] in
theorem keep_join (h : Fin 2) : iprop(Own c m q (band {mineU h c}) X ∗ Own c m q (band {st2U h c}) X)
    ⊢ (Own c m q (band (two (keepT h c))) X : sProp 𝕄) := by
  rw [two_keep, band_union]; exact own_join (band_disj (mine_ne_st2 h c))

/-- The gathered half: the quarter that the device finished, of which half a share was lent to a transfer, and the partner's. -/
theorem gather (b h : Fin 2) {g : Memref sig .tc .vmem S1024x768 .bf16} (hg : g = gM b) :
    iprop(sendPay J b h 2 c ∗ Own c g fullShare.right (band {mineU h c}) (GG J b) ∗ Own c g fullShare (band {st2U h c}) (GG J b))
      ⊢ Own c g fullShare (band (two (keepT h c))) (GG J b) := by
  subst hg
  iintro ⟨Hl, Hr, Hs⟩
  iapply (keep_join h)
  isplitl [Hl Hr]
  · iapply own_whole; isplitl [Hl]; · iapply (Entails.of_eq (sendPay_2 J c b h)); iexact Hl
    iexact Hr
  iexact Hs

end Quarters

/-! ## The chunks that are stored -/

section Stored
variable (h : Fin 2)

theorem att_of (t : Fin 4) (ht : hT t = 0) : cutT t (AA J 0 c) = (J c).att0 (cutQ t (J c).q) :=
  (cutT_A0 J c t).trans (by unfold In.att; rw [if_pos ht])
theorem att_of' (t : Fin 4) (ht : hT t = 1) : cutT t (AA J 0 c) = (J c).att1 (cutQ t (J c).q) :=
  (cutT_A0 J c t).trans (by unfold In.att; rw [if_neg (by rw [ht]; decide)])

theorem sum_keep (b : Fin 2) : cutT (keepT h c) (BB J b c)
    = sumT (cutT (keepT h c) (AA J b c)) (cutT (keepT h c) (AA J b (peer h 0 c))) :=
  (cutT_sumA c (AA J b) (keepT h c)).trans (by rw [hT_keep])

theorem G1_mine0 : cutU (mineU 0 c) (GG J 0) = res0 (J c).m2 (cutU (mineU 0 c) (BB J 0 c)) (cutU (mineU 0 c) (BB J 0 (peer 0 1 c)))
    (cut3 (mineU 0 c) (J c).x) :=
  (cutU_G1 J _).trans (by unfold g1U; rw [hU_mine, if_pos rfl, ownU_mine]; rfl)
theorem G1_mine1 : cutU (mineU 1 c) (GG J 0) = res1 (J c).m2 (cutU (mineU 1 c) (BB J 0 c)) (cutU (mineU 1 c) (BB J 0 (peer 1 1 c)))
    (cut3 (mineU 1 c) (J c).x) :=
  (cutU_G1 J _).trans (by unfold g1U; rw [hU_mine, if_neg (by decide), ownU_mine]; rfl)
theorem G2_mine0 : cutU (mineU 0 c) (GG J 1) = fin0 (J c).m5 (cutU (mineU 0 c) (BB J 1 c)) (cutU (mineU 0 c) (BB J 1 (peer 0 1 c)))
    (cutU (mineU 0 c) (GG J 0)) :=
  (cutU_G2 J _).trans (by unfold g2U; rw [hU_mine, if_pos rfl, ownU_mine]; rfl)
theorem G2_mine1 : cutU (mineU 1 c) (GG J 1) = fin1 (J c).m5 (cutU (mineU 1 c) (BB J 1 c)) (cutU (mineU 1 c) (BB J 1 (peer 1 1 c)))
    (cutU (mineU 1 c) (GG J 0)) :=
  (cutU_G2 J _).trans (by unfold g2U; rw [hU_mine, if_neg (by decide), ownU_mine]; rfl)

theorem mlp_U0 (u : Fin 8) (hu : u.val / 2 = (keepT 0 c).val) : cutU u (AA J 1 c) = (J c).mlpU0 (cutU u (GG J 0)) :=
  (cutU_A1 J c 0 u hu).trans (by
    unfold In.mlpU; rw [if_pos (by have := hT_keep 0 c; apply Fin.ext; have h2 := congrArg Fin.val this; simp only [hT, hU] at h2 ⊢; omega)]; rfl)
theorem mlp_U1 (u : Fin 8) (hu : u.val / 2 = (keepT 1 c).val) : cutU u (AA J 1 c) = (J c).mlpU1 (cutU u (GG J 0)) :=
  (cutU_A1 J c 1 u hu).trans (by
    unfold In.mlpU; rw [if_neg (by have := hT_keep 1 c; intro h'; have h2 := congrArg Fin.val this; have h3 := congrArg Fin.val h'; simp only [hT, hU] at h2 h3; simp at h2 h3; omega)]; rfl)
theorem mlp_T0 : cutT (sendT 0 c) (AA J 1 c) = (J c).mlpT0 (cutT (sendT 0 c) (GG J 0)) :=
  (cutT_A1 J c 0).trans (by unfold In.mlpT; rw [if_pos (hT_send 0 c)]; rfl)
theorem mlp_T1 : cutT (sendT 1 c) (AA J 1 c) = (J c).mlpT1 (cutT (sendT 1 c) (GG J 0)) :=
  (cutT_A1 J c 1).trans (by unfold In.mlpT; rw [if_neg (by rw [hT_send]; decide)]; rfl)

theorem out_keep (u : Fin 8) (hu : u.val / 2 = (keepT h c).val) (i : S2x512x768.Idx) (hi : u3 i = u) :
    OUT J c i = k0_pay71 (cutU u (GG J 1)) (loc3U i) := by
  have ht : t3 i = keepT h c := Fin.ext (by rw [t3_u3, hi, hu])
  unfold OUT
  rw [ht, hT_keep, if_neg (by clear ht hi hu i; revert h c; decide), hi]; rfl
theorem out_send (i : S2x512x768.Idx) (hi : t3 i = sendT h c) : OUT J c i = k0_pay75 (cutT (sendT h c) (GG J 1)) (loc3T i) := by
  unfold OUT
  rw [hi, hT_send, if_pos rfl]; rfl

end Stored

end Cert.KernelProof
-- ==== Proof.Places.lean ====
/-
# The buffers in pieces

How the six scratch buffers and the result are taken apart for the body and put together after it, and what a device's
landing places are to its two partners.
-/
module

public import proofs.«01_k».proof.Proof.Piece

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-! ## Four chunks and back -/

section Chunks
omit [FloatOps F]
variable {s : Shape} {e : EltTy} {m : Memref sig .tc .vmem s e} {B : Finset (Fin 8) → Finset s.Idx}
  (hu : ∀ U V, B (U ∪ V) = B U ∪ B V) (h1 : B Finset.univ = Finset.univ) (hd : ∀ U V, Disjoint U V → Disjoint (B U) (B V))
include hu hd

/-- One batch's rows: the half the device keeps and the half it sends. -/
theorem any_batch (h : Fin 2) : (Any (F := F) c m (B (two (keepT h c) ∪ two (sendT h c))) : sProp 𝕄)
    ⊢ iprop(Any (F := F) c m (B (two (keepT h c))) ∗ Any (F := F) c m (B (two (sendT h c)))) := by
  rw [hu]; exact any_split (hd _ _ (keep_send h c))
theorem any_quarters (h : Fin 2) : (Any (F := F) c m (B (two (keepT h c))) : sProp 𝕄)
    ⊢ iprop(Any (F := F) c m (B {mineU h c}) ∗ Any (F := F) c m (B {st2U h c})) := by
  rw [two_keep, hu]; exact any_split (hd _ _ (mine_ne_st2 h c))
theorem any_unbatch (h : Fin 2) : iprop(Any (F := F) c m (B (two (keepT h c))) ∗ Any (F := F) c m (B (two (sendT h c))))
    ⊢ (Any (F := F) c m (B (two (keepT h c) ∪ two (sendT h c))) : sProp 𝕄) := by
  rw [hu]; exact any_join (hd _ _ (keep_send h c))

include h1
/-- A whole buffer of both batches' rows. -/
theorem any_halves : (Any (F := F) c m Finset.univ : sProp 𝕄)
    ⊢ iprop((Any (F := F) c m (B (two (keepT 0 c))) ∗ Any (F := F) c m (B (two (sendT 0 c))))
      ∗ Any (F := F) c m (B (two (keepT 1 c))) ∗ Any (F := F) c m (B (two (sendT 1 c)))) := by
  rw [← h1, ← batch_univ c, hu (two (keepT 0 c) ∪ two (sendT 0 c))]
  exact (any_split (hd _ _ (batch_disj c))).trans (BIClass.sep_mono (any_batch c hu hd 0) (any_batch c hu hd 1))
theorem any_unhalve : iprop((Any (F := F) c m (B (two (keepT 0 c))) ∗ Any (F := F) c m (B (two (sendT 0 c))))
      ∗ Any (F := F) c m (B (two (keepT 1 c))) ∗ Any (F := F) c m (B (two (sendT 1 c))))
    ⊢ (Any (F := F) c m Finset.univ : sProp 𝕄) := by
  rw [← h1, ← batch_univ c, hu (two (keepT 0 c) ∪ two (sendT 0 c))]
  exact (BIClass.sep_mono (any_unbatch c hu hd 0) (any_unbatch c hu hd 1)).trans (any_join (hd _ _ (batch_disj c)))

/-- The whole of one contents, from its chunks. -/
theorem own_chunks {X : s.Idx → Elt F e} : iprop((Own c m fullShare (B {mineU 0 c}) X ∗ Own c m fullShare (B {st2U 0 c}) X ∗ Own c m fullShare (B (two (sendT 0 c))) X)
      ∗ Own c m fullShare (B {mineU 1 c}) X ∗ Own c m fullShare (B {st2U 1 c}) X ∗ Own c m fullShare (B (two (sendT 1 c))) X)
    ⊢ (Own c m fullShare Finset.univ X : sProp 𝕄) := by
  have hb : ∀ h, iprop(Own c m fullShare (B {mineU h c}) X ∗ Own c m fullShare (B {st2U h c}) X ∗ Own c m fullShare (B (two (sendT h c))) X)
      ⊢ (Own c m fullShare (B (two (keepT h c) ∪ two (sendT h c))) X : sProp 𝕄) := by
    intro h
    rw [hu]
    refine BIBase.Entails.trans ?_ (own_join (hd _ _ (keep_send h c)))
    rw [two_keep, hu]
    iintro ⟨H1, H2, H3⟩
    isplitr [H3]
    · iapply (own_join (hd _ _ (mine_ne_st2 h c))); isplitl [H1] <;> iassumption
    iexact H3
  rw [← h1, ← batch_univ c, hu (two (keepT 0 c) ∪ two (sendT 0 c))]
  exact (BIClass.sep_mono (hb 0) (hb 1)).trans (own_join (hd _ _ (batch_disj c)))
end Chunks

/-! ## The landing buffers, batch by batch -/

section Slots
omit [FloatOps F]
variable {s : Shape} {e : EltTy} {m : Memref sig .tc .vmem s e} {r : Fin 2 → Rect s} {hr : ∀ h a, (r h).stride a = 1}
  (hc : Finset.univ = (r 0).set ∪ (r 1).set) (hd : Disjoint (r 0).set (r 1).set)
include hc hd

theorem any_slots : (Any (F := F) c m Finset.univ : sProp 𝕄)
    ⊢ iprop(Any (F := F) c (m.slice (r 0) (hr 0)) Finset.univ ∗ Any (F := F) c (m.slice (r 1) (hr 1)) Finset.univ) := by
  rw [hc]
  refine (any_split hd).trans (BIClass.sep_mono ?_ ?_) <;>
  · unfold Any; iintro ⟨%X, H⟩; iexists _; iapply (own_slice _ _) $$ H
theorem any_unslots : iprop(Any (F := F) c (m.slice (r 0) (hr 0)) Finset.univ ∗ Any (F := F) c (m.slice (r 1) (hr 1)) Finset.univ)
    ⊢ (Any (F := F) c m Finset.univ : sProp 𝕄) := by
  have hs : ∀ h, (Any (F := F) c (m.slice (r h) (hr h)) Finset.univ : sProp 𝕄) ⊢ Any (F := F) c m (r h).set := by
    intro h
    unfold Any Own
    iintro ⟨%X, %f, -, H⟩
    iexists (m.view.read (Elt F) f)
    iexists f
    isplitr; · ipureintro; exact fun _ _ => rfl
    rw [show (m.slice (r h) (hr h)).view.setOn Finset.univ = m.view.setOn (r h).set from m.view.set_slice (r h)]
    iexact H
  rw [hc]
  exact (BIClass.sep_mono (hs 0) (hs 1)).trans (any_join hd)
end Slots

theorem slot_set {n : ℕ} (h : Fin 2) (inb) : (Rect.unit (s := ⟨3, ![2, n, 768]⟩) ![h.val, 0, 0] ![1, n, 768] inb).set
    = Finset.univ.filter fun i => (i 0).val = h.val := by
  ext i
  rw [Rect.mem_set_unit, Finset.mem_filter]
  constructor
  · intro k; have := k 0; refine ⟨Finset.mem_univ _, ?_⟩; simp at this; omega
  · rintro ⟨-, k⟩ a
    match a with
    | ⟨0, _⟩ => simp; omega
    | ⟨1, _⟩ => have := (i 1).isLt; simp at this ⊢; exact this
    | ⟨2, _⟩ => have := (i 2).isLt; simp at this ⊢; exact this
theorem slots_cover {n : ℕ} : (Finset.univ : Finset (Shape.Idx ⟨3, ![2, n, 768]⟩))
    = (Finset.univ.filter fun i => (i 0).val = (0 : Fin 2).val) ∪ Finset.univ.filter fun i => (i 0).val = (1 : Fin 2).val := by
  ext i; have h : (i 0).val < 2 := (i 0).isLt; simp; omega
theorem slots_disj {n : ℕ} : Disjoint (Finset.univ.filter fun i : Shape.Idx ⟨3, ![2, n, 768]⟩ => (i 0).val = (0 : Fin 2).val)
    (Finset.univ.filter fun i => (i 0).val = (1 : Fin 2).val) := by
  rw [Finset.disjoint_filter]; intro i _ h h'; rw [h] at h'; exact absurd h' (by decide)
theorem big_cover : Finset.univ = (bigR 0).set ∪ (bigR 1).set := by
  rw [show (bigR 0).set = _ from slot_set 0 _, show (bigR 1).set = _ from slot_set 1 _]; exact slots_cover
theorem big_disj : Disjoint (bigR 0).set (bigR 1).set := by
  rw [show (bigR 0).set = _ from slot_set 0 _, show (bigR 1).set = _ from slot_set 1 _]; exact slots_disj
theorem small_cover : Finset.univ = (smallR 0).set ∪ (smallR 1).set := by
  rw [show (smallR 0).set = _ from slot_set 0 _, show (smallR 1).set = _ from slot_set 1 _]; exact slots_cover
theorem small_disj : Disjoint (smallR 0).set (smallR 1).set := by
  rw [show (smallR 0).set = _ from slot_set 0 _, show (smallR 1).set = _ from slot_set 1 _]; exact slots_disj

/-! ## What the device gives its partners -/

section Give
omit [FloatOps F]
theorem peer_flip (h : Fin 2) : peer h 0 c = peer (1 - h) 1 c := by revert h c; decide
theorem zone_0 (b h : Fin 2) : zone (F := F) b h 0 (peer h 0 c) = Any c (bigM h) Finset.univ := by
  show Any (peer h 0 (peer h 0 c)) _ _ = _; rw [peer_peer]
theorem zone_1 (b h : Fin 2) : zone (F := F) b h 1 (peer h 1 c) = Any c (smallM h) Finset.univ := by
  show Any (peer h 1 (peer h 1 c)) _ _ = _; rw [peer_peer]
theorem zone_2 (b h : Fin 2) : zone (F := F) b h 2 (peer h 1 c) = Any c (gM b) (band {st2U h c}) := by
  show Any (peer h 1 (peer h 1 c)) _ (band {mineU h (peer h 1 c)}) = _; rw [peer_peer, mine_peer]
theorem zone_3 (b h : Fin 2) : zone (F := F) b h 3 (peer h 0 c) = Any c (gM b) (band (two (sendT h c))) := by
  show Any (peer h 0 (peer h 0 c)) _ (band (two (keepT h (peer h 0 c)))) = _; rw [peer_peer, keep_peer]
theorem barPay_peer (h : Fin 2) : barPay (F := F) (peer h 0 c) h
    = iprop(Any c (bigM h) Finset.univ ∗ Any c (gM 0) (band (two (sendT h c))) ∗ Any c (gM 1) (band (two (sendT h c)))
      ∗ Any c (smallM (1 - h)) Finset.univ ∗ Any c (gM 0) (band {st2U (1 - h) c}) ∗ Any c (gM 1) (band {st2U (1 - h) c})) := by
  unfold barPay
  rw [zone_0, zone_3, zone_3, peer_flip, zone_1, zone_2, zone_2]
end Give

end Cert.KernelProof
-- ==== Proof.Parts1.lean ====
/-
# The body, first part: the barrier and the attention output of what is sent

The two barrier signals and the wait, the modulation, the projections, and the attention output of the two halves that the
device sends away.
-/
module

public import proofs.«01_k».proof.Proof.Piece

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-- The two barrier signals hand the partners their landing places on this device. -/
theorem part1 {Q} :
    iprop(Recs J K ∗ (∃ W, owes (c : Thread nD τ) (O₀ c) W) ∗ dutyTok ER (barCell (pA c)) 0 false ∗ dutyTok ER (barCell (pB c)) 0 true
        ∗ barPay (F := F) (pA c) 0 ∗ barPay (F := F) (pB c) 1)
      ⊢ iprop((∀ w1 w2 w3 w4, (∃ W, owes (c : Thread nD τ) (due c 0) W) -∗ Q ⟨c, w1, w2, w3, w4, SemArray.scalar (sig.barrier 0 rfl)⟩)
        -∗ Runs c (withBufs (k0_part1 (F := F))) Q) := by
  rw [k0_part1_eq_skeleton]; unfold Runs withBufs k0_part1_skel
  simp only [semSignalWord, Prog.lift, Prog.bind_op, Prog.bind_ret, Prog.pure_eq_ret, wp_deviceId]
  iintro ⟨#HR, ⟨%W, HO⟩, HtA, HtB, HpA, HpB⟩ Hk
  simp only [dev1_at c, dev2_at c]
  ihave #HIA := (recs_inv J K (pA c, none)) $$ HR
  ihave #HIB := (recs_inv J K (pB c, none)) $$ HR
  ihave #HrA := (recs_reached J K (pA c, none)) $$ HR
  ihave #HrB := (recs_reached J K (pB c, none)) $$ HR
  iapply (Rounds.wp_signal 𝒱₀ ER (sched J) (c : Thread nD τ) none (dst := (pA c : Thread nD τ)) (κ := K (pA c, none))
      (d := false) (by rw [duties_bar]; exact Finset.mem_univ _) ((amount_bar J (pA c) false).trans (by decide)) () (O₁ c) rfl)
    $$ [HO HtA HpA]
  · isplitr; · iexact HIA
    isplitl [HO]; · iexact HO
    isplitl [HtA]; · iexact HtA
    isplitl [HpA]; · rw [payload_bar]; iexact HpA
    iexact HrA
  iintro HO
  iapply (Rounds.wp_signal 𝒱₀ ER (sched J) (c : Thread nD τ) none (dst := (pB c : Thread nD τ)) (κ := K (pB c, none))
      (d := true) (by rw [duties_bar]; exact Finset.mem_univ _) ((amount_bar J (pB c) true).trans (by decide)) () (due c 0) rfl)
    $$ [HO HtB HpB]
  · isplitr; · iexact HIB
    isplitl [HO]; · iexact HO
    isplitl [HtB]; · iexact HtB
    isplitl [HpB]; · rw [payload_bar]; iexact HpB
    iexact HrB
  iintro HO
  rw [wp_ret]; imodintro
  iapply Hk; iexists W; iexact HO

/-- The barrier wait brings the partners' landing places; then the modulation rows and the input are read. -/
theorem part2 {v19 v23 : BitVec 32} {Q} :
    iprop(Recs J K ∗ (∃ W, owes (c : Thread nD τ) (due c 0) W) ∗ atPos ER (barCell c) 0 ∅ 0 ∗ cred (tallyAt (barCell c) () 2)
        ∗ Own c (Memref.whole cc0_stg5_0) fullShare Finset.univ (J c).tv ∗ Own c (Memref.whole cc0_stg6_0) fullShare Finset.univ (J c).wa
        ∗ Own c (Memref.whole cc0_stg0_0) fullShare Finset.univ (J c).x)
      ⊢ iprop((∀ w1 w2 w3 w4 w5 w6 w7 w8, ((∃ W, owes (c : Thread nD τ) (due c 0) W) ∗ semVal (barCell c) 0 ∗ barPay (F := F) c 0 ∗ barPay (F := F) c 1
          ∗ Own c (Memref.whole cc0_stg5_0) fullShare Finset.univ (J c).tv ∗ Own c (Memref.whole cc0_stg6_0) fullShare Finset.univ (J c).wa
          ∗ Own c (Memref.whole cc0_stg0_0) fullShare Finset.univ (J c).x)
          -∗ Q ⟨w1, w2, w3, w4, w5, w6, w7, w8, (J c).m0, (J c).m1, (J c).m2, (J c).m3, (J c).m4, (J c).m5, k0_pay8 (J c).x⟩)
        -∗ Runs c (withBufs (k0_part2 (F := F)) v19 v23 (SemArray.scalar (sig.barrier 0 rfl))) Q) := by
  rw [k0_part2_eq_skeleton]; unfold Runs withBufs k0_part2_skel
  simp only [semWaitWord, Prog.lift, Prog.bind_op, Prog.bind_ret, Prog.pure_eq_ret]
  iintro ⟨#HR, ⟨%W, HO⟩, Hat, Hc, H5, H6, H0⟩ Hk
  ihave #HI := (recs_inv J K (c, none)) $$ HR
  ihave #Hl := (recs_lev J K) $$ HR
  iapply (Rounds.wp_wait_rest_token 𝒱₀ ER (sched J) (c : Thread nD τ) none (κ := K (c, none)) (sm := .reg barS)
      (wpE_semWait_eq 𝒱₀ (c : Thread nD τ) none Set.univ) (Set.mem_univ _) () (O := due c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_due (F := F) c (.reg barS) 0 (fun p _ => by show 1 < _; omega)); iexact Hl
    iexact Hat
  iintro ⟨HO, Hat, -, Hpay⟩
  ihave Hp := (Entails.of_eq (rest_bar J c)) $$ Hpay
  imod (Rounds.cell_close ER (sched J) (Set.mem_univ (K (c, none))) (fun h => h) (R := 0 + 1) (duties_later J (barCell c))) $$ [Hat] with Hz
  · isplitr; · iexact HI
    iexact Hat
  iapply (wp_load_all zero2) $$ H5; iintro H5
  iapply (wp_load_all zero2) $$ H6; iintro H6
  iapply (wp_load_all zero3) $$ H0; iintro H0
  rw [wp_ret]; imodintro
  iapply Hk
  isplitl [HO]; · iexists _; iexact HO
  isplitl [Hz]; · iexact Hz
  icases Hp with ⟨Hp0, Hp1⟩
  isplitl [Hp0]; · iexact Hp0
  isplitl [Hp1]; · iexact Hp1
  isplitl [H5]; · iexact H5
  isplitl [H6] <;> iassumption

/-- The weights are read and the queries projected. -/
theorem part3 {Q} :
    iprop(Own c (Memref.whole cc0_stg1_0) fullShare Finset.univ (J c).wq ∗ Own c (Memref.whole cc0_stg2_0) fullShare Finset.univ (J c).wk
        ∗ Own c (Memref.whole cc0_stg3_0) fullShare Finset.univ (J c).wv ∗ Own c (Memref.whole cc0_stg4_0) fullShare Finset.univ (J c).wo)
      ⊢ iprop(((Own c (Memref.whole cc0_stg1_0) fullShare Finset.univ (J c).wq ∗ Own c (Memref.whole cc0_stg2_0) fullShare Finset.univ (J c).wk
          ∗ Own c (Memref.whole cc0_stg3_0) fullShare Finset.univ (J c).wv ∗ Own c (Memref.whole cc0_stg4_0) fullShare Finset.univ (J c).wo)
          -∗ Q ⟨(J c).xn, k0_pay10 (J c).wk, k0_pay11 (J c).wv, (J c).wob, k0_pay13 (J c).m0 (J c).m1 (k0_pay8 (J c).x) (J c).wq⟩)
        -∗ Runs c (withBufs (k0_part3 (F := F)) (J c).m0 (J c).m1 (k0_pay8 (J c).x)) Q) := by
  rw [k0_part3_eq_skeleton]; unfold Runs withBufs k0_part3_skel
  simp only [Prog.lift, Prog.bind_op, Prog.bind_ret, Prog.pure_eq_ret]
  iintro ⟨H1, H2, H3, H4⟩ Hk
  iapply (wp_load_all zero2) $$ H1; iintro H1
  iapply (wp_load_all zero2) $$ H2; iintro H2
  iapply (wp_load_all zero2) $$ H3; iintro H3
  iapply (wp_load_all zero2) $$ H4; iintro H4
  rw [wp_ret]; imodintro
  iapply Hk
  isplitl [H1]; · iexact H1
  isplitl [H2]; · iexact H2
  isplitl [H3] <;> iassumption

/-- The queries are stored, and those of the half of batch 0 to send are read back. -/
theorem part4 {v37 : BitVec 32} {X} {Q} :
    (Own c qM fullShare Finset.univ X : sProp 𝕄)
      ⊢ iprop((Own c qM fullShare Finset.univ (J c).q
          -∗ Q ⟨(J c).kk, (J c).vv, cutQ (sendT 0 c) (J c).q,
            k0_pay17 (J c).xn (k0_pay10 (J c).wk) (k0_pay11 (J c).wv) (cutQ (sendT 0 c) (J c).q),
            k0_pay18 (J c).xn (k0_pay10 (J c).wk) (k0_pay11 (J c).wv) (cutQ (sendT 0 c) (J c).q)⟩)
        -∗ Runs c (withBufs (k0_part4 (F := F)) c v37 (J c).xn (k0_pay10 (J c).wk) (k0_pay11 (J c).wv)
          (k0_pay13 (J c).m0 (J c).m1 (k0_pay8 (J c).x) (J c).wq)) Q) := by
  rw [k0_part4_eq_skeleton]; unfold Runs withBufs k0_part4_skel
  simp only [Prog.lift, Prog.bind_op, Prog.bind_ret, Prog.pure_eq_ret]
  iintro H Hk
  iapply (wp_load_all zero2) $$ H; iintro H
  iapply (wp_store_all zero2) $$ H; iintro H
  iapply (wp_loadQ (sendT 0 c) (off1_at c)) $$ H; iintro H
  rw [wp_ret]; imodintro
  iapply Hk; iexact H

/-- The attention output of the half of batch 0 to send. -/
theorem part5 {v37 v39 : BitVec 32} {X} {Q} :
    (Own c accM fullShare (band (two (sendT 0 c))) X : sProp 𝕄)
      ⊢ iprop((Own c accM fullShare (band (two (sendT 0 c))) (AA J 0 c) -∗ Q ⟨⟩)
        -∗ Runs c (withBufs (k0_part5 (F := F)) c v37 v39 (J c).wob (J c).kk (J c).vv (cutQ (sendT 0 c) (J c).q)
          (k0_pay17 (J c).xn (k0_pay10 (J c).wk) (k0_pay11 (J c).wv) (cutQ (sendT 0 c) (J c).q))
          (k0_pay18 (J c).xn (k0_pay10 (J c).wk) (k0_pay11 (J c).wv) (cutQ (sendT 0 c) (J c).q))) Q) := by
  rw [k0_part5_eq_skeleton]; unfold Runs withBufs k0_part5_skel
  simp only [Prog.lift, Prog.bind_op, Prog.bind_ret, Prog.pure_eq_ret]
  iintro H Hk
  iapply (wp_loadT (sendT 0 c) (off2_at c) (Finset.Subset.refl _)) $$ H; iintro H
  iapply (wp_storeT (sendT 0 c) (AA J 0 c) (off2_at c) (att_of J c _ (hT_send 0 c))) $$ H; iintro H
  rw [wp_ret]; imodintro
  iapply Hk; iexact H

/-- The queries of the half of batch 1 to send are read. -/
theorem part6 {Q} :
    (Own c qM fullShare Finset.univ (J c).q : sProp 𝕄)
      ⊢ iprop((Own c qM fullShare Finset.univ (J c).q
          -∗ Q ⟨cutQ (sendT 1 c) (J c).q, k0_pay20 (J c).kk (J c).vv (cutQ (sendT 1 c) (J c).q), k0_pay21 (J c).kk (J c).vv (cutQ (sendT 1 c) (J c).q),
            k0_pay22 (J c).vv, k0_pay23 (J c).kk (cutQ (sendT 1 c) (J c).q)⟩)
        -∗ Runs c (withBufs (k0_part6 (F := F)) c (J c).kk (J c).vv) Q) := by
  rw [k0_part6_eq_skeleton]; unfold Runs withBufs k0_part6_skel
  simp only [Prog.lift, Prog.bind_op, Prog.bind_ret, Prog.pure_eq_ret]
  iintro H Hk
  iapply (wp_loadQ (sendT 1 c) (off3_at c)) $$ H; iintro H
  rw [wp_ret]; imodintro
  iapply Hk; iexact H

/-- The attention output of the half of batch 1 to send. -/
theorem part7 {w1 w2 w3 : BitVec 32} {X} {Q} :
    (Own c accM fullShare (band (two (sendT 1 c))) X : sProp 𝕄)
      ⊢ iprop((Own c accM fullShare (band (two (sendT 1 c))) (AA J 0 c) -∗ Q ⟨⟩)
        -∗ Runs c (withBufs (k0_part7 (F := F)) c w1 w2 w3 (J c).wob (J c).kk (J c).vv (cutQ (sendT 1 c) (J c).q)
          (k0_pay20 (J c).kk (J c).vv (cutQ (sendT 1 c) (J c).q)) (k0_pay21 (J c).kk (J c).vv (cutQ (sendT 1 c) (J c).q))
          (k0_pay22 (J c).vv) (k0_pay23 (J c).kk (cutQ (sendT 1 c) (J c).q))) Q) := by
  rw [k0_part7_eq_skeleton]; unfold Runs withBufs k0_part7_skel
  simp only [Prog.lift, Prog.bind_op, Prog.bind_ret, Prog.pure_eq_ret]
  iintro H Hk
  iapply (wp_loadT (sendT 1 c) (off4_at c) (Finset.Subset.refl _)) $$ H; iintro H
  iapply (wp_storeT (sendT 1 c) (AA J 0 c) (off4_at c) (att_of' J c _ (hT_send 1 c))) $$ H; iintro H
  rw [wp_ret]; imodintro
  iapply Hk; iexact H

end Cert.KernelProof
-- ==== Proof.Parts2.lean ====
/-
# The body, second part: the kept attention output and the first residual

The first two transfers go out while the device computes the attention output of the two halves it keeps; the partner's half is added to
each; a quarter of the sum goes to the other partner; the partner's quarter is added to the one that the device
finishes, with the input.
-/
module

public import proofs.«01_k».proof.Proof.Piece

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-- The two halves to send go out; the queries of the half of batch 0 to keep are read. -/
theorem part8 {w1 w2 w3 : BitVec 32} {Q} :
    iprop(Recs J K ∗ St c 0 0 0 ∗ Own c accM fullShare (band (two (sendT 0 c))) (AA J 0 c) ∗ zone (F := F) 0 0 0 c ∗ Own c accM fullShare (band (two (sendT 1 c))) (AA J 0 c) ∗ zone (F := F) 0 1 0 c
        ∗ Own c qM fullShare Finset.univ (J c).q)
      ⊢ iprop(((St c 2 0 0 ∗ cr (F := F) c (pos 0 0 0) ∗ cr (F := F) c (pos 0 1 0) ∗ Own c qM fullShare Finset.univ (J c).q)
          -∗ Q ⟨cutQ (keepT 0 c) (J c).q, k0_pay25 (J c).kk (J c).vv (cutQ (keepT 0 c) (J c).q), k0_pay26 (J c).vv,
            k0_pay27 (J c).kk (cutQ (keepT 0 c) (J c).q), Scalar.ofBits .f32 0x3DD105EC#32⟩)
        -∗ Runs c (withBufs (k0_part8 (F := F)) c w1 w2 w3 (J c).kk (J c).vv) Q) := by
  rw [k0_part8_eq_skeleton]; unfold Runs withBufs k0_part8_skel
  simp only [Prog.lift, Prog.bind_op, Prog.bind_ret, Prog.pure_eq_ret]
  iintro ⟨#HR, HS, Ha, Hz, Ha', Hz', Hq⟩ Hk
  iapply (send_0 (J := J) (K := K) 0 0 (dev3_at c) (off5_at c) rfl rfl rfl rfl) $$ [HS Ha Hz]
  · isplitr; · iexact HR
    isplitl [HS]; · iexact HS
    isplitl [Ha] <;> iassumption
  iintro ⟨HS, Hc⟩
  iapply (send_0 (J := J) (K := K) 0 1 (dev4_at c) (off6_at c) rfl rfl rfl rfl) $$ [HS Ha' Hz']
  · isplitr; · iexact HR
    isplitl [HS]; · iexact HS
    isplitl [Ha'] <;> iassumption
  iintro ⟨HS, Hc'⟩
  iapply (wp_loadQ (keepT 0 c) (off7_at c)) $$ Hq; iintro Hq
  rw [wp_ret]; imodintro
  iapply Hk
  isplitl [HS]; · iexact HS
  isplitl [Hc]; · iexact Hc
  isplitl [Hc'] <;> iassumption

/-- Three heads of the half of batch 0 to keep. -/
theorem part9 {Q} :
    (Q ⟨k0_pay28 (k0_pay26 (J c).vv) (k0_pay27 (J c).kk (cutQ (keepT 0 c) (J c).q)) (Scalar.ofBits .f32 0x3DD105EC#32),
        k0_pay29 (J c).kk (J c).vv (cutQ (keepT 0 c) (J c).q), k0_pay30 (J c).kk (J c).vv (cutQ (keepT 0 c) (J c).q)⟩ : sProp 𝕄)
      ⊢ Runs c (withBufs (k0_part9 (F := F)) (J c).kk (J c).vv (cutQ (keepT 0 c) (J c).q) (k0_pay26 (J c).vv)
          (k0_pay27 (J c).kk (cutQ (keepT 0 c) (J c).q)) (Scalar.ofBits .f32 0x3DD105EC#32)) Q := by
  rw [k0_part9_eq_skeleton]; unfold Runs withBufs k0_part9_skel
  simp only [Prog.lift, Prog.bind_op, Prog.bind_ret, Prog.pure_eq_ret]
  iintro H
  rw [wp_ret]; imodintro
  iexact H

/-- The attention output of the half of batch 0 to keep; the queries of batch 1's are read. -/
theorem part10 {w1 w2 : BitVec 32} {X} {Q} :
    iprop(Own c accM fullShare (band (two (keepT 0 c))) X ∗ Own c qM fullShare Finset.univ (J c).q)
      ⊢ iprop(((Own c accM fullShare (band (two (keepT 0 c))) (AA J 0 c) ∗ Own c qM fullShare Finset.univ (J c).q)
          -∗ Q ⟨cutQ (keepT 1 c) (J c).q, k0_pay32 (J c).kk (J c).vv (cutQ (keepT 1 c) (J c).q), k0_pay34 (J c).kk (cutQ (keepT 1 c) (J c).q), k0_pay35 (J c).kk (J c).vv (cutQ (keepT 1 c) (J c).q)⟩)
        -∗ Runs c (withBufs (k0_part10 (F := F)) c w1 w2 (J c).wob (J c).kk (J c).vv (k0_pay25 (J c).kk (J c).vv (cutQ (keepT 0 c) (J c).q))
          (k0_pay28 (k0_pay26 (J c).vv) (k0_pay27 (J c).kk (cutQ (keepT 0 c) (J c).q)) (Scalar.ofBits .f32 0x3DD105EC#32))
          (k0_pay29 (J c).kk (J c).vv (cutQ (keepT 0 c) (J c).q)) (k0_pay30 (J c).kk (J c).vv (cutQ (keepT 0 c) (J c).q))) Q) := by
  rw [k0_part10_eq_skeleton]; unfold Runs withBufs k0_part10_skel
  simp only [Prog.lift, Prog.bind_op, Prog.bind_ret, Prog.pure_eq_ret]
  iintro ⟨Ha, Hq⟩ Hk
  iapply (wp_loadT (keepT 0 c) (off8_at c) (Finset.Subset.refl _)) $$ Ha; iintro Ha
  iapply (wp_storeT (keepT 0 c) (AA J 0 c) (off8_at c) (att_of J c _ (hT_keep 0 c))) $$ Ha; iintro Ha
  iapply (wp_loadQ (keepT 1 c) (off9_at c)) $$ Hq; iintro Hq
  rw [wp_ret]; imodintro
  iapply Hk
  isplitl [Ha] <;> iassumption

/-- The attention output of the half of batch 1 to keep. -/
theorem part11 {w1 : BitVec 32} {X} {Q} :
    (Own c accM fullShare (band (two (keepT 1 c))) X : sProp 𝕄)
      ⊢ iprop((Own c accM fullShare (band (two (keepT 1 c))) (AA J 0 c) -∗ Q ⟨⟩)
        -∗ Runs c (withBufs (k0_part11 (F := F)) c w1 (J c).wob (J c).kk (J c).vv (cutQ (keepT 1 c) (J c).q) (k0_pay32 (J c).kk (J c).vv (cutQ (keepT 1 c) (J c).q)) (k0_pay34 (J c).kk (cutQ (keepT 1 c) (J c).q)) (k0_pay35 (J c).kk (J c).vv (cutQ (keepT 1 c) (J c).q))) Q) := by
  rw [k0_part11_eq_skeleton]; unfold Runs withBufs k0_part11_skel
  simp only [Prog.lift, Prog.bind_op, Prog.bind_ret, Prog.pure_eq_ret]
  iintro Ha Hk
  iapply (wp_loadT (keepT 1 c) (off10_at c) (Finset.Subset.refl _)) $$ Ha; iintro Ha
  iapply (wp_storeT (keepT 1 c) (AA J 0 c) (off10_at c) (att_of' J c _ (hT_keep 1 c))) $$ Ha; iintro Ha
  rw [wp_ret]; imodintro
  iapply Hk; iexact Ha

/-- The waits on the first transfer and half of the second. -/
theorem part12 {w1 w2 : BitVec 32} {Q} :
    iprop(Recs J K ∗ St c 2 0 0 ∗ cr (F := F) c (pos 0 0 0) ∗ cr (F := F) c (pos 0 1 0))
      ⊢ iprop(((St c 2 2 1 ∗ sendPay J 0 0 0 c ∗ recvPay J 0 0 0 c ∗ sendPay J 0 1 0 c) -∗ Q ⟨⟩)
        -∗ Runs c (withBufs (k0_part12 (F := F)) c w1 w2) Q) := by
  rw [k0_part12_eq_skeleton]; unfold Runs withBufs k0_part12_skel
  simp only [Prog.lift, Prog.bind_op, Prog.bind_ret, Prog.pure_eq_ret]
  iintro ⟨#HR, HS, Hc, Hc'⟩ Hk
  iapply (got_send (t := 0) (J := J) (K := K) 0 0 0 rfl rfl rfl) $$ [HS Hc]
  · isplitr; · iexact HR
    isplitl [HS] <;> iassumption
  iintro ⟨HS, Hs⟩
  iapply (got_recv (a := 2) (r := 0) (J := J) (K := K) 0 0 0 rfl rfl (by decide) rfl) $$ [HS]
  · isplitr; · iexact HR
    iexact HS
  iintro ⟨HS, Hr⟩
  iapply (got_send (t := 1) (J := J) (K := K) 0 1 0 rfl rfl rfl) $$ [HS Hc']
  · isplitr; · iexact HR
    isplitl [HS] <;> iassumption
  iintro ⟨HS, Hs'⟩
  rw [wp_ret]; imodintro
  iapply Hk
  isplitl [HS]; · iexact HS
  isplitl [Hs]; · iexact Hs
  isplitl [Hr] <;> iassumption

/-- The partner's half is added to each kept half. -/
theorem part13 {w1 w2 w3 w4 : BitVec 32} {Q} :
    iprop(Recs J K ∗ St c 2 2 1 ∗ Own c accM fullShare (band (two (keepT 0 c))) (AA J 0 c) ∗ Own c accM fullShare (band (two (keepT 1 c))) (AA J 0 c) ∗ recvPay J 0 0 0 c)
      ⊢ iprop((∀ w, (St c 2 2 2 ∗ Own c accM fullShare (band (two (keepT 0 c))) (BB J 0 c) ∗ Own c accM fullShare (band (two (keepT 1 c))) (BB J 0 c)
          ∗ Any (F := F) c (bigM 0) Finset.univ ∗ Any (F := F) c (bigM 1) Finset.univ) -∗ Q w)
        -∗ Runs c (withBufs (k0_part13 (F := F)) c w1 w2 w3 w4) Q) := by
  rw [k0_part13_eq_skeleton]; unfold Runs withBufs k0_part13_skel
  simp only [Prog.lift, Prog.bind_op, Prog.bind_ret, Prog.pure_eq_ret]
  iintro ⟨#HR, HS, Ha, Ha', Hr⟩ Hk
  iapply (got_recv (a := 2) (r := 1) (J := J) (K := K) 0 1 0 rfl rfl (by decide) rfl) $$ [HS]
  · isplitr; · iexact HR
    iexact HS
  iintro ⟨HS, Hr'⟩
  ihave Hr := (Entails.of_eq (recvPay_0 J c 0 0)) $$ Hr
  ihave Hr' := (Entails.of_eq (recvPay_0 J c 0 1)) $$ Hr'
  iapply (wp_loadT (keepT 0 c) (off8_at c) (Finset.Subset.refl _)) $$ Ha; iintro Ha
  iapply (wp_loadBig 0 rfl) $$ Hr; iintro Hr
  iapply (wp_loadT (keepT 0 c) (off8_at c) (Finset.Subset.refl _)) $$ Ha; iintro Ha
  iapply (wp_storeT (keepT 0 c) (BB J 0 c) (off8_at c) (sum_keep J c 0 0)) $$ Ha; iintro Ha
  iapply (wp_loadT (keepT 1 c) (off10_at c) (Finset.Subset.refl _)) $$ Ha'; iintro Ha'
  iapply (wp_loadBig 1 rfl) $$ Hr'; iintro Hr'
  iapply (wp_loadT (keepT 1 c) (off10_at c) (Finset.Subset.refl _)) $$ Ha'; iintro Ha'
  iapply (wp_storeT (keepT 1 c) (BB J 0 c) (off10_at c) (sum_keep J c 1 0)) $$ Ha'; iintro Ha'
  rw [wp_ret]; imodintro
  iapply Hk
  isplitl [HS]; · iexact HS
  isplitl [Ha]; · iexact Ha
  isplitl [Ha']; · iexact Ha'
  isplitl [Hr]; · iapply (any_of_own (F := F) _); iexact Hr
  iapply (any_of_own (F := F) _); iexact Hr'

/-- A quarter of each sum goes to the other partner; the wait on the first. -/
theorem part14 {w1 w2 w3 : BitVec 32} {Q} :
    iprop(Recs J K ∗ St c 2 2 2 ∗ Own c accM fullShare (band {st2U 0 c}) (BB J 0 c) ∗ zone (F := F) 0 0 1 c ∗ Own c accM fullShare (band {st2U 1 c}) (BB J 0 c) ∗ zone (F := F) 0 1 1 c)
      ⊢ iprop((∀ w w', (St c 4 3 2 ∗ cr (F := F) c (pos 0 1 1) ∗ sendPay J 0 0 1 c) -∗ Q ⟨w, w'⟩)
        -∗ Runs c (withBufs (k0_part14 (F := F)) c w1 w2 w3) Q) := by
  rw [k0_part14_eq_skeleton]; unfold Runs withBufs k0_part14_skel
  simp only [Prog.lift, Prog.bind_op, Prog.bind_ret, Prog.pure_eq_ret]
  iintro ⟨#HR, HS, Ha, Hz, Ha', Hz'⟩ Hk
  iapply (send_1 (J := J) (K := K) 0 0 (dev5_at c) (off11_at c) rfl rfl rfl rfl) $$ [HS Ha Hz]
  · isplitr; · iexact HR
    isplitl [HS]; · iexact HS
    isplitl [Ha] <;> iassumption
  iintro ⟨HS, Hc⟩
  iapply (send_1 (J := J) (K := K) 0 1 (dev6_at c) (off12_at c) rfl rfl rfl rfl) $$ [HS Ha' Hz']
  · isplitr; · iexact HR
    isplitl [HS]; · iexact HS
    isplitl [Ha'] <;> iassumption
  iintro ⟨HS, Hc'⟩
  iapply (got_send (t := 2) (J := J) (K := K) 0 0 1 rfl rfl rfl) $$ [HS Hc]
  · isplitr; · iexact HR
    isplitl [HS] <;> iassumption
  iintro ⟨HS, Hs⟩
  rw [wp_ret]; imodintro
  iapply Hk
  isplitl [HS]; · iexact HS
  isplitl [Hc'] <;> iassumption

/-- The remaining waits on the quarters; the sums for batch 0. -/
theorem part15 {w1 w2 w3 w4 : BitVec 32} {Q} :
    iprop(Recs J K ∗ St c 4 3 2 ∗ cr (F := F) c (pos 0 1 1) ∗ Own c accM fullShare (band {mineU 0 c}) (BB J 0 c) ∗ Own c (Memref.whole cc0_stg0_0) fullShare Finset.univ (J c).x)
      ⊢ iprop((∀ w, (St c 4 4 4 ∗ sendPay J 0 1 1 c ∗ Own c (smallM 0) fullShare Finset.univ (liftU (cutU (mineU 0 c) (BB J 0 (peer 0 1 c))))
          ∗ Own c (smallM 1) fullShare Finset.univ (liftU (cutU (mineU 1 c) (BB J 0 (peer 1 1 c))))
          ∗ Own c accM fullShare (band {mineU 0 c}) (BB J 0 c) ∗ Own c (Memref.whole cc0_stg0_0) fullShare Finset.univ (J c).x)
          -∗ Q ⟨w, k0_pay39 (cutU (mineU 0 c) (BB J 0 c)) (liftU (cutU (mineU 0 c) (BB J 0 (peer 0 1 c)))), k0_pay40 (cut3 (mineU 0 c) (J c).x)⟩)
        -∗ Runs c (withBufs (k0_part15 (F := F)) c w1 w2 w3 w4) Q) := by
  rw [k0_part15_eq_skeleton]; unfold Runs withBufs k0_part15_skel
  simp only [Prog.lift, Prog.bind_op, Prog.bind_ret, Prog.pure_eq_ret]
  iintro ⟨#HR, HS, Hc, Ha, Hx⟩ Hk
  iapply (got_recv (a := 4) (r := 2) (J := J) (K := K) 0 0 1 rfl rfl (by decide) rfl) $$ [HS]
  · isplitr; · iexact HR
    iexact HS
  iintro ⟨HS, Hr⟩
  iapply (got_send (t := 3) (J := J) (K := K) 0 1 1 rfl rfl rfl) $$ [HS Hc]
  · isplitr; · iexact HR
    isplitl [HS] <;> iassumption
  iintro ⟨HS, Hs⟩
  iapply (got_recv (a := 4) (r := 3) (J := J) (K := K) 0 1 1 rfl rfl (by decide) rfl) $$ [HS]
  · isplitr; · iexact HR
    iexact HS
  iintro ⟨HS, Hr'⟩
  ihave Hr := (Entails.of_eq (recvPay_1 J c 0 0)) $$ Hr
  ihave Hr' := (Entails.of_eq (recvPay_1 J c 0 1)) $$ Hr'
  iapply (wp_loadU (mineU 0 c) (off13_at c) (Finset.Subset.refl _)) $$ Ha; iintro Ha
  iapply (wp_loadSmall 0 rfl) $$ Hr; iintro Hr
  iapply (wp_load3U (mineU 0 c) (off14_at c) (Finset.subset_univ _)) $$ Hx; iintro Hx
  rw [wp_ret]; imodintro
  iapply Hk
  isplitl [HS]; · iexact HS
  isplitl [Hs]; · iexact Hs
  isplitl [Hr]; · iexact Hr
  isplitl [Hr']; · iexact Hr'
  isplitl [Ha] <;> iassumption

/-- The first residual of the two quarters that the device finishes; the weights of the MLP are read. -/
theorem part16 {w1 w2 w3 w4 : BitVec 32} {X X'} {Q} :
    iprop(Own c g1M fullShare (band {mineU 0 c}) X ∗ Own c g1M fullShare (band {mineU 1 c}) X' ∗ Own c accM fullShare (band {mineU 1 c}) (BB J 0 c)
        ∗ Own c (smallM 1) fullShare Finset.univ (liftU (cutU (mineU 1 c) (BB J 0 (peer 1 1 c)))) ∗ Own c (Memref.whole cc0_stg0_0) fullShare Finset.univ (J c).x
        ∗ Own c (Memref.whole cc0_stg7_0) fullShare Finset.univ (J c).w1 ∗ Own c (Memref.whole cc0_stg8_0) fullShare Finset.univ (J c).w2)
      ⊢ iprop(((Own c g1M fullShare (band {mineU 0 c}) (GG J 0) ∗ Own c g1M fullShare (band {mineU 1 c}) (GG J 0) ∗ Own c accM fullShare (band {mineU 1 c}) (BB J 0 c)
          ∗ Any (F := F) c (smallM 1) Finset.univ ∗ Own c (Memref.whole cc0_stg0_0) fullShare Finset.univ (J c).x
          ∗ Own c (Memref.whole cc0_stg7_0) fullShare Finset.univ (J c).w1 ∗ Own c (Memref.whole cc0_stg8_0) fullShare Finset.univ (J c).w2) -∗ Q ⟨(J c).w1b, (J c).w2b⟩)
        -∗ Runs c (withBufs (k0_part16 (F := F)) c w1 w2 w3 (J c).m2 w4
          (k0_pay39 (cutU (mineU 0 c) (BB J 0 c)) (liftU (cutU (mineU 0 c) (BB J 0 (peer 0 1 c))))) (k0_pay40 (cut3 (mineU 0 c) (J c).x))) Q) := by
  rw [k0_part16_eq_skeleton]; unfold Runs withBufs k0_part16_skel
  simp only [Prog.lift, Prog.bind_op, Prog.bind_ret, Prog.pure_eq_ret]
  iintro ⟨Hg, Hg', Ha, Hr, Hx, H7, H8⟩ Hk
  iapply (wp_loadU (mineU 0 c) (off13_at c) (Finset.Subset.refl _)) $$ Hg; iintro Hg
  iapply (wp_storeU (mineU 0 c) (GG J 0) (off13_at c) (G1_mine0 J c)) $$ Hg; iintro Hg
  iapply (wp_loadU (mineU 1 c) (off15_at c) (Finset.Subset.refl _)) $$ Ha; iintro Ha
  iapply (wp_loadSmall 1 rfl) $$ Hr; iintro Hr
  iapply (wp_load3U (mineU 1 c) (off16_at c) (Finset.subset_univ _)) $$ Hx; iintro Hx
  iapply (wp_loadU (mineU 1 c) (off15_at c) (Finset.Subset.refl _)) $$ Hg'; iintro Hg'
  iapply (wp_storeU (mineU 1 c) (GG J 0) (off15_at c) (G1_mine1 J c)) $$ Hg'; iintro Hg'
  iapply (wp_load_all zero2) $$ H7; iintro H7
  iapply (wp_load_all zero2) $$ H8; iintro H8
  rw [wp_ret]; imodintro
  iapply Hk
  isplitl [Hg]; · iexact Hg
  isplitl [Hg']; · iexact Hg'
  isplitl [Ha]; · iexact Ha
  isplitl [Hr]; · iapply (any_of_own (F := F) _); iexact Hr
  isplitl [Hx]; · iexact Hx
  isplitl [H7] <;> iassumption

end Cert.KernelProof
-- ==== Proof.Parts3.lean ====
/-
# The body, third part: the first gathering and the MLP

The finished quarters are exchanged, then the halves, and the device computes its share of the MLP of each chunk as it has it.
-/
module

public import proofs.«01_k».proof.Proof.Piece

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-- The two finished quarters go out; the MLP of the first begins. -/
theorem part17 {w1 w2 w3 : BitVec 32} {Q} :
    iprop(Recs J K
        ∗ St c 4 4 4
        ∗ Own c g1M fullShare (band {mineU 0 c}) (GG J 0)
        ∗ Own c g1M fullShare (band {mineU 1 c}) (GG J 0)
        ∗ zone (F := F) 0 0 2 c
        ∗ zone (F := F) 0 1 2 c
        ∗ Any (F := F) c (smallM 0) Finset.univ
        ∗ Any (F := F) c (smallM 1) Finset.univ)
      ⊢ iprop((∀ w, (St c 6 4 4
        ∗ cr (F := F) c (pos 0 0 2)
        ∗ cr (F := F) c (pos 0 1 2)
        ∗ Own c g1M fullShare.right (band {mineU 0 c}) (GG J 0)
        ∗ Own c g1M fullShare.right (band {mineU 1 c}) (GG J 0))
          -∗ Q ⟨w, k0_pay45 (cutU (mineU 0 c) (GG J 0)), k0_pay46 (J c).m3, Scalar.ofBits .f32 0x3F800000#32⟩)
        -∗ Runs c (withBufs (k0_part17 (F := F)) c w1 w2 w3 (J c).m3) Q) := by
  rw [k0_part17_eq_skeleton]; unfold Runs withBufs k0_part17_skel
  simp only [Prog.lift, Prog.bind_op, Prog.bind_ret, Prog.pure_eq_ret]
  iintro ⟨#HR, HS, Hg, Hg', Hz, Hz', Hb, Hb'⟩ Hk
  ihave Hh := own_halve $$ Hg; icases Hh with ⟨Hl, Hg⟩
  ihave Hh := own_halve $$ Hg'; icases Hh with ⟨Hl', Hg'⟩
  iapply (send_2 (J := J) (K := K) 0 0 rfl (dev7_at c) (off17_at c) rfl rfl rfl) $$ [HS Hl Hz Hb]
  · isplitr; · iexact HR
    isplitl [HS]; · iexact HS
    isplitl [Hl]; · iexact Hl
    isplitl [Hz]; · iexact Hz
    rw [if_pos rfl]; iexact Hb
  iintro ⟨HS, Hc⟩
  iapply (send_2 (J := J) (K := K) 0 1 rfl (dev8_at c) (off18_at c) rfl rfl rfl) $$ [HS Hl' Hz' Hb']
  · isplitr; · iexact HR
    isplitl [HS]; · iexact HS
    isplitl [Hl']; · iexact Hl'
    isplitl [Hz']; · iexact Hz'
    rw [if_pos rfl]; iexact Hb'
  iintro ⟨HS, Hc'⟩
  iapply (wp_loadU (mineU 0 c) (off13_at c) (Finset.Subset.refl _)) $$ Hg; iintro Hg
  rw [wp_ret]; imodintro
  iapply Hk
  isplitl [HS]; · iexact HS
  isplitl [Hc]; · iexact Hc
  isplitl [Hc']; · iexact Hc'
  isplitl [Hg] <;> iassumption

/-- The MLP of the first finished quarter. -/
theorem part18 {w1 w2 : BitVec 32} {X} {Q} :
    iprop(Own c accM fullShare (band {mineU 0 c}) X
        ∗ Own c g1M fullShare.right (band {mineU 1 c}) (GG J 0))
      ⊢ iprop((∀ w, (Own c accM fullShare (band {mineU 0 c}) (AA J 1 c)
        ∗ Own c g1M fullShare.right (band {mineU 1 c}) (GG J 0))
          -∗ Q ⟨w, k0_pay50 (cutU (mineU 1 c) (GG J 0)), k0_pay51 (cutU (mineU 1 c) (GG J 0))⟩)
        -∗ Runs c (withBufs (k0_part18 (F := F)) c w1 (J c).m4 (J c).w1b (J c).w2b w2 (k0_pay45 (cutU (mineU 0 c) (GG J 0))) (k0_pay46 (J c).m3) (Scalar.ofBits .f32 0x3F800000#32)) Q) := by
  rw [k0_part18_eq_skeleton]; unfold Runs withBufs k0_part18_skel
  simp only [Prog.lift, Prog.bind_op, Prog.bind_ret, Prog.pure_eq_ret]
  iintro ⟨Ha, Hg⟩ Hk
  iapply (wp_loadU (mineU 0 c) (off13_at c) (Finset.Subset.refl _)) $$ Ha; iintro Ha
  iapply (wp_storeU (mineU 0 c) (AA J 1 c) (off13_at c) (mlp_U0 J c _ (mine_div 0 c))) $$ Ha; iintro Ha
  iapply (wp_loadU (mineU 1 c) (off15_at c) (Finset.Subset.refl _)) $$ Hg; iintro Hg
  rw [wp_ret]; imodintro
  iapply Hk
  isplitl [Ha] <;> iassumption

/-- The MLP of the second; the wait on the first quarter sent. -/
theorem part19 {w1 w2 : BitVec 32} {X} {Q} :
    iprop(Recs J K
        ∗ St c 6 4 4
        ∗ cr (F := F) c (pos 0 0 2)
        ∗ Own c accM fullShare (band {mineU 1 c}) X)
      ⊢ iprop(((St c 6 5 4
        ∗ sendPay J 0 0 2 c
        ∗ Own c accM fullShare (band {mineU 1 c}) (AA J 1 c))
          -∗ Q ⟨⟩)
        -∗ Runs c (withBufs (k0_part19 (F := F)) c w1 (J c).m3 (J c).m4 (J c).w1b (J c).w2b w2 (k0_pay50 (cutU (mineU 1 c) (GG J 0))) (k0_pay51 (cutU (mineU 1 c) (GG J 0)))) Q) := by
  rw [k0_part19_eq_skeleton]; unfold Runs withBufs k0_part19_skel
  simp only [Prog.lift, Prog.bind_op, Prog.bind_ret, Prog.pure_eq_ret]
  iintro ⟨#HR, HS, Hc, Ha⟩ Hk
  iapply (wp_loadU (mineU 1 c) (off15_at c) (Finset.Subset.refl _)) $$ Ha; iintro Ha
  iapply (wp_storeU (mineU 1 c) (AA J 1 c) (off15_at c) (mlp_U1 J c _ (mine_div 1 c))) $$ Ha; iintro Ha
  iapply (got_send (t := 4) (J := J) (K := K) 0 0 2 rfl rfl rfl) $$ [HS Hc]
  · isplitr; · iexact HR
    isplitl [HS] <;> iassumption
  iintro ⟨HS, Hs⟩
  rw [wp_ret]; imodintro
  iapply Hk
  isplitl [HS]; · iexact HS
  isplitl [Hs] <;> iassumption

/-- The partner's quarters are in; the first gathered half goes out. -/
theorem part20 {w1 w2 w3 w4 : BitVec 32} {Q} :
    iprop(Recs J K
        ∗ St c 6 5 4
        ∗ cr (F := F) c (pos 0 1 2)
        ∗ sendPay J 0 0 2 c
        ∗ Own c g1M fullShare.right (band {mineU 0 c}) (GG J 0)
        ∗ Own c g1M fullShare.right (band {mineU 1 c}) (GG J 0)
        ∗ zone (F := F) 0 0 3 c
        ∗ Any (F := F) c (bigM 0) Finset.univ)
      ⊢ iprop(((St c 7 6 6
        ∗ cr (F := F) c (pos 0 0 3)
        ∗ Own c g1M fullShare.right (band (two (keepT 0 c))) (GG J 0)
        ∗ Own c g1M fullShare (band (two (keepT 1 c))) (GG J 0)
        ∗ zone (F := F) 1 0 1 c
        ∗ zone (F := F) 1 1 1 c)
          -∗ Q ⟨⟩)
        -∗ Runs c (withBufs (k0_part20 (F := F)) c w1 w2 w3 w4) Q) := by
  rw [k0_part20_eq_skeleton]; unfold Runs withBufs k0_part20_skel
  simp only [Prog.lift, Prog.bind_op, Prog.bind_ret, Prog.pure_eq_ret]
  iintro ⟨#HR, HS, Hc, Hs, Hg, Hg', Hz, Hb⟩ Hk
  iapply (got_recv (a := 6) (r := 4) (J := J) (K := K) 0 0 2 rfl rfl (by decide) rfl) $$ [HS]
  · isplitr; · iexact HR
    iexact HS
  iintro ⟨HS, Hr⟩
  iapply (got_send (t := 5) (J := J) (K := K) 0 1 2 rfl rfl rfl) $$ [HS Hc]
  · isplitr; · iexact HR
    isplitl [HS] <;> iassumption
  iintro ⟨HS, Hs'⟩
  iapply (got_recv (a := 6) (r := 5) (J := J) (K := K) 0 1 2 rfl rfl (by decide) rfl) $$ [HS]
  · isplitr; · iexact HR
    iexact HS
  iintro ⟨HS, Hr'⟩
  ihave Hr := (Entails.of_eq (recvPay_2 J c 0)) $$ Hr; icases Hr with ⟨Hr, Hy⟩
  ihave Hr' := (Entails.of_eq (recvPay_2 J c 1)) $$ Hr'; icases Hr' with ⟨Hr', Hy'⟩
  ihave Hg := (gather J 0 0 (g := g1M) rfl) $$ [Hs Hg Hr]
  · isplitl [Hs]; · iexact Hs
    isplitl [Hg] <;> iassumption
  ihave Hg' := (gather J 0 1 (g := g1M) rfl) $$ [Hs' Hg' Hr']
  · isplitl [Hs']; · iexact Hs'
    isplitl [Hg'] <;> iassumption
  ihave Hh := own_halve $$ Hg; icases Hh with ⟨Hl, Hg⟩
  iapply (send_3 (J := J) (K := K) 0 0 rfl (dev9_at c) (off19_at c) rfl rfl rfl) $$ [HS Hl Hz Hb]
  · isplitr; · iexact HR
    isplitl [HS]; · iexact HS
    isplitl [Hl]; · iexact Hl
    isplitl [Hz]; · iexact Hz
    rw [if_pos rfl]; iexact Hb
  iintro ⟨HS, Hc⟩
  rw [wp_ret]; imodintro
  iapply Hk
  isplitl [HS]; · iexact HS
  isplitl [Hc]; · iexact Hc
  isplitl [Hg]; · iexact Hg
  isplitl [Hg']; · iexact Hg'
  isplitl [Hy] <;> iassumption

/-- The second gathered half goes out; the MLP of the partner's first quarter begins. -/
theorem part21 {w1 : BitVec 32} {Q} :
    iprop(Recs J K
        ∗ St c 7 6 6
        ∗ Own c g1M fullShare (band (two (keepT 1 c))) (GG J 0)
        ∗ zone (F := F) 0 1 3 c
        ∗ Any (F := F) c (bigM 1) Finset.univ
        ∗ Own c g1M fullShare.right (band (two (keepT 0 c))) (GG J 0))
      ⊢ iprop((∀ w, (St c 8 6 6
        ∗ cr (F := F) c (pos 0 1 3)
        ∗ Own c g1M fullShare.right (band (two (keepT 0 c))) (GG J 0)
        ∗ Own c g1M fullShare.right (band (two (keepT 1 c))) (GG J 0))
          -∗ Q ⟨w, k0_pay53 (J c).m3 (J c).m4 (J c).w1b (cutU (st2U 0 c) (GG J 0)), k0_pay54 (J c).m3 (J c).m4 (J c).w1b (cutU (st2U 0 c) (GG J 0))⟩)
        -∗ Runs c (withBufs (k0_part21 (F := F)) c w1 (J c).m3 (J c).m4 (J c).w1b) Q) := by
  rw [k0_part21_eq_skeleton]; unfold Runs withBufs k0_part21_skel
  simp only [Prog.lift, Prog.bind_op, Prog.bind_ret, Prog.pure_eq_ret]
  iintro ⟨#HR, HS, Hg', Hz, Hb, Hg⟩ Hk
  ihave Hh := own_halve $$ Hg'; icases Hh with ⟨Hl, Hg'⟩
  iapply (send_3 (J := J) (K := K) 0 1 rfl (dev10_at c) (off20_at c) rfl rfl rfl) $$ [HS Hl Hz Hb]
  · isplitr; · iexact HR
    isplitl [HS]; · iexact HS
    isplitl [Hl]; · iexact Hl
    isplitl [Hz]; · iexact Hz
    rw [if_pos rfl]; iexact Hb
  iintro ⟨HS, Hc⟩
  iapply (wp_loadU (st2U 0 c) (off21_at c) (st2_sub 0)) $$ Hg; iintro Hg
  rw [wp_ret]; imodintro
  iapply Hk
  isplitl [HS]; · iexact HS
  isplitl [Hc]; · iexact Hc
  isplitl [Hg] <;> iassumption

/-- The MLP of the partner's first quarter. -/
theorem part22 {w1 w2 : BitVec 32} {X} {Q} :
    iprop(Own c accM fullShare (band {st2U 0 c}) X
        ∗ Own c g1M fullShare.right (band (two (keepT 1 c))) (GG J 0))
      ⊢ iprop((∀ w, (Own c accM fullShare (band {st2U 0 c}) (AA J 1 c)
        ∗ Own c g1M fullShare.right (band (two (keepT 1 c))) (GG J 0))
          -∗ Q ⟨w, k0_pay56 (J c).m3 (J c).m4 (J c).w1b (cutU (st2U 1 c) (GG J 0)), k0_pay57 (J c).m3 (J c).m4 (J c).w1b (cutU (st2U 1 c) (GG J 0)), k0_pay58 (F := F)⟩)
        -∗ Runs c (withBufs (k0_part22 (F := F)) c w1 (J c).m3 (J c).m4 (J c).w1b (J c).w2b w2 (k0_pay53 (J c).m3 (J c).m4 (J c).w1b (cutU (st2U 0 c) (GG J 0))) (k0_pay54 (J c).m3 (J c).m4 (J c).w1b (cutU (st2U 0 c) (GG J 0)))) Q) := by
  rw [k0_part22_eq_skeleton]; unfold Runs withBufs k0_part22_skel
  simp only [Prog.lift, Prog.bind_op, Prog.bind_ret, Prog.pure_eq_ret]
  iintro ⟨Ha, Hg⟩ Hk
  iapply (wp_loadU (st2U 0 c) (off21_at c) (Finset.Subset.refl _)) $$ Ha; iintro Ha
  iapply (wp_storeU (st2U 0 c) (AA J 1 c) (off21_at c) (mlp_U0 J c _ (st2_div 0 c))) $$ Ha; iintro Ha
  iapply (wp_loadU (st2U 1 c) (off22_at c) (st2_sub 1)) $$ Hg; iintro Hg
  rw [wp_ret]; imodintro
  iapply Hk
  isplitl [Ha] <;> iassumption

/-- The MLP of the second; waits on the halves. -/
theorem part23 {w1 w2 w3 : BitVec 32} {X} {Q} :
    iprop(Recs J K
        ∗ St c 8 6 6
        ∗ cr (F := F) c (pos 0 0 3)
        ∗ cr (F := F) c (pos 0 1 3)
        ∗ Own c accM fullShare (band {st2U 1 c}) X)
      ⊢ iprop((∀ w, (St c 8 8 7
        ∗ sendPay J 0 0 3 c
        ∗ Own c g1M fullShare (band (two (sendT 0 c))) (GG J 0)
        ∗ zone (F := F) 1 0 0 c
        ∗ sendPay J 0 1 3 c
        ∗ Own c accM fullShare (band {st2U 1 c}) (AA J 1 c))
          -∗ Q w)
        -∗ Runs c (withBufs (k0_part23 (F := F)) c w1 w2 (J c).w2b w3 (k0_pay56 (J c).m3 (J c).m4 (J c).w1b (cutU (st2U 1 c) (GG J 0))) (k0_pay57 (J c).m3 (J c).m4 (J c).w1b (cutU (st2U 1 c) (GG J 0))) (k0_pay58 (F := F))) Q) := by
  rw [k0_part23_eq_skeleton]; unfold Runs withBufs k0_part23_skel
  simp only [Prog.lift, Prog.bind_op, Prog.bind_ret, Prog.pure_eq_ret]
  iintro ⟨#HR, HS, Hc, Hc', Ha⟩ Hk
  iapply (wp_loadU (st2U 1 c) (off22_at c) (Finset.Subset.refl _)) $$ Ha; iintro Ha
  iapply (wp_storeU (st2U 1 c) (AA J 1 c) (off22_at c) (mlp_U1 J c _ (st2_div 1 c))) $$ Ha; iintro Ha
  iapply (got_send (t := 6) (J := J) (K := K) 0 0 3 rfl rfl rfl) $$ [HS Hc]
  · isplitr; · iexact HR
    isplitl [HS] <;> iassumption
  iintro ⟨HS, Hs⟩
  iapply (got_recv (a := 8) (r := 6) (J := J) (K := K) 0 0 3 rfl rfl (by decide) rfl) $$ [HS]
  · isplitr; · iexact HR
    iexact HS
  iintro ⟨HS, Hr⟩
  iapply (got_send (t := 7) (J := J) (K := K) 0 1 3 rfl rfl rfl) $$ [HS Hc']
  · isplitr; · iexact HR
    isplitl [HS] <;> iassumption
  iintro ⟨HS, Hs'⟩
  ihave Hr := (Entails.of_eq (recvPay_3 J c 0)) $$ Hr; icases Hr with ⟨Hr, Hz⟩
  rw [wp_ret]; imodintro
  iapply Hk
  isplitl [HS]; · iexact HS
  isplitl [Hs]; · iexact Hs
  isplitl [Hr]; · iexact Hr
  isplitl [Hz]; · iexact Hz
  isplitl [Hs'] <;> iassumption

/-- The partner's halves are in; the MLP of the first begins. -/
theorem part24 {w1 w2 : BitVec 32} {Q} :
    iprop(Recs J K
        ∗ St c 8 8 7
        ∗ Own c g1M fullShare (band (two (sendT 0 c))) (GG J 0))
      ⊢ iprop((∀ w, (St c 8 8 8
        ∗ Own c g1M fullShare (band (two (sendT 1 c))) (GG J 0)
        ∗ zone (F := F) 1 1 0 c
        ∗ Own c g1M fullShare (band (two (sendT 0 c))) (GG J 0))
          -∗ Q ⟨w, k0_pay60 (J c).m3 (J c).m4 (J c).w1b (cutT (sendT 0 c) (GG J 0)), k0_pay61 (J c).m3 (J c).m4 (J c).w1b (cutT (sendT 0 c) (GG J 0)), Scalar.ofBits .f32 0x3F800000#32⟩)
        -∗ Runs c (withBufs (k0_part24 (F := F)) c w1 (J c).m3 (J c).m4 (J c).w1b w2) Q) := by
  rw [k0_part24_eq_skeleton]; unfold Runs withBufs k0_part24_skel
  simp only [Prog.lift, Prog.bind_op, Prog.bind_ret, Prog.pure_eq_ret]
  iintro ⟨#HR, HS, Hg⟩ Hk
  iapply (got_recv (a := 8) (r := 7) (J := J) (K := K) 0 1 3 rfl rfl (by decide) rfl) $$ [HS]
  · isplitr; · iexact HR
    iexact HS
  iintro ⟨HS, Hr⟩
  ihave Hr := (Entails.of_eq (recvPay_3 J c 1)) $$ Hr; icases Hr with ⟨Hr, Hz⟩
  iapply (wp_loadT (sendT 0 c) (off2_at c) (Finset.Subset.refl _)) $$ Hg; iintro Hg
  rw [wp_ret]; imodintro
  iapply Hk
  isplitl [HS]; · iexact HS
  isplitl [Hr]; · iexact Hr
  isplitl [Hz] <;> iassumption

/-- The MLP of the first of the partner's halves. -/
theorem part25 {w1 w2 : BitVec 32} {X} {Q} :
    iprop(Own c accM fullShare (band (two (sendT 0 c))) X
        ∗ Own c g1M fullShare (band (two (sendT 1 c))) (GG J 0))
      ⊢ iprop((∀ w, (Own c accM fullShare (band (two (sendT 0 c))) (AA J 1 c)
        ∗ Own c g1M fullShare (band (two (sendT 1 c))) (GG J 0))
          -∗ Q ⟨w, k0_pay63 (J c).m3 (J c).m4 (J c).w1b (cutT (sendT 1 c) (GG J 0)), k0_pay64 (J c).m3 (J c).m4 (J c).w1b (cutT (sendT 1 c) (GG J 0))⟩)
        -∗ Runs c (withBufs (k0_part25 (F := F)) c w1 (J c).m3 (J c).m4 (J c).w1b (J c).w2b w2 (k0_pay60 (J c).m3 (J c).m4 (J c).w1b (cutT (sendT 0 c) (GG J 0))) (k0_pay61 (J c).m3 (J c).m4 (J c).w1b (cutT (sendT 0 c) (GG J 0))) (Scalar.ofBits .f32 0x3F800000#32)) Q) := by
  rw [k0_part25_eq_skeleton]; unfold Runs withBufs k0_part25_skel
  simp only [Prog.lift, Prog.bind_op, Prog.bind_ret, Prog.pure_eq_ret]
  iintro ⟨Ha, Hg⟩ Hk
  iapply (wp_loadT (sendT 0 c) (off2_at c) (Finset.Subset.refl _)) $$ Ha; iintro Ha
  iapply (wp_storeT (sendT 0 c) (AA J 1 c) (off2_at c) (mlp_T0 J c)) $$ Ha; iintro Ha
  iapply (wp_loadT (sendT 1 c) (off4_at c) (Finset.Subset.refl _)) $$ Hg; iintro Hg
  rw [wp_ret]; imodintro
  iapply Hk
  isplitl [Ha] <;> iassumption

/-- The MLP of the second; the first of the two goes out. -/
theorem part26 {w1 w2 w3 w4 w5 : BitVec 32} {X} {Q} :
    iprop(Recs J K
        ∗ St c 8 8 8
        ∗ Own c accM fullShare (band (two (sendT 1 c))) X
        ∗ zone (F := F) 1 0 0 c
        ∗ Own c accM fullShare (band (two (sendT 0 c))) (AA J 1 c))
      ⊢ iprop(((St c 9 8 8
        ∗ cr (F := F) c (pos 1 0 0)
        ∗ Own c accM fullShare (band (two (sendT 1 c))) (AA J 1 c))
          -∗ Q ⟨⟩)
        -∗ Runs c (withBufs (k0_part26 (F := F)) c w1 w2 w3 w4 (J c).w2b w5 (k0_pay63 (J c).m3 (J c).m4 (J c).w1b (cutT (sendT 1 c) (GG J 0))) (k0_pay64 (J c).m3 (J c).m4 (J c).w1b (cutT (sendT 1 c) (GG J 0)))) Q) := by
  rw [k0_part26_eq_skeleton]; unfold Runs withBufs k0_part26_skel
  simp only [Prog.lift, Prog.bind_op, Prog.bind_ret, Prog.pure_eq_ret]
  iintro ⟨#HR, HS, Ha, Hz, Ha'⟩ Hk
  iapply (wp_loadT (sendT 1 c) (off4_at c) (Finset.Subset.refl _)) $$ Ha; iintro Ha
  iapply (wp_storeT (sendT 1 c) (AA J 1 c) (off4_at c) (mlp_T1 J c)) $$ Ha; iintro Ha
  iapply (send_0 (J := J) (K := K) 1 0 (dev11_at c) (off5_at c) rfl rfl rfl rfl) $$ [HS Ha' Hz]
  · isplitr; · iexact HR
    isplitl [HS]; · iexact HS
    isplitl [Ha'] <;> iassumption
  iintro ⟨HS, Hc⟩
  rw [wp_ret]; imodintro
  iapply Hk
  isplitl [HS]; · iexact HS
  isplitl [Hc] <;> iassumption

end Cert.KernelProof
-- ==== Proof.Parts4.lean ====
/-
# The body, last part: the second residual and the result

The MLP's shares are summed as the attention's were, the second residual taken and gathered, and each chunk stored as
the device has it.
-/
module

public import proofs.«01_k».proof.Proof.Piece

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-- The other half goes out; the waits on the first and half of the second. -/
theorem part27 {w1 w2 : BitVec 32} {Q} :
    iprop(Recs J K
        ∗ St c 9 8 8
        ∗ cr (F := F) c (pos 1 0 0)
        ∗ Own c accM fullShare (band (two (sendT 1 c))) (AA J 1 c)
        ∗ zone (F := F) 1 1 0 c)
      ⊢ iprop(((St c 10 10 9
        ∗ sendPay J 1 0 0 c
        ∗ recvPay J 1 0 0 c
        ∗ sendPay J 1 1 0 c)
          -∗ Q ⟨⟩)
        -∗ Runs c (withBufs (k0_part27 (F := F)) c w1 w2) Q) := by
  rw [k0_part27_eq_skeleton]; unfold Runs withBufs k0_part27_skel
  simp only [Prog.lift, Prog.bind_op, Prog.bind_ret, Prog.pure_eq_ret]
  iintro ⟨#HR, HS, Hc, Ha, Hz⟩ Hk
  iapply (send_0 (J := J) (K := K) 1 1 (dev12_at c) (off6_at c) rfl rfl rfl rfl) $$ [HS Ha Hz]
  · isplitr; · iexact HR
    isplitl [HS]; · iexact HS
    isplitl [Ha] <;> iassumption
  iintro ⟨HS, Hc'⟩
  iapply (got_send (t := 8) (J := J) (K := K) 1 0 0 rfl rfl rfl) $$ [HS Hc]
  · isplitr; · iexact HR
    isplitl [HS] <;> iassumption
  iintro ⟨HS, Hs⟩
  iapply (got_recv (a := 10) (r := 8) (J := J) (K := K) 1 0 0 rfl rfl (by decide) rfl) $$ [HS]
  · isplitr; · iexact HR
    iexact HS
  iintro ⟨HS, Hr⟩
  iapply (got_send (t := 9) (J := J) (K := K) 1 1 0 rfl rfl rfl) $$ [HS Hc']
  · isplitr; · iexact HR
    isplitl [HS] <;> iassumption
  iintro ⟨HS, Hs'⟩
  rw [wp_ret]; imodintro
  iapply Hk
  isplitl [HS]; · iexact HS
  isplitl [Hs]; · iexact Hs
  isplitl [Hr] <;> iassumption

/-- The partner's half is added to each kept half of the MLP. -/
theorem part28 {w1 w2 w3 w4 : BitVec 32} {Q} :
    iprop(Recs J K
        ∗ St c 10 10 9
        ∗ Own c accM fullShare (band (two (keepT 0 c))) (AA J 1 c)
        ∗ Own c accM fullShare (band (two (keepT 1 c))) (AA J 1 c)
        ∗ recvPay J 1 0 0 c)
      ⊢ iprop((∀ w, (St c 10 10 10
        ∗ Own c accM fullShare (band (two (keepT 0 c))) (BB J 1 c)
        ∗ Own c accM fullShare (band (two (keepT 1 c))) (BB J 1 c)
        ∗ Any (F := F) c (bigM 0) Finset.univ
        ∗ Any (F := F) c (bigM 1) Finset.univ)
          -∗ Q w)
        -∗ Runs c (withBufs (k0_part28 (F := F)) c w1 w2 w3 w4) Q) := by
  rw [k0_part28_eq_skeleton]; unfold Runs withBufs k0_part28_skel
  simp only [Prog.lift, Prog.bind_op, Prog.bind_ret, Prog.pure_eq_ret]
  iintro ⟨#HR, HS, Ha, Ha', Hr⟩ Hk
  iapply (got_recv (a := 10) (r := 9) (J := J) (K := K) 1 1 0 rfl rfl (by decide) rfl) $$ [HS]
  · isplitr; · iexact HR
    iexact HS
  iintro ⟨HS, Hr'⟩
  ihave Hr := (Entails.of_eq (recvPay_0 J c 1 0)) $$ Hr
  ihave Hr' := (Entails.of_eq (recvPay_0 J c 1 1)) $$ Hr'
  iapply (wp_loadT (keepT 0 c) (off8_at c) (Finset.Subset.refl _)) $$ Ha; iintro Ha
  iapply (wp_loadBig 0 rfl) $$ Hr; iintro Hr
  iapply (wp_loadT (keepT 0 c) (off8_at c) (Finset.Subset.refl _)) $$ Ha; iintro Ha
  iapply (wp_storeT (keepT 0 c) (BB J 1 c) (off8_at c) (sum_keep J c 0 1)) $$ Ha; iintro Ha
  iapply (wp_loadT (keepT 1 c) (off10_at c) (Finset.Subset.refl _)) $$ Ha'; iintro Ha'
  iapply (wp_loadBig 1 rfl) $$ Hr'; iintro Hr'
  iapply (wp_loadT (keepT 1 c) (off10_at c) (Finset.Subset.refl _)) $$ Ha'; iintro Ha'
  iapply (wp_storeT (keepT 1 c) (BB J 1 c) (off10_at c) (sum_keep J c 1 1)) $$ Ha'; iintro Ha'
  rw [wp_ret]; imodintro
  iapply Hk
  isplitl [HS]; · iexact HS
  isplitl [Ha]; · iexact Ha
  isplitl [Ha']; · iexact Ha'
  isplitl [Hr]; · iapply (any_of_own (F := F) _); iexact Hr
  iapply (any_of_own (F := F) _); iexact Hr'

/-- A quarter of each sum goes to the other partner; the wait on the first. -/
theorem part29 {w1 w2 w3 : BitVec 32} {Q} :
    iprop(Recs J K
        ∗ St c 10 10 10
        ∗ Own c accM fullShare (band {st2U 0 c}) (BB J 1 c)
        ∗ zone (F := F) 1 0 1 c
        ∗ Own c accM fullShare (band {st2U 1 c}) (BB J 1 c)
        ∗ zone (F := F) 1 1 1 c)
      ⊢ iprop((∀ w, (St c 12 11 10
        ∗ cr (F := F) c (pos 1 1 1)
        ∗ sendPay J 1 0 1 c)
          -∗ Q w)
        -∗ Runs c (withBufs (k0_part29 (F := F)) c w1 w2 w3) Q) := by
  rw [k0_part29_eq_skeleton]; unfold Runs withBufs k0_part29_skel
  simp only [Prog.lift, Prog.bind_op, Prog.bind_ret, Prog.pure_eq_ret]
  iintro ⟨#HR, HS, Ha, Hz, Ha', Hz'⟩ Hk
  iapply (send_1 (J := J) (K := K) 1 0 (dev13_at c) (off11_at c) rfl rfl rfl rfl) $$ [HS Ha Hz]
  · isplitr; · iexact HR
    isplitl [HS]; · iexact HS
    isplitl [Ha] <;> iassumption
  iintro ⟨HS, Hc⟩
  iapply (send_1 (J := J) (K := K) 1 1 (dev14_at c) (off12_at c) rfl rfl rfl rfl) $$ [HS Ha' Hz']
  · isplitr; · iexact HR
    isplitl [HS]; · iexact HS
    isplitl [Ha'] <;> iassumption
  iintro ⟨HS, Hc'⟩
  iapply (got_send (t := 10) (J := J) (K := K) 1 0 1 rfl rfl rfl) $$ [HS Hc]
  · isplitr; · iexact HR
    isplitl [HS] <;> iassumption
  iintro ⟨HS, Hs⟩
  rw [wp_ret]; imodintro
  iapply Hk
  isplitl [HS]; · iexact HS
  isplitl [Hc'] <;> iassumption

/-- The remaining waits on the quarters; the sums for batch 0. -/
theorem part30 {w1 w2 w3 w4 : BitVec 32} {Q} :
    iprop(Recs J K
        ∗ St c 12 11 10
        ∗ cr (F := F) c (pos 1 1 1)
        ∗ Own c accM fullShare (band {mineU 0 c}) (BB J 1 c)
        ∗ Own c g1M fullShare (band (two (keepT 0 c))) (GG J 0))
      ⊢ iprop((∀ w, (St c 12 12 12
        ∗ sendPay J 1 1 1 c
        ∗ Any (F := F) c (smallM 0) Finset.univ
        ∗ Own c (smallM 1) fullShare Finset.univ (liftU (cutU (mineU 1 c) (BB J 1 (peer 1 1 c))))
        ∗ Own c accM fullShare (band {mineU 0 c}) (BB J 1 c)
        ∗ Own c g1M fullShare (band (two (keepT 0 c))) (GG J 0))
          -∗ Q ⟨w, k0_pay68 (cutU (mineU 0 c) (BB J 1 c)) (liftU (cutU (mineU 0 c) (BB J 1 (peer 0 1 c)))), cutU (mineU 0 c) (GG J 0)⟩)
        -∗ Runs c (withBufs (k0_part30 (F := F)) c w1 w2 w3 w4) Q) := by
  rw [k0_part30_eq_skeleton]; unfold Runs withBufs k0_part30_skel
  simp only [Prog.lift, Prog.bind_op, Prog.bind_ret, Prog.pure_eq_ret]
  iintro ⟨#HR, HS, Hc, Ha, Hg⟩ Hk
  iapply (got_recv (a := 12) (r := 10) (J := J) (K := K) 1 0 1 rfl rfl (by decide) rfl) $$ [HS]
  · isplitr; · iexact HR
    iexact HS
  iintro ⟨HS, Hr⟩
  iapply (got_send (t := 11) (J := J) (K := K) 1 1 1 rfl rfl rfl) $$ [HS Hc]
  · isplitr; · iexact HR
    isplitl [HS] <;> iassumption
  iintro ⟨HS, Hs⟩
  iapply (got_recv (a := 12) (r := 11) (J := J) (K := K) 1 1 1 rfl rfl (by decide) rfl) $$ [HS]
  · isplitr; · iexact HR
    iexact HS
  iintro ⟨HS, Hr'⟩
  ihave Hr := (Entails.of_eq (recvPay_1 J c 1 0)) $$ Hr
  ihave Hr' := (Entails.of_eq (recvPay_1 J c 1 1)) $$ Hr'
  iapply (wp_loadU (mineU 0 c) (off13_at c) (Finset.Subset.refl _)) $$ Ha; iintro Ha
  iapply (wp_loadSmall 0 rfl) $$ Hr; iintro Hr
  iapply (wp_loadU (mineU 0 c) (off13_at c) (mine_sub 0)) $$ Hg; iintro Hg
  rw [wp_ret]; imodintro
  iapply Hk
  isplitl [HS]; · iexact HS
  isplitl [Hs]; · iexact Hs
  isplitl [Hr]; · iapply (any_of_own (F := F) _); iexact Hr
  isplitl [Hr']; · iexact Hr'
  isplitl [Ha] <;> iassumption

/-- The second residual of the two quarters that the device finishes; the first goes out. -/
theorem part31 {w1 w2 w3 w4 : BitVec 32} {X X'} {Q} :
    iprop(Recs J K
        ∗ St c 12 12 12
        ∗ Own c g2M fullShare (band {mineU 0 c}) X
        ∗ Own c g2M fullShare (band {mineU 1 c}) X'
        ∗ Own c accM fullShare (band {mineU 1 c}) (BB J 1 c)
        ∗ Own c (smallM 1) fullShare Finset.univ (liftU (cutU (mineU 1 c) (BB J 1 (peer 1 1 c))))
        ∗ Own c g1M fullShare (band (two (keepT 1 c))) (GG J 0)
        ∗ zone (F := F) 1 0 2 c)
      ⊢ iprop(((St c 13 12 12
        ∗ cr (F := F) c (pos 1 0 2)
        ∗ Own c g2M fullShare.right (band {mineU 0 c}) (GG J 1)
        ∗ Own c g2M fullShare (band {mineU 1 c}) (GG J 1)
        ∗ Own c accM fullShare (band {mineU 1 c}) (BB J 1 c)
        ∗ Any (F := F) c (smallM 1) Finset.univ
        ∗ Own c g1M fullShare (band (two (keepT 1 c))) (GG J 0))
          -∗ Q ⟨⟩)
        -∗ Runs c (withBufs (k0_part31 (F := F)) c w1 w2 w3 (J c).m5 w4 (k0_pay68 (cutU (mineU 0 c) (BB J 1 c)) (liftU (cutU (mineU 0 c) (BB J 1 (peer 0 1 c))))) (cutU (mineU 0 c) (GG J 0))) Q) := by
  rw [k0_part31_eq_skeleton]; unfold Runs withBufs k0_part31_skel
  simp only [Prog.lift, Prog.bind_op, Prog.bind_ret, Prog.pure_eq_ret]
  iintro ⟨#HR, HS, Hg, Hg', Ha, Hr, Ho, Hz⟩ Hk
  iapply (wp_loadU (mineU 0 c) (off13_at c) (Finset.Subset.refl _)) $$ Hg; iintro Hg
  iapply (wp_storeU (mineU 0 c) (GG J 1) (off13_at c) (G2_mine0 J c)) $$ Hg; iintro Hg
  iapply (wp_loadU (mineU 1 c) (off15_at c) (Finset.Subset.refl _)) $$ Ha; iintro Ha
  iapply (wp_loadSmall 1 rfl) $$ Hr; iintro Hr
  iapply (wp_loadU (mineU 1 c) (off15_at c) (mine_sub 1)) $$ Ho; iintro Ho
  iapply (wp_loadU (mineU 1 c) (off15_at c) (Finset.Subset.refl _)) $$ Hg'; iintro Hg'
  iapply (wp_storeU (mineU 1 c) (GG J 1) (off15_at c) (G2_mine1 J c)) $$ Hg'; iintro Hg'
  ihave Hh := own_halve $$ Hg; icases Hh with ⟨Hl, Hg⟩
  iapply (send_2 (J := J) (K := K) 1 0 rfl (dev15_at c) (off17_at c) rfl rfl rfl) $$ [HS Hl Hz]
  · isplitr; · iexact HR
    isplitl [HS]; · iexact HS
    isplitl [Hl]; · iexact Hl
    isplitl [Hz]; · iexact Hz
    rw [if_neg (by decide)]; iempintro
  iintro ⟨HS, Hc⟩
  rw [wp_ret]; imodintro
  iapply Hk
  isplitl [HS]; · iexact HS
  isplitl [Hc]; · iexact Hc
  isplitl [Hg]; · iexact Hg
  isplitl [Hg']; · iexact Hg'
  isplitl [Ha]; · iexact Ha
  isplitl [Hr]; · iapply (any_of_own (F := F) _); iexact Hr
  iexact Ho

/-- The second goes out; the two quarters' results are stored. -/
theorem part32 {w1 w2 w3 : BitVec 32} {X X'} {Q} :
    iprop(Recs J K
        ∗ St c 13 12 12
        ∗ Own c g2M fullShare (band {mineU 1 c}) (GG J 1)
        ∗ zone (F := F) 1 1 2 c
        ∗ Own c g2M fullShare.right (band {mineU 0 c}) (GG J 1)
        ∗ Own c (Memref.whole cc0_stg9_0) fullShare (band3 {mineU 0 c}) X
        ∗ Own c (Memref.whole cc0_stg9_0) fullShare (band3 {mineU 1 c}) X'
        ∗ cr (F := F) c (pos 1 0 2))
      ⊢ iprop((∀ w, (St c 14 13 12
        ∗ cr (F := F) c (pos 1 1 2)
        ∗ sendPay J 1 0 2 c
        ∗ Own c g2M fullShare.right (band {mineU 0 c}) (GG J 1)
        ∗ Own c g2M fullShare.right (band {mineU 1 c}) (GG J 1)
        ∗ Own c (Memref.whole cc0_stg9_0) fullShare (band3 {mineU 0 c}) (OUT J c)
        ∗ Own c (Memref.whole cc0_stg9_0) fullShare (band3 {mineU 1 c}) (OUT J c))
          -∗ Q w)
        -∗ Runs c (withBufs (k0_part32 (F := F)) c w1 w2 w3) Q) := by
  rw [k0_part32_eq_skeleton]; unfold Runs withBufs k0_part32_skel
  simp only [Prog.lift, Prog.bind_op, Prog.bind_ret, Prog.pure_eq_ret]
  iintro ⟨#HR, HS, Hg', Hz, Hg, Ho, Ho', Hc⟩ Hk
  ihave Hh := own_halve $$ Hg'; icases Hh with ⟨Hl, Hg'⟩
  iapply (send_2 (J := J) (K := K) 1 1 rfl (dev16_at c) (off18_at c) rfl rfl rfl) $$ [HS Hl Hz]
  · isplitr; · iexact HR
    isplitl [HS]; · iexact HS
    isplitl [Hl]; · iexact Hl
    isplitl [Hz]; · iexact Hz
    rw [if_neg (by decide)]; iempintro
  iintro ⟨HS, Hc'⟩
  iapply (wp_loadU (mineU 0 c) (off13_at c) (Finset.Subset.refl _)) $$ Hg; iintro Hg
  iapply (wp_load3U (mineU 0 c) (off14_at c) (Finset.Subset.refl _)) $$ Ho; iintro Ho
  iapply (wp_store3U (mineU 0 c) (OUT J c) (off14_at c) (out_keep J c 0 _ (mine_div 0 c))) $$ Ho; iintro Ho
  iapply (wp_loadU (mineU 1 c) (off15_at c) (Finset.Subset.refl _)) $$ Hg'; iintro Hg'
  iapply (wp_load3U (mineU 1 c) (off16_at c) (Finset.Subset.refl _)) $$ Ho'; iintro Ho'
  iapply (wp_store3U (mineU 1 c) (OUT J c) (off16_at c) (out_keep J c 1 _ (mine_div 1 c))) $$ Ho'; iintro Ho'
  iapply (got_send (t := 12) (J := J) (K := K) 1 0 2 rfl rfl rfl) $$ [HS Hc]
  · isplitr; · iexact HR
    isplitl [HS] <;> iassumption
  iintro ⟨HS, Hs⟩
  rw [wp_ret]; imodintro
  iapply Hk
  isplitl [HS]; · iexact HS
  isplitl [Hc']; · iexact Hc'
  isplitl [Hs]; · iexact Hs
  isplitl [Hg]; · iexact Hg
  isplitl [Hg']; · iexact Hg'
  isplitl [Ho] <;> iassumption

/-- The partner's quarters are in; the first gathered half goes out. -/
theorem part33 {w1 w2 w3 w4 w5 : BitVec 32} {Q} :
    iprop(Recs J K
        ∗ St c 14 13 12
        ∗ cr (F := F) c (pos 1 1 2)
        ∗ sendPay J 1 0 2 c
        ∗ Own c g2M fullShare.right (band {mineU 0 c}) (GG J 1)
        ∗ Own c g2M fullShare.right (band {mineU 1 c}) (GG J 1)
        ∗ zone (F := F) 1 0 3 c)
      ⊢ iprop(((St c 15 14 14
        ∗ cr (F := F) c (pos 1 0 3)
        ∗ Own c g2M fullShare.right (band (two (keepT 0 c))) (GG J 1)
        ∗ Own c g2M fullShare (band (two (keepT 1 c))) (GG J 1))
          -∗ Q ⟨⟩)
        -∗ Runs c (withBufs (k0_part33 (F := F)) c w1 w2 w3 w4 w5) Q) := by
  rw [k0_part33_eq_skeleton]; unfold Runs withBufs k0_part33_skel
  simp only [Prog.lift, Prog.bind_op, Prog.bind_ret, Prog.pure_eq_ret]
  iintro ⟨#HR, HS, Hc, Hs, Hg, Hg', Hz⟩ Hk
  iapply (got_recv (a := 14) (r := 12) (J := J) (K := K) 1 0 2 rfl rfl (by decide) rfl) $$ [HS]
  · isplitr; · iexact HR
    iexact HS
  iintro ⟨HS, Hr⟩
  iapply (got_send (t := 13) (J := J) (K := K) 1 1 2 rfl rfl rfl) $$ [HS Hc]
  · isplitr; · iexact HR
    isplitl [HS] <;> iassumption
  iintro ⟨HS, Hs'⟩
  iapply (got_recv (a := 14) (r := 13) (J := J) (K := K) 1 1 2 rfl rfl (by decide) rfl) $$ [HS]
  · isplitr; · iexact HR
    iexact HS
  iintro ⟨HS, Hr'⟩
  ihave Hr := (Entails.of_eq (recvPay_2' J c 0)) $$ Hr; icases Hr with ⟨Hr, -⟩
  ihave Hr' := (Entails.of_eq (recvPay_2' J c 1)) $$ Hr'; icases Hr' with ⟨Hr', -⟩
  ihave Hg := (gather J 1 0 (g := g2M) rfl) $$ [Hs Hg Hr]
  · isplitl [Hs]; · iexact Hs
    isplitl [Hg] <;> iassumption
  ihave Hg' := (gather J 1 1 (g := g2M) rfl) $$ [Hs' Hg' Hr']
  · isplitl [Hs']; · iexact Hs'
    isplitl [Hg'] <;> iassumption
  ihave Hh := own_halve $$ Hg; icases Hh with ⟨Hl, Hg⟩
  iapply (send_3 (J := J) (K := K) 1 0 rfl (dev17_at c) (off19_at c) rfl rfl rfl) $$ [HS Hl Hz]
  · isplitr; · iexact HR
    isplitl [HS]; · iexact HS
    isplitl [Hl]; · iexact Hl
    isplitl [Hz]; · iexact Hz
    rw [if_neg (by decide)]; iempintro
  iintro ⟨HS, Hc⟩
  rw [wp_ret]; imodintro
  iapply Hk
  isplitl [HS]; · iexact HS
  isplitl [Hc]; · iexact Hc
  isplitl [Hg] <;> iassumption

/-- The second goes out; the partner's quarters' results are stored. -/
theorem part34 {w1 w2 w3 w4 : BitVec 32} {X X'} {Q} :
    iprop(Recs J K
        ∗ St c 15 14 14
        ∗ Own c g2M fullShare (band (two (keepT 1 c))) (GG J 1)
        ∗ zone (F := F) 1 1 3 c
        ∗ Own c g2M fullShare.right (band (two (keepT 0 c))) (GG J 1)
        ∗ Own c (Memref.whole cc0_stg9_0) fullShare (band3 {st2U 0 c}) X
        ∗ Own c (Memref.whole cc0_stg9_0) fullShare (band3 {st2U 1 c}) X'
        ∗ cr (F := F) c (pos 1 0 3))
      ⊢ iprop((∀ w w', (St c 16 15 14
        ∗ cr (F := F) c (pos 1 1 3)
        ∗ sendPay J 1 0 3 c
        ∗ Own c g2M fullShare.right (band (two (keepT 0 c))) (GG J 1)
        ∗ Own c g2M fullShare.right (band (two (keepT 1 c))) (GG J 1)
        ∗ Own c (Memref.whole cc0_stg9_0) fullShare (band3 {st2U 0 c}) (OUT J c)
        ∗ Own c (Memref.whole cc0_stg9_0) fullShare (band3 {st2U 1 c}) (OUT J c))
          -∗ Q ⟨w, w'⟩)
        -∗ Runs c (withBufs (k0_part34 (F := F)) c w1 w2 w3 w4) Q) := by
  rw [k0_part34_eq_skeleton]; unfold Runs withBufs k0_part34_skel
  simp only [Prog.lift, Prog.bind_op, Prog.bind_ret, Prog.pure_eq_ret]
  iintro ⟨#HR, HS, Hg', Hz, Hg, Ho, Ho', Hc⟩ Hk
  ihave Hh := own_halve $$ Hg'; icases Hh with ⟨Hl, Hg'⟩
  iapply (send_3 (J := J) (K := K) 1 1 rfl (dev18_at c) (off20_at c) rfl rfl rfl) $$ [HS Hl Hz]
  · isplitr; · iexact HR
    isplitl [HS]; · iexact HS
    isplitl [Hl]; · iexact Hl
    isplitl [Hz]; · iexact Hz
    rw [if_neg (by decide)]; iempintro
  iintro ⟨HS, Hc'⟩
  iapply (wp_loadU (st2U 0 c) (off21_at c) (st2_sub 0)) $$ Hg; iintro Hg
  iapply (wp_load3U (st2U 0 c) (off23_at c) (Finset.Subset.refl _)) $$ Ho; iintro Ho
  iapply (wp_store3U (st2U 0 c) (OUT J c) (off23_at c) (out_keep J c 0 _ (st2_div 0 c))) $$ Ho; iintro Ho
  iapply (wp_loadU (st2U 1 c) (off22_at c) (st2_sub 1)) $$ Hg'; iintro Hg'
  iapply (wp_load3U (st2U 1 c) (off24_at c) (Finset.Subset.refl _)) $$ Ho'; iintro Ho'
  iapply (wp_store3U (st2U 1 c) (OUT J c) (off24_at c) (out_keep J c 1 _ (st2_div 1 c))) $$ Ho'; iintro Ho'
  iapply (got_send (t := 14) (J := J) (K := K) 1 0 3 rfl rfl rfl) $$ [HS Hc]
  · isplitr; · iexact HR
    isplitl [HS] <;> iassumption
  iintro ⟨HS, Hs⟩
  rw [wp_ret]; imodintro
  iapply Hk
  isplitl [HS]; · iexact HS
  isplitl [Hc']; · iexact Hc'
  isplitl [Hs]; · iexact Hs
  isplitl [Hg]; · iexact Hg
  isplitl [Hg']; · iexact Hg'
  isplitl [Ho] <;> iassumption

/-- The partner's halves are in; the first half's result is stored. -/
theorem part35 {w1 w2 w3 w4 w5 : BitVec 32} {X X'} {Q} :
    iprop(Recs J K
        ∗ St c 16 15 14
        ∗ cr (F := F) c (pos 1 1 3)
        ∗ Own c (Memref.whole cc0_stg9_0) fullShare (band3 (two (sendT 0 c))) X
        ∗ Own c (Memref.whole cc0_stg9_0) fullShare (band3 (two (sendT 1 c))) X')
      ⊢ iprop(((St c 16 16 16
        ∗ sendPay J 1 1 3 c
        ∗ Own c g2M fullShare (band (two (sendT 0 c))) (GG J 1)
        ∗ Own c g2M fullShare (band (two (sendT 1 c))) (GG J 1)
        ∗ Own c (Memref.whole cc0_stg9_0) fullShare (band3 (two (sendT 0 c))) (OUT J c)
        ∗ Own c (Memref.whole cc0_stg9_0) fullShare (band3 (two (sendT 1 c))) X')
          -∗ Q (k0_pay76 (cutT (sendT 1 c) (GG J 1))))
        -∗ Runs c (withBufs (k0_part35 (F := F)) c w1 w2 w3 w4 w5) Q) := by
  rw [k0_part35_eq_skeleton]; unfold Runs withBufs k0_part35_skel
  simp only [Prog.lift, Prog.bind_op, Prog.bind_ret, Prog.pure_eq_ret]
  iintro ⟨#HR, HS, Hc, Ho, Ho'⟩ Hk
  iapply (got_recv (a := 16) (r := 14) (J := J) (K := K) 1 0 3 rfl rfl (by decide) rfl) $$ [HS]
  · isplitr; · iexact HR
    iexact HS
  iintro ⟨HS, Hr⟩
  iapply (got_send (t := 15) (J := J) (K := K) 1 1 3 rfl rfl rfl) $$ [HS Hc]
  · isplitr; · iexact HR
    isplitl [HS] <;> iassumption
  iintro ⟨HS, Hs⟩
  iapply (got_recv (a := 16) (r := 15) (J := J) (K := K) 1 1 3 rfl rfl (by decide) rfl) $$ [HS]
  · isplitr; · iexact HR
    iexact HS
  iintro ⟨HS, Hr'⟩
  ihave Hr := (Entails.of_eq (recvPay_3' J c 0)) $$ Hr; icases Hr with ⟨Hr, -⟩
  ihave Hr' := (Entails.of_eq (recvPay_3' J c 1)) $$ Hr'; icases Hr' with ⟨Hr', -⟩
  iapply (wp_loadT (sendT 0 c) (off2_at c) (Finset.Subset.refl _)) $$ Hr; iintro Hr
  iapply (wp_load3T (sendT 0 c) (off25_at c) (Finset.Subset.refl _)) $$ Ho; iintro Ho
  iapply (wp_store3T (sendT 0 c) (OUT J c) (off25_at c) (out_send J c 0)) $$ Ho; iintro Ho
  iapply (wp_loadT (sendT 1 c) (off4_at c) (Finset.Subset.refl _)) $$ Hr'; iintro Hr'
  iapply (wp_load3T (sendT 1 c) (off26_at c) (Finset.Subset.refl _)) $$ Ho'; iintro Ho'
  rw [wp_ret]; imodintro
  iapply Hk
  isplitl [HS]; · iexact HS
  isplitl [Hs]; · iexact Hs
  isplitl [Hr]; · iexact Hr
  isplitl [Hr']; · iexact Hr'
  isplitl [Ho] <;> iassumption

end Cert.KernelProof
-- ==== Proof.Body.lean ====
/-
# The body

The thirty-five pieces of the body one after another: from the staged blocks, the scratch buffers and a device's share of
the records, to the blocks as they were, the result, and every count spent.
-/
module

public import proofs.«01_k».proof.Proof.Places
public import proofs.«01_k».proof.Proof.Parts1
public import proofs.«01_k».proof.Proof.Parts2
public import proofs.«01_k».proof.Proof.Parts3
public import proofs.«01_k».proof.Proof.Parts4

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F) (K : Dev nD × CK → ℕ) (c : Dev nD)

/-! ## What the body starts and ends with -/

/-- The nine staged blocks. -/
def Ins (J : In F) : sProp 𝕄 :=
  iprop(Own c (Memref.whole cc0_stg0_0) fullShare Finset.univ J.x ∗ Own c (Memref.whole cc0_stg1_0) fullShare Finset.univ J.wq
    ∗ Own c (Memref.whole cc0_stg2_0) fullShare Finset.univ J.wk ∗ Own c (Memref.whole cc0_stg3_0) fullShare Finset.univ J.wv
    ∗ Own c (Memref.whole cc0_stg4_0) fullShare Finset.univ J.wo ∗ Own c (Memref.whole cc0_stg5_0) fullShare Finset.univ J.tv
    ∗ Own c (Memref.whole cc0_stg6_0) fullShare Finset.univ J.wa ∗ Own c (Memref.whole cc0_stg7_0) fullShare Finset.univ J.w1
    ∗ Own c (Memref.whole cc0_stg8_0) fullShare Finset.univ J.w2)
/-- The six scratch buffers, at whatever they hold. -/
def Scr : sProp 𝕄 :=
  iprop(Any (F := F) c accM Finset.univ ∗ Any (F := F) c g1M Finset.univ ∗ Any (F := F) c g2M Finset.univ
    ∗ Any (F := F) c rbM Finset.univ ∗ Any (F := F) c rsM Finset.univ ∗ Any (F := F) c qM Finset.univ)
/-- What is recorded of a device's transfers before any. -/
def Toks : sProp 𝕄 :=
  iprop((bigSep Finset.univ fun p => iprop(dutyTok ER (sendCell c p) 0 false ∗ dutyTok ER (recvCell (tgt p c) p) 0 false))
    ∗ (bigSep Finset.univ fun p => atPos ER (sendCell c p) 0 ∅ 0)
    ∗ bigSep Finset.univ fun p => iprop(atPos ER (recvCell c p) 0 ∅ 0 ∗ cred (tallyAt (recvCell c p) () (amt p))))
/-- The device's barrier count and its transfers' counts, spent. -/
def Sems : sProp 𝕄 :=
  iprop(semVal (barCell c) 0 ∗ (bigSep Finset.univ fun p => semVal (sendCell c p) 0) ∗ bigSep Finset.univ fun p => semVal (recvCell c p) 0)

omit [FloatOps F] in
theorem st_start : iprop((∃ W, owes (c : Thread nD τ) (due c 0) W) ∗ Toks c) ⊢ (St c 0 0 0 : sProp 𝕄) := by
  unfold St Toks
  rw [since_zero, before_zero, bigSep_empty, bigSep_empty]
  iintro ⟨HO, Ha, Hb, Hc⟩
  isplitl [HO]; · iexact HO
  isplitl [Ha]; · iexact Ha
  isplitl [Hb]; · iexact Hb
  isplitl [Hc]; · iexact Hc
  isplitl [] <;> iempintro
omit [FloatOps F] in
theorem st_end : iprop(St c 16 16 16 ∗ semVal (barCell c) 0) ⊢ (iprop((∃ W, owes (c : Thread nD τ) 0 W) ∗ Sems c) : sProp 𝕄) := by
  unfold St Sems
  rw [before_end, due_end]
  iintro ⟨⟨HO, -, -, -, Ha, Hb⟩, Hc⟩
  isplitl [HO]; · iexact HO
  isplitl [Hc]; · iexact Hc
  isplitl [Ha] <;> iassumption

omit [FloatOps F] in
theorem any_out {s : Shape} {e : EltTy} {m : Memref sig .tc .vmem s e} {M : Finset s.Idx} :
    (Any (F := F) c m M : sProp 𝕄) ⊢ iprop(∃ X, Own c m fullShare M X) := .rfl

set_option maxHeartbeats 4000000 in
/-- The body, from what a device has of the records to what it leaves. -/
theorem body_runs {Q : PUnit → sProp 𝕄} :
    iprop(Recs J K ∗ (∃ W, owes (c : Thread nD τ) (O₀ c) W) ∗ (dutyTok ER (barCell (pA c)) 0 false ∗ dutyTok ER (barCell (pB c)) 0 true)
        ∗ (atPos ER (barCell c) 0 ∅ 0 ∗ cred (tallyAt (barCell c) () 2)) ∗ Toks c
        ∗ Ins c (J c) ∗ Any (F := F) c (Memref.whole cc0_stg9_0) Finset.univ ∗ Scr (F := F) c)
      ⊢ iprop((((∃ W, owes (c : Thread nD τ) 0 W) ∗ Sems c ∗ Ins c (J c) ∗ Own c (Memref.whole cc0_stg9_0) fullShare Finset.univ (OUT J c) ∗ Scr (F := F) c) -∗ Q ⟨⟩)
        -∗ Runs c (withBufs (cc0_body (F := F))) Q) := by
  have ga : ∀ (m : Memref sig .tc .vmem S1024x768 .bf16), _ := fun m => any_halves (F := F) (m := m) c (B := band) band_union band_univ (fun _ _ => band_disj)
  have gq : ∀ (m : Memref sig .tc .vmem S1024x768 .bf16) (h : Fin 2), _ := fun m h => any_quarters (F := F) (m := m) c (B := band) band_union (fun _ _ => band_disj) h
  have gj : ∀ (m : Memref sig .tc .vmem S1024x768 .bf16), _ := fun m => any_unhalve (F := F) (m := m) c (B := band) band_union band_univ (fun _ _ => band_disj)
  have ho := any_halves (F := F) (m := (Memref.whole cc0_stg9_0 : Memref sig .tc .vmem S2x512x768 .f32)) c (B := band3) band3_union band3_univ (fun _ _ => band3_disj)
  have hoq : ∀ h : Fin 2, _ := fun h => any_quarters (F := F) (m := (Memref.whole cc0_stg9_0 : Memref sig .tc .vmem S2x512x768 .f32)) c (B := band3) band3_union (fun _ _ => band3_disj) h
  rw [cc0_body_eq_skeleton]; unfold Runs withBufs cc0_body_skel
  simp only [Prog.lift, Prog.pure_eq_ret]
  unfold Ins Scr
  iintro ⟨#HR, HO, ⟨Hta, Htb⟩, ⟨Hat, Hcb⟩, Htk, ⟨Hx, Hwq, Hwk, Hwv, Hwo, Htv, Hwa, Hw1, Hw2⟩, Hout, Hacc, Hg1, Hg2, Hrb, Hrs, Hq⟩ Hk
  ihave Hacc := (ga accM) $$ Hacc; icases Hacc with ⟨⟨Hak0, Has0⟩, Hak1, Has1⟩
  ihave Hg1 := (ga g1M) $$ Hg1; icases Hg1 with ⟨⟨Hg1k0, Hg1s0⟩, Hg1k1, Hg1s1⟩
  ihave Hg2 := (ga g2M) $$ Hg2; icases Hg2 with ⟨⟨Hg2k0, Hg2s0⟩, Hg2k1, Hg2s1⟩
  ihave Hout := ho $$ Hout; icases Hout with ⟨⟨Hok0, Hos0⟩, Hok1, Hos1⟩
  ihave Hg1k0 := (gq g1M 0) $$ Hg1k0; icases Hg1k0 with ⟨Hg1m0, Hg1t0⟩
  ihave Hg1k1 := (gq g1M 1) $$ Hg1k1; icases Hg1k1 with ⟨Hg1m1, Hg1t1⟩
  ihave Hg2k0 := (gq g2M 0) $$ Hg2k0; icases Hg2k0 with ⟨Hg2m0, Hg2t0⟩
  ihave Hg2k1 := (gq g2M 1) $$ Hg2k1; icases Hg2k1 with ⟨Hg2m1, Hg2t1⟩
  ihave Hok0 := (hoq 0) $$ Hok0; icases Hok0 with ⟨Hom0, Hot0⟩
  ihave Hok1 := (hoq 1) $$ Hok1; icases Hok1 with ⟨Hom1, Hot1⟩
  ihave Hrb := (any_slots (m := rbM) (r := bigR) (hr := fun _ _ => rfl) c big_cover big_disj) $$ Hrb; icases Hrb with ⟨Hrb0, Hrb1⟩
  ihave Hrs := (any_slots (m := rsM) (r := smallR) (hr := fun _ _ => rfl) c small_cover small_disj) $$ Hrs; icases Hrs with ⟨Hrs0, Hrs1⟩
  ihave HpA : barPay (F := F) (pA c) 0 $$ [Hrb0 Hg1s0 Hg2s0 Hrs1 Hg1t1 Hg2t1]
  · iapply (Entails.of_eq (barPay_peer (F := F) c 0).symm)
    isplitl [Hrb0]; · iexact Hrb0
    isplitl [Hg1s0]; · iexact Hg1s0
    isplitl [Hg2s0]; · iexact Hg2s0
    isplitl [Hrs1]; · iexact Hrs1
    isplitl [Hg1t1]; · iexact Hg1t1
    iexact Hg2t1
  ihave HpB : barPay (F := F) (pB c) 1 $$ [Hrb1 Hg1s1 Hg2s1 Hrs0 Hg1t0 Hg2t0]
  · iapply (Entails.of_eq (barPay_peer (F := F) c 1).symm)
    isplitl [Hrb1]; · iexact Hrb1
    isplitl [Hg1s1]; · iexact Hg1s1
    isplitl [Hg2s1]; · iexact Hg2s1
    isplitl [Hrs0]; · iexact Hrs0
    isplitl [Hg1t0]; · iexact Hg1t0
    iexact Hg2t0
  ihave Hak0 := (any_out (F := F) c) $$ Hak0; icases Hak0 with ⟨%_, Hak0⟩
  ihave Has0 := (any_out (F := F) c) $$ Has0; icases Has0 with ⟨%_, Has0⟩
  ihave Hak1 := (any_out (F := F) c) $$ Hak1; icases Hak1 with ⟨%_, Hak1⟩
  ihave Has1 := (any_out (F := F) c) $$ Has1; icases Has1 with ⟨%_, Has1⟩
  ihave Hg1m0 := (any_out (F := F) c) $$ Hg1m0; icases Hg1m0 with ⟨%_, Hg1m0⟩
  ihave Hg1m1 := (any_out (F := F) c) $$ Hg1m1; icases Hg1m1 with ⟨%_, Hg1m1⟩
  ihave Hg2m0 := (any_out (F := F) c) $$ Hg2m0; icases Hg2m0 with ⟨%_, Hg2m0⟩
  ihave Hg2m1 := (any_out (F := F) c) $$ Hg2m1; icases Hg2m1 with ⟨%_, Hg2m1⟩
  ihave Hom0 := (any_out (F := F) c) $$ Hom0; icases Hom0 with ⟨%_, Hom0⟩
  ihave Hot0 := (any_out (F := F) c) $$ Hot0; icases Hot0 with ⟨%_, Hot0⟩
  ihave Hos0 := (any_out (F := F) c) $$ Hos0; icases Hos0 with ⟨%_, Hos0⟩
  ihave Hom1 := (any_out (F := F) c) $$ Hom1; icases Hom1 with ⟨%_, Hom1⟩
  ihave Hot1 := (any_out (F := F) c) $$ Hot1; icases Hot1 with ⟨%_, Hot1⟩
  ihave Hos1 := (any_out (F := F) c) $$ Hos1; icases Hos1 with ⟨%_, Hos1⟩
  ihave Hq := (any_out (F := F) c) $$ Hq; icases Hq with ⟨%_, Hq⟩
  rw [wp_bind]
  iapply (part1 J K c) $$ [HO Hta Htb HpA HpB]
  · isplitr; · iexact HR
    isplitl [HO]; · iexact HO
    isplitl [Hta]; · iexact Hta
    isplitl [Htb]; · iexact Htb
    isplitl [HpA]; · iexact HpA
    iexact HpB
  iintro %_ %_ %_ %_ HO
  dsimp only
  rw [wp_bind]
  iapply (part2 J K c) $$ [HO Hat Hcb Htv Hwa Hx]
  · isplitr; · iexact HR
    isplitl [HO]; · iexact HO
    isplitl [Hat]; · iexact Hat
    isplitl [Hcb]; · iexact Hcb
    isplitl [Htv]; · iexact Htv
    isplitl [Hwa]; · iexact Hwa
    iexact Hx
  iintro %_ %_ %_ %_ %_ %_ %_ %_ ⟨HO, Hsem, Hp0, Hp1, Htv, Hwa, Hx⟩
  dsimp only
  ihave HS := (st_start (F := F) c) $$ [HO Htk]
  · isplitl [HO] <;> iassumption
  unfold barPay
  icases Hp0 with ⟨Hz000, Hz003, Hz103, Hz011, Hz012, Hz112⟩
  icases Hp1 with ⟨Hz010, Hz013, Hz113, Hz001, Hz002, Hz102⟩
  simp only [show (1 : Fin 2) - 0 = 1 from rfl, show (1 : Fin 2) - 1 = 0 from rfl]
  rw [wp_bind]
  iapply (part3 J c) $$ [Hwq Hwk Hwv Hwo]
  · isplitl [Hwq]; · iexact Hwq
    isplitl [Hwk]; · iexact Hwk
    isplitl [Hwv]; · iexact Hwv
    iexact Hwo
  iintro ⟨Hwq, Hwk, Hwv, Hwo⟩
  dsimp only
  rw [wp_bind]
  iapply (part4 J c) $$ [Hq]
  · iexact Hq
  iintro Hq
  dsimp only
  rw [wp_bind]
  iapply (part5 J c) $$ [Has0]
  · iexact Has0
  iintro Has0
  rw [wp_bind]
  iapply (part6 J c) $$ [Hq]
  · iexact Hq
  iintro Hq
  dsimp only
  rw [wp_bind]
  iapply (part7 J c) $$ [Has1]
  · iexact Has1
  iintro Has1
  rw [wp_bind]
  iapply (part8 J K c) $$ [HS Has0 Hz000 Has1 Hz010 Hq]
  · isplitr; · iexact HR
    isplitl [HS]; · iexact HS
    isplitl [Has0]; · iexact Has0
    isplitl [Hz000]; · iexact Hz000
    isplitl [Has1]; · iexact Has1
    isplitl [Hz010]; · iexact Hz010
    iexact Hq
  iintro ⟨HS, Hc000, Hc010, Hq⟩
  dsimp only
  rw [wp_bind]
  iapply (part9 J c)
  dsimp only
  rw [wp_bind]
  iapply (part10 J c) $$ [Hak0 Hq]
  · isplitl [Hak0]; · iexact Hak0
    iexact Hq
  iintro ⟨Hak0, Hq⟩
  dsimp only
  rw [wp_bind]
  iapply (part11 J c) $$ [Hak1]
  · iexact Hak1
  iintro Hak1
  rw [wp_bind]
  iapply (part12 J K c) $$ [HS Hc000 Hc010]
  · isplitr; · iexact HR
    isplitl [HS]; · iexact HS
    isplitl [Hc000]; · iexact Hc000
    iexact Hc010
  iintro ⟨HS, Has0, Hr000, Has1⟩
  rw [wp_bind]
  iapply (part13 J K c) $$ [HS Hak0 Hak1 Hr000]
  · isplitr; · iexact HR
    isplitl [HS]; · iexact HS
    isplitl [Hak0]; · iexact Hak0
    isplitl [Hak1]; · iexact Hak1
    iexact Hr000
  iintro %_ ⟨HS, Hak0, Hak1, Hb0, Hb1⟩
  ihave Hak0 := (keep_split 0) $$ Hak0; icases Hak0 with ⟨Ham0, Hat0⟩
  ihave Hak1 := (keep_split 1) $$ Hak1; icases Hak1 with ⟨Ham1, Hat1⟩
  rw [wp_bind]
  iapply (part14 J K c) $$ [HS Hat0 Hz001 Hat1 Hz011]
  · isplitr; · iexact HR
    isplitl [HS]; · iexact HS
    isplitl [Hat0]; · iexact Hat0
    isplitl [Hz001]; · iexact Hz001
    isplitl [Hat1]; · iexact Hat1
    iexact Hz011
  iintro %_ %_ ⟨HS, Hc011, Hat0⟩
  dsimp only
  rw [wp_bind]
  iapply (part15 J K c) $$ [HS Hc011 Ham0 Hx]
  · isplitr; · iexact HR
    isplitl [HS]; · iexact HS
    isplitl [Hc011]; · iexact Hc011
    isplitl [Ham0]; · iexact Ham0
    iexact Hx
  iintro %_ ⟨HS, Hat1, Hs0, Hs1, Ham0, Hx⟩
  dsimp only
  rw [wp_bind]
  iapply (part16 J c) $$ [Hg1m0 Hg1m1 Ham1 Hs1 Hx Hw1 Hw2]
  · isplitl [Hg1m0]; · iexact Hg1m0
    isplitl [Hg1m1]; · iexact Hg1m1
    isplitl [Ham1]; · iexact Ham1
    isplitl [Hs1]; · iexact Hs1
    isplitl [Hx]; · iexact Hx
    isplitl [Hw1]; · iexact Hw1
    iexact Hw2
  iintro ⟨Hg1m0, Hg1m1, Ham1, Hs1, Hx, Hw1, Hw2⟩
  dsimp only
  ihave Hs0 := (any_of_own _) $$ Hs0
  rw [wp_bind]
  iapply (part17 J K c) $$ [HS Hg1m0 Hg1m1 Hz002 Hz012 Hs0 Hs1]
  · isplitr; · iexact HR
    isplitl [HS]; · iexact HS
    isplitl [Hg1m0]; · iexact Hg1m0
    isplitl [Hg1m1]; · iexact Hg1m1
    isplitl [Hz002]; · iexact Hz002
    isplitl [Hz012]; · iexact Hz012
    isplitl [Hs0]; · iexact Hs0
    iexact Hs1
  iintro %_ ⟨HS, Hc002, Hc012, Hg1m0, Hg1m1⟩
  dsimp only
  rw [wp_bind]
  iapply (part18 J c) $$ [Ham0 Hg1m1]
  · isplitl [Ham0]; · iexact Ham0
    iexact Hg1m1
  iintro %_ ⟨Ham0, Hg1m1⟩
  dsimp only
  rw [wp_bind]
  iapply (part19 J K c) $$ [HS Hc002 Ham1]
  · isplitr; · iexact HR
    isplitl [HS]; · iexact HS
    isplitl [Hc002]; · iexact Hc002
    iexact Ham1
  iintro ⟨HS, Hl002, Ham1⟩
  rw [wp_bind]
  iapply (part20 J K c) $$ [HS Hc012 Hl002 Hg1m0 Hg1m1 Hz003 Hb0]
  · isplitr; · iexact HR
    isplitl [HS]; · iexact HS
    isplitl [Hc012]; · iexact Hc012
    isplitl [Hl002]; · iexact Hl002
    isplitl [Hg1m0]; · iexact Hg1m0
    isplitl [Hg1m1]; · iexact Hg1m1
    isplitl [Hz003]; · iexact Hz003
    iexact Hb0
  iintro ⟨HS, Hc003, Hg1k0, Hg1k1, Hz101, Hz111⟩
  rw [wp_bind]
  iapply (part21 J K c) $$ [HS Hg1k1 Hz013 Hb1 Hg1k0]
  · isplitr; · iexact HR
    isplitl [HS]; · iexact HS
    isplitl [Hg1k1]; · iexact Hg1k1
    isplitl [Hz013]; · iexact Hz013
    isplitl [Hb1]; · iexact Hb1
    iexact Hg1k0
  iintro %_ ⟨HS, Hc013, Hg1k0, Hg1k1⟩
  dsimp only
  ihave Hat0 := (Entails.of_eq (sendPay_1 J c 0 0)) $$ Hat0
  ihave Hat1 := (Entails.of_eq (sendPay_1 J c 0 1)) $$ Hat1
  ihave Has0 := (Entails.of_eq (sendPay_0 J c 0 0)) $$ Has0
  ihave Has1 := (Entails.of_eq (sendPay_0 J c 0 1)) $$ Has1
  rw [wp_bind]
  iapply (part22 J c) $$ [Hat0 Hg1k1]
  · isplitl [Hat0]; · iexact Hat0
    iexact Hg1k1
  iintro %_ ⟨Hat0, Hg1k1⟩
  dsimp only
  rw [wp_bind]
  iapply (part23 J K c) $$ [HS Hc003 Hc013 Hat1]
  · isplitr; · iexact HR
    isplitl [HS]; · iexact HS
    isplitl [Hc003]; · iexact Hc003
    isplitl [Hc013]; · iexact Hc013
    iexact Hat1
  iintro %_ ⟨HS, Hl003, Hg1s0, Hz100, Hl013, Hat1⟩
  rw [wp_bind]
  iapply (part24 J K c) $$ [HS Hg1s0]
  · isplitr; · iexact HR
    isplitl [HS]; · iexact HS
    iexact Hg1s0
  iintro %_ ⟨HS, Hg1s1, Hz110, Hg1s0⟩
  dsimp only
  rw [wp_bind]
  iapply (part25 J c) $$ [Has0 Hg1s1]
  · isplitl [Has0]; · iexact Has0
    iexact Hg1s1
  iintro %_ ⟨Has0, Hg1s1⟩
  dsimp only
  rw [wp_bind]
  iapply (part26 J K c) $$ [HS Has1 Hz100 Has0]
  · isplitr; · iexact HR
    isplitl [HS]; · iexact HS
    isplitl [Has1]; · iexact Has1
    isplitl [Hz100]; · iexact Hz100
    iexact Has0
  iintro ⟨HS, Hc100, Has1⟩
  rw [wp_bind]
  iapply (part27 J K c) $$ [HS Hc100 Has1 Hz110]
  · isplitr; · iexact HR
    isplitl [HS]; · iexact HS
    isplitl [Hc100]; · iexact Hc100
    isplitl [Has1]; · iexact Has1
    iexact Hz110
  iintro ⟨HS, Has0, Hr100, Has1⟩
  ihave Hak0 := (keep_join (m := accM) (q := fullShare) (X := AA J 1 c) 0) $$ [Ham0 Hat0]
  · isplitl [Ham0] <;> iassumption
  ihave Hak1 := (keep_join (m := accM) (q := fullShare) (X := AA J 1 c) 1) $$ [Ham1 Hat1]
  · isplitl [Ham1] <;> iassumption
  rw [wp_bind]
  iapply (part28 J K c) $$ [HS Hak0 Hak1 Hr100]
  · isplitr; · iexact HR
    isplitl [HS]; · iexact HS
    isplitl [Hak0]; · iexact Hak0
    isplitl [Hak1]; · iexact Hak1
    iexact Hr100
  iintro %_ ⟨HS, Hak0, Hak1, Hb0, Hb1⟩
  ihave Hak0 := (keep_split 0) $$ Hak0; icases Hak0 with ⟨Ham0, Hat0⟩
  ihave Hak1 := (keep_split 1) $$ Hak1; icases Hak1 with ⟨Ham1, Hat1⟩
  ihave Hl003 := (Entails.of_eq (show sendPay J 0 0 3 c = Own c g1M fullShare.left (band (two (keepT 0 c))) (GG J 0) from rfl)) $$ Hl003
  ihave Hl013 := (Entails.of_eq (show sendPay J 0 1 3 c = Own c g1M fullShare.left (band (two (keepT 1 c))) (GG J 0) from rfl)) $$ Hl013
  ihave Hg1k0 := (own_whole (c := c) (m := g1M) (X := GG J 0)) $$ [Hl003 Hg1k0]
  · isplitl [Hl003] <;> iassumption
  ihave Hg1k1 := (own_whole (c := c) (m := g1M) (X := GG J 0)) $$ [Hl013 Hg1k1]
  · isplitl [Hl013] <;> iassumption
  rw [wp_bind]
  iapply (part29 J K c) $$ [HS Hat0 Hz101 Hat1 Hz111]
  · isplitr; · iexact HR
    isplitl [HS]; · iexact HS
    isplitl [Hat0]; · iexact Hat0
    isplitl [Hz101]; · iexact Hz101
    isplitl [Hat1]; · iexact Hat1
    iexact Hz111
  iintro %_ ⟨HS, Hc111, Hat0⟩
  rw [wp_bind]
  iapply (part30 J K c) $$ [HS Hc111 Ham0 Hg1k0]
  · isplitr; · iexact HR
    isplitl [HS]; · iexact HS
    isplitl [Hc111]; · iexact Hc111
    isplitl [Ham0]; · iexact Ham0
    iexact Hg1k0
  iintro %_ ⟨HS, Hat1, Hs0, Hs1, Ham0, Hg1k0⟩
  dsimp only
  rw [wp_bind]
  iapply (part31 J K c) $$ [HS Hg2m0 Hg2m1 Ham1 Hs1 Hg1k1 Hz102]
  · isplitr; · iexact HR
    isplitl [HS]; · iexact HS
    isplitl [Hg2m0]; · iexact Hg2m0
    isplitl [Hg2m1]; · iexact Hg2m1
    isplitl [Ham1]; · iexact Ham1
    isplitl [Hs1]; · iexact Hs1
    isplitl [Hg1k1]; · iexact Hg1k1
    iexact Hz102
  iintro ⟨HS, Hc102, Hg2m0, Hg2m1, Ham1, Hs1, Hg1k1⟩
  rw [wp_bind]
  iapply (part32 J K c) $$ [HS Hg2m1 Hz112 Hg2m0 Hom0 Hom1 Hc102]
  · isplitr; · iexact HR
    isplitl [HS]; · iexact HS
    isplitl [Hg2m1]; · iexact Hg2m1
    isplitl [Hz112]; · iexact Hz112
    isplitl [Hg2m0]; · iexact Hg2m0
    isplitl [Hom0]; · iexact Hom0
    isplitl [Hom1]; · iexact Hom1
    iexact Hc102
  iintro %_ ⟨HS, Hc112, Hl102, Hg2m0, Hg2m1, Hom0, Hom1⟩
  rw [wp_bind]
  iapply (part33 J K c) $$ [HS Hc112 Hl102 Hg2m0 Hg2m1 Hz103]
  · isplitr; · iexact HR
    isplitl [HS]; · iexact HS
    isplitl [Hc112]; · iexact Hc112
    isplitl [Hl102]; · iexact Hl102
    isplitl [Hg2m0]; · iexact Hg2m0
    isplitl [Hg2m1]; · iexact Hg2m1
    iexact Hz103
  iintro ⟨HS, Hc103, Hg2k0, Hg2k1⟩
  rw [wp_bind]
  iapply (part34 J K c) $$ [HS Hg2k1 Hz113 Hg2k0 Hot0 Hot1 Hc103]
  · isplitr; · iexact HR
    isplitl [HS]; · iexact HS
    isplitl [Hg2k1]; · iexact Hg2k1
    isplitl [Hz113]; · iexact Hz113
    isplitl [Hg2k0]; · iexact Hg2k0
    isplitl [Hot0]; · iexact Hot0
    isplitl [Hot1]; · iexact Hot1
    iexact Hc103
  iintro %_ %_ ⟨HS, Hc113, Hl103, Hg2k0, Hg2k1, Hot0, Hot1⟩
  dsimp only
  rw [wp_bind]
  iapply (part35 J K c) $$ [HS Hc113 Hos0 Hos1]
  · isplitr; · iexact HR
    isplitl [HS]; · iexact HS
    isplitl [Hc113]; · iexact Hc113
    isplitl [Hos0]; · iexact Hos0
    iexact Hos1
  iintro ⟨HS, Hl113, Hg2s0, Hg2s1, Hos0, Hos1⟩
  simp only [Prog.bind_op, Prog.bind_ret]
  iapply (wp_store3T (sendT 1 c) (OUT J c) (off26_at c) (out_send J c 1)) $$ Hos1; iintro Hos1
  rw [wp_ret]; imodintro
  iapply Hk
  ihave HS := (st_end (F := F) c) $$ [HS Hsem]
  · isplitl [HS] <;> iassumption
  icases HS with ⟨HO, HS⟩
  ihave Hl103 := (Entails.of_eq (show sendPay J 1 0 3 c = Own c g2M fullShare.left (band (two (keepT 0 c))) (GG J 1) from rfl)) $$ Hl103
  ihave Hl113 := (Entails.of_eq (show sendPay J 1 1 3 c = Own c g2M fullShare.left (band (two (keepT 1 c))) (GG J 1) from rfl)) $$ Hl113
  ihave Hg2k0 := (own_whole (c := c) (m := g2M) (X := GG J 1)) $$ [Hl103 Hg2k0]
  · isplitl [Hl103] <;> iassumption
  ihave Hg2k1 := (own_whole (c := c) (m := g2M) (X := GG J 1)) $$ [Hl113 Hg2k1]
  · isplitl [Hl113] <;> iassumption
  ihave Hat0 := (Entails.of_eq (sendPay_1 J c 1 0)) $$ Hat0
  ihave Hat1 := (Entails.of_eq (sendPay_1 J c 1 1)) $$ Hat1
  ihave Has0 := (Entails.of_eq (sendPay_0 J c 1 0)) $$ Has0
  ihave Has1 := (Entails.of_eq (sendPay_0 J c 1 1)) $$ Has1
  ihave Hak0 := (keep_join (m := accM) (q := fullShare) (X := BB J 1 c) 0) $$ [Ham0 Hat0]
  · isplitl [Ham0] <;> iassumption
  ihave Hak1 := (keep_join (m := accM) (q := fullShare) (X := BB J 1 c) 1) $$ [Ham1 Hat1]
  · isplitl [Ham1] <;> iassumption
  isplitl [HO]; · iexact HO
  isplitl [HS]; · iexact HS
  isplitl [Hx Hwq Hwk Hwv Hwo Htv Hwa Hw1 Hw2]
  · isplitl [Hx]; · iexact Hx
    isplitl [Hwq]; · iexact Hwq
    isplitl [Hwk]; · iexact Hwk
    isplitl [Hwv]; · iexact Hwv
    isplitl [Hwo]; · iexact Hwo
    isplitl [Htv]; · iexact Htv
    isplitl [Hwa]; · iexact Hwa
    isplitl [Hw1] <;> iassumption
  isplitl [Hom0 Hot0 Hos0 Hom1 Hot1 Hos1]
  · iapply (own_chunks c (B := band3) band3_union band3_univ (fun _ _ => band3_disj))
    isplitl [Hom0 Hot0 Hos0]
    · isplitl [Hom0]; · iexact Hom0
      isplitl [Hot0] <;> iassumption
    isplitl [Hom1]; · iexact Hom1
    isplitl [Hot1] <;> iassumption
  isplitl [Hak0 Has0 Hak1 Has1]
  · iapply (gj accM); isplitl [Hak0 Has0]
    · isplitl [Hak0]
      · iapply (any_of_own _); iexact Hak0
      iapply (any_of_own _); iexact Has0
    isplitl [Hak1]
    · iapply (any_of_own _); iexact Hak1
    iapply (any_of_own _); iexact Has1
  isplitl [Hg1k0 Hg1s0 Hg1k1 Hg1s1]
  · iapply (gj g1M); isplitl [Hg1k0 Hg1s0]
    · isplitl [Hg1k0]
      · iapply (any_of_own _); iexact Hg1k0
      iapply (any_of_own _); iexact Hg1s0
    isplitl [Hg1k1]
    · iapply (any_of_own _); iexact Hg1k1
    iapply (any_of_own _); iexact Hg1s1
  isplitl [Hg2k0 Hg2s0 Hg2k1 Hg2s1]
  · iapply (gj g2M); isplitl [Hg2k0 Hg2s0]
    · isplitl [Hg2k0]
      · iapply (any_of_own _); iexact Hg2k0
      iapply (any_of_own _); iexact Hg2s0
    isplitl [Hg2k1]
    · iapply (any_of_own _); iexact Hg2k1
    iapply (any_of_own _); iexact Hg2s1
  isplitl [Hb0 Hb1]
  · iapply (any_unslots (m := rbM) (r := bigR) (hr := fun _ _ => rfl) c big_cover big_disj)
    isplitl [Hb0] <;> iassumption
  isplitl [Hs0 Hs1]
  · iapply (any_unslots (m := rsM) (r := smallR) (hr := fun _ _ => rfl) c small_cover small_disj)
    isplitl [Hs0] <;> iassumption
  iapply (any_of_own _); iexact Hq

end Cert.KernelProof
-- ==== Proof.Seed.lean ====
/-
# The launch: records and counts

Every semaphore cell is given its one round at the launch, and the right to raise it goes to the device that will. The
records, a device's positions and its rights are what `start` collects; each cell's credit is what the devices owe it.
-/
module

public import proofs.«01_k».proof.Proof.Body

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → In F)

/-! ## Sums over cells -/

section Sums
omit [FloatOps F]

theorem bigSep_opt {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext o; cases o <;> simp
  rw [h, sep_insert (by simp), bigSep_map]; rfl

theorem bigSep_bool (Φ : Bool → sProp 𝕄) : bigSep Finset.univ Φ = iprop(Φ false ∗ Φ true) :=
  bigSep_univ_eq_bigSepL [false, true] (by decide) (by decide) Φ

/-- Over a device's transfer cells: the send cells, then the receive cells. -/
theorem bigSep_xfer (Φ : Bool × Fin 16 → sProp 𝕄) :
    bigSep Finset.univ Φ = iprop((bigSep Finset.univ fun p => Φ (false, p)) ∗ bigSep Finset.univ fun p => Φ (true, p)) := by
  rw [bigSep_univ_prod, bigSep_bool]

/-- What all may know beside each one's own. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BI.bigSep_with_persistent h
end Sums

/-! ## The cells and the duties -/

theorem sq_inj {p p' : Fin 16} (h : sq p = sq p') : p = p' := by rw [← posOf_sq p, h, posOf_sq]
theorem rq_inj {p p' : Fin 16} (h : rq p = rq p') : p = p' := by rw [← posOf_rq p, h, posOf_rq]
theorem sq_ne_rq (p p' : Fin 16) : sq p ≠ rq p' := fun h => by
  have h1 := sq_lt p; have h2 := rq_ge p'; rw [h] at h1; omega

theorem osem_inj : Function.Injective (osem : Bool × Fin 16 → SemLoc sig) := by
  rintro ⟨b, p⟩ ⟨b', p'⟩ h
  have h' : (if b then rq p else sq p) = if b' then rq p' else sq p' := SemLoc.dma.inj h
  cases b <;> cases b' <;> simp only [Bool.false_eq_true, if_false, if_true] at h'
  · rw [sq_inj h']
  · exact absurd h' (sq_ne_rq _ _)
  · exact absurd h'.symm (sq_ne_rq _ _)
  · rw [rq_inj h']
theorem csem_inj : Function.Injective csem := by
  intro a b h
  match a, b, h with
  | none, none, _ => rfl
  | none, some _, h => cases h
  | some _, none, h => cases h
  | some _, some _, h => exact congrArg some (osem_inj h)
theorem kcell_inj : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def cells : Finset (GSem nD τ sig) := Finset.univ.map ⟨kcell, kcell_inj⟩

/-- A device's cells' duties: the barrier's second, then the first of each cell. -/
def tokOf (co : Dev nD × Option CK) : GSem nD τ sig × ℕ × Bool :=
  match co.2 with | none => (barCell co.1, 0, true) | some k => (kcell (co.1, k), 0, false)
theorem tokOf_inj : Function.Injective tokOf := by
  rintro ⟨c, o⟩ ⟨c', o'⟩ h
  match o, o', h with
  | none, none, h => exact congrArg (fun d => (d, none)) (congrArg (fun x : GSem nD τ sig × ℕ × Bool => x.1.1.1) h : c = c')
  | none, some _, h => exact Bool.noConfusion (congrArg (fun x : GSem nD τ sig × ℕ × Bool => x.2.2) h : true = false)
  | some _, none, h => exact Bool.noConfusion (congrArg (fun x : GSem nD τ sig × ℕ × Bool => x.2.2) h : false = true)
  | some k, some k', h =>
    have h' : kcell (c, k) = kcell (c', k') := congrArg Prod.fst h
    have := kcell_inj h'
    rw [Prod.mk.injEq] at this
    rw [this.1, this.2]
def duties : Finset (GSem nD τ sig × ℕ × Bool) := Finset.univ.map ⟨tokOf, tokOf_inj⟩

/-- The record the launch starts from. -/
def u₀ : UU := (initOf (Pipeline.cells cfgs cellOf_inj) (Pipeline.launchToks cfgs cellOf_inj), initOf cells duties)

/-- The duties of device `c`'s own cells. -/
def ownToks (c : Dev nD) : sProp 𝕄 :=
  iprop(dutyTok ER (barCell c) 0 true ∗ dutyTok ER (barCell c) 0 false
    ∗ (bigSep Finset.univ fun p => dutyTok ER (sendCell c p) 0 false) ∗ bigSep Finset.univ fun p => dutyTok ER (recvCell c p) 0 false)
/-- The duties device `c` fulfils. -/
def payToks (c : Dev nD) : sProp 𝕄 :=
  iprop((dutyTok ER (barCell (pA c)) 0 false ∗ dutyTok ER (barCell (pB c)) 0 true)
    ∗ bigSep Finset.univ fun p => iprop(dutyTok ER (sendCell c p) 0 false ∗ dutyTok ER (recvCell (tgt p c) p) 0 false))

/-- What the starting record gives device `c`. -/
def G (c : Dev nD) : sProp 𝕄 :=
  iprop((bigSep Finset.univ fun k : CK => roundState ER (sched J) (kcell (c, k)) 0)
    ∗ ((bigSep Finset.univ fun k : CK => atPos ER (kcell (c, k)) 0 ∅ 0) ∗ bigSep Finset.univ fun k : CK => reached ER (kcell (c, k)) 0) ∗ ownToks c)

theorem fund_cells : BI.own (ER (initOf cells duties)) ⊢ (|==> bigSep Finset.univ (G J) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep duties (fun x => (dutyTok ER x.1 x.2.1 x.2.2 : sProp 𝕄)) = bigSep Finset.univ fun c : Dev nD => ownToks c := by
    unfold duties; rw [bigSep_map, bigSep_univ_prod]
    exact bigSep_congr fun c _ => by unfold ownToks; rw [bigSep_opt, bigSep_opt, bigSep_xfer]; rfl
  iintro HX
  imod (Rounds.fund ER (sched J) cells duties) $$ HX with ⟨Hst, Hr, Hat, Htok⟩
  imodintro
  ihave Hst := (Entails.of_eq (hX fun g => roundState ER (sched J) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The invariants -/

omit [FloatOps F] in
theorem barSem_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem xferSems_eq (c : Dev nD) : (Pipeline.ownSems0 (Ix := Unit) (Name := ℕ) (U := UU) (Lvl := ℕ) (Val := Elt F) (τ := τ) osem c : sProp 𝕄)
    = iprop((bigSep Finset.univ fun p => semVal (sendCell c p) 0) ∗ bigSep Finset.univ fun p => semVal (recvCell c p) 0) := by
  unfold Pipeline.ownSems0; rw [bigSep_xfer]; rfl

/-- Each device's cells put under their invariants. -/
theorem core_alloc (c : Dev nD) :
    iprop(Pipeline.ownSems0 (Ix := Unit) (Name := ℕ) (U := UU) (Lvl := ℕ) (Val := Elt F) (τ := τ) osem c ∗ unscopedSems0 c ∗ G J c)
      ⊢ |={Set.univ}=> iprop((bigSep Finset.univ fun k => iprop(∃ κ : ℕ, cellInv ER (sched J) κ (kcell (c, k))))
          ∗ ((bigSep Finset.univ fun k : CK => atPos ER (kcell (c, k)) 0 ∅ 0) ∗ bigSep Finset.univ fun k : CK => reached ER (kcell (c, k)) 0) ∗ ownToks c) := by
  have hv : iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
    rw [barSem_eq, bigSep_opt]
    unfold Pipeline.ownSems0
    iintro ⟨H1, H2⟩
    isplitl [H2] <;> iassumption
  have ha : iprop((bigSep Finset.univ fun k : CK => semVal (kcell (c, k)) 0) ∗ bigSep Finset.univ fun k : CK => roundState ER (sched J) (kcell (c, k)) 0)
      ⊢ (|={Set.univ}=> bigSep Finset.univ fun k => iprop(∃ κ : ℕ, cellInv ER (sched J) κ (kcell (c, k))) : sProp 𝕄) := by
    rw [← bigSep_sep']
    exact (bigSep_mono fun k _ => (Rounds.body_intro ER (sched J) (kcell (c, k))).trans inv_alloc).trans (bigSep_fupd _ _)
  unfold G
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat] <;> iassumption

/-! ## Who gets which duty -/

theorem pA_pA (c : Dev nD) : pA (pA c) = c := by revert c; decide
theorem pB_pB (c : Dev nD) : pB (pB c) = c := by revert c; decide
def pAeq : Dev nD ≃ Dev nD := ⟨pA, pA, pA_pA, pA_pA⟩
def pBeq : Dev nD ≃ Dev nD := ⟨pB, pB, pB_pB, pB_pB⟩
def tgtEq : Fin 16 × Dev nD ≃ Fin 16 × Dev nD :=
  ⟨fun pc => (pc.1, tgt pc.1 pc.2), fun pc => (pc.1, tgt pc.1 pc.2), fun pc => Prod.ext rfl (tgt_tgt _ _), fun pc => Prod.ext rfl (tgt_tgt _ _)⟩

omit [FloatOps F] in
/-- Each receive cell's duty, at the device that sends there. -/
theorem recv_toks : (bigSep Finset.univ fun c : Dev nD => bigSep Finset.univ fun p : Fin 16 => (dutyTok ER (recvCell c p) 0 false : sProp 𝕄))
    = bigSep Finset.univ fun c : Dev nD => bigSep Finset.univ fun p : Fin 16 => dutyTok ER (recvCell (tgt p c) p) 0 false := by
  rw [BI.bigSep_univ_comm, ← bigSep_univ_prod (fun pc : Fin 16 × Dev nD => (dutyTok ER (recvCell pc.2 pc.1) 0 false : sProp 𝕄)),
    bigSep_univ_equiv tgtEq, bigSep_univ_prod, BI.bigSep_univ_comm]; rfl

omit [FloatOps F] in
theorem toks_out : (bigSep Finset.univ fun c : Dev nD => (ownToks c : sProp 𝕄)) ⊢ bigSep Finset.univ fun c : Dev nD => payToks c := by
  unfold ownToks payToks
  simp only [bigSep_sep']
  rw [recv_toks, bigSep_univ_equiv pAeq (fun c : Dev nD => (dutyTok ER (barCell c) 0 false : sProp 𝕄)),
    bigSep_univ_equiv pBeq (fun c : Dev nD => (dutyTok ER (barCell c) 0 true : sProp 𝕄))]
  iintro ⟨H1, H2, H3, H4⟩
  isplitl [H1 H2]
  · isplitl [H2]; · iexact H2
    iexact H1
  isplitl [H3]; · iexact H3
  iexact H4

/-! ## What each device starts from -/

def records (K : Dev nD × CK → ℕ) : sProp 𝕄 :=
  iprop((bigSep Finset.univ fun ck : Dev nD × CK => cellInv ER (sched J) (K ck) (kcell ck))
    ∗ bigSep Finset.univ fun ck : Dev nD × CK => reached ER (kcell ck) 0)
instance records_persistent (K : Dev nD × CK → ℕ) : BI.Persistent (records J K) := by unfold records; infer_instance

/-- A device's share of the records after all invariants are made. -/
def G' (c : Dev nD) : sProp 𝕄 := iprop(∃ K, records J K ∗ (bigSep Finset.univ fun k : CK => atPos ER (kcell (c, k)) 0 ∅ 0) ∗ payToks c)

theorem regroup :
    (bigSep Finset.univ fun c : Dev nD => iprop((bigSep Finset.univ fun k => iprop(∃ κ : ℕ, cellInv ER (sched J) κ (kcell (c, k))))
          ∗ ((bigSep Finset.univ fun k : CK => atPos ER (kcell (c, k)) 0 ∅ 0) ∗ bigSep Finset.univ fun k : CK => reached ER (kcell (c, k)) 0) ∗ ownToks c) : sProp 𝕄)
      ⊢ bigSep Finset.univ (G' J) := by
  rw [bigSep_sep', bigSep_sep', bigSep_sep', ← bigSep_univ_prod (fun ck : Dev nD × CK => iprop(∃ κ : ℕ, cellInv ER (sched J) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched J) κ (kcell ck) : sProp 𝕄))) $$ HI
  icases HK with ⟨%K, #HI⟩
  ihave Htk := (toks_out (F := F)) $$ Htok
  have hg : ∀ c ∈ (Finset.univ : Finset (Dev nD)), iprop(records J K ∗ (bigSep Finset.univ fun k : CK => atPos ER (kcell (c, k)) 0 ∅ 0) ∗ payToks c) ⊢ G' J c := by
    intro c _; unfold G'; iintro H; iexists K; iexact H
  iapply (bigSep_beside hg)
  isplitr
  · unfold records; isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G J c) : sProp 𝕄)
    ⊢ |={Set.univ}=> bigSep Finset.univ (G' J) :=
  ((bigSep_mono fun c _ => core_alloc J c).trans (bigSep_fupd _ _)).trans (BI.fupd_mono (regroup J))

/-! ## The credit of each cell -/

theorem bar_iff {a b : Dev nD} : Iff (barCell a = barCell b) (a = b) :=
  ⟨fun h => congrArg (fun g : GSem nD τ sig => g.1.1) h, fun h => h ▸ rfl⟩
theorem recv_iff {a b : Dev nD} {p p' : Fin 16} : Iff (recvCell a p = recvCell b p') (a = b ∧ p = p') :=
  ⟨fun h => ⟨congrArg (fun g : GSem nD τ sig => g.1.1) h, rq_inj (SemLoc.dma.inj (congrArg Prod.snd h))⟩, fun ⟨h, h'⟩ => h ▸ h' ▸ rfl⟩
theorem recv_ne_bar (a b : Dev nD) (p : Fin 16) : recvCell a p ≠ barCell b := fun h => by cases congrArg Prod.snd h

theorem owed_bar (d c : Dev nD) : O₀ d (barCell c) () = (if d = pB c then 1 else 0) + (if d = pA c then 1 else 0) := by
  have hdue : due d 0 (barCell c) () = 0 := by
    by_contra h
    obtain ⟨p, _, hp⟩ := due_pos (Nat.pos_of_ne_zero h)
    exact recv_ne_bar _ _ _ hp.symm
  have hA : Iff (c = pA d) (d = pA c) := ⟨fun h => by rw [h, pA_pA], fun h => by rw [h, pA_pA]⟩
  have hB : Iff (c = pB d) (d = pB c) := ⟨fun h => by rw [h, pB_pB], fun h => by rw [h, pB_pB]⟩
  unfold O₀ O₁
  rw [Pi.add_apply, Finsupp.add_apply, Pi.add_apply, Finsupp.add_apply, hdue, tallyAt_apply, tallyAt_apply, Nat.zero_add]
  simp only [bar_iff, hA, hB, and_true]

theorem owed_recv (d c : Dev nD) (p : Fin 16) : O₀ d (recvCell c p) () = if d = tgt p c then amt p else 0 := by
  unfold O₀ O₁ due
  rw [Pi.add_apply, Finsupp.add_apply, Pi.add_apply, Finsupp.add_apply, tallyAt_ne_cell (recv_ne_bar _ _ _), tallyAt_ne_cell (recv_ne_bar _ _ _),
    Finsupp.zero_apply, Nat.add_zero, Nat.add_zero, since_zero, Finset.sum_apply, Finsupp.finset_sum_apply,
    Finset.sum_eq_single p (fun p' _ hp' => by rw [tallyAt_apply, if_neg fun h => hp' (recv_iff.mp h.1).2.symm]) (fun h => absurd (Finset.mem_univ p) h), tallyAt_apply]
  refine if_congr ?_ rfl rfl
  rw [recv_iff]
  exact ⟨fun h => by rw [h.1.1, tgt_tgt], fun h => ⟨⟨by rw [h, tgt_tgt], rfl⟩, rfl⟩⟩

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pB c) fun _ => 1, Finset.sum_ite_eq' Finset.univ (pA c) fun _ => 1, if_pos (Finset.mem_univ _), if_pos (Finset.mem_univ _)]
theorem credit_recv (c : Dev nD) (p : Fin 16) :
    tallyOn (recvCell c p) (launchCredit (Pipeline.owing O₀) 0 (recvCell c p)) = (tallyAt (recvCell c p) () (amt p) : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ (tgt p c) fun _ => amt p,
    if_pos (Finset.mem_univ _)]

omit [FloatOps F] in
theorem credits (c : Dev nD) : (Pipeline.launchCred O₀ c : sProp 𝕄)
    ⊢ iprop(cred (tallyAt (barCell c) () 2) ∗ bigSep Finset.univ fun p : Fin 16 => cred (tallyAt (recvCell c p) () (amt p))) := by
  unfold Pipeline.launchCred
  rw [bigSep_univ_at _ (SemLoc.reg barS), credit_bar]
  refine sep_mono_right ?_
  have hs : Finset.univ.map ⟨fun p : Fin 16 => SemLoc.dma (rq p), fun _ _ h => rq_inj (SemLoc.dma.inj h)⟩ ⊆ Finset.univ.erase (SemLoc.reg barS : SemLoc sig) := by
    intro s hs
    obtain ⟨p, _, rfl⟩ := Finset.mem_map.mp hs
    exact Finset.mem_erase.mpr (And.intro (fun h => nomatch h) (Finset.mem_univ _))
  refine (bigSep_subset hs).trans ?_
  rw [bigSep_map]
  exact Entails.of_eq (bigSep_congr fun p _ => by rw [← credit_recv]; rfl)

end Cert.KernelProof
-- ==== Proof.Run.lean ====
/-
# The run

The pipeline around the body: it stages the nine blocks, runs the body once on each device and writes the result back. What
it needs of the launch is `start`; what the whole program does, for any float values, is `run_main`.
-/
module

public import proofs.«01_k».proof.Proof.Seed
public import Idealize.ShloMosaic.Lib.Pipeline.CollectiveSegs
public import Idealize.ShloMosaic.Lib.Quiescent

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every count zero, any generator registers. -/
def s₀ : MemSt nD τ sig (Elt F) := ⟨m, fun _ => 0, ρ⟩

/-- What device `d` stages. -/
def ins (d : Dev nD) : In F where
  x := (win0_0.blk (0 : Fin 1)).view.read (Elt F) ((s₀ m ρ).mem ((d : Thread nD τ).loc main_arg0))
  wq := (win0_1.blk (0 : Fin 1)).view.read (Elt F) ((s₀ m ρ).mem ((d : Thread nD τ).loc main_arg1))
  wk := (win0_2.blk (0 : Fin 1)).view.read (Elt F) ((s₀ m ρ).mem ((d : Thread nD τ).loc main_arg2))
  wv := (win0_3.blk (0 : Fin 1)).view.read (Elt F) ((s₀ m ρ).mem ((d : Thread nD τ).loc main_arg3))
  wo := (win0_4.blk (0 : Fin 1)).view.read (Elt F) ((s₀ m ρ).mem ((d : Thread nD τ).loc main_arg4))
  tv := (win0_5.blk (0 : Fin 1)).view.read (Elt F) ((s₀ m ρ).mem ((d : Thread nD τ).loc main_arg5))
  wa := (win0_6.blk (0 : Fin 1)).view.read (Elt F) ((s₀ m ρ).mem ((d : Thread nD τ).loc main_arg6))
  w1 := (win0_7.blk (0 : Fin 1)).view.read (Elt F) ((s₀ m ρ).mem ((d : Thread nD τ).loc main_arg7))
  w2 := (win0_8.blk (0 : Fin 1)).view.read (Elt F) ((s₀ m ρ).mem ((d : Thread nD τ).loc main_arg8))

/-! ## Before and after the one point -/

/-- A device's share of the records at the launch. -/
def start (c : Dev nD) : sProp 𝕄 :=
  iprop((∃ K, Recs (ins m ρ) K) ∗ (dutyTok ER (barCell (pA c)) 0 false ∗ dutyTok ER (barCell (pB c)) 0 true)
    ∗ (atPos ER (barCell c) 0 ∅ 0 ∗ cred (tallyAt (barCell c) () 2)) ∗ Toks c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).wq
    | ⟨2, _⟩ => (ins m ρ c).wk
    | ⟨3, _⟩ => (ins m ρ c).wv
    | ⟨4, _⟩ => (ins m ρ c).wo
    | ⟨5, _⟩ => (ins m ρ c).tv
    | ⟨6, _⟩ => (ins m ρ c).wa
    | ⟨7, _⟩ => (ins m ρ c).w1
    | ⟨8, _⟩ => (ins m ρ c).w2
    | ⟨9, _⟩ => OUT (ins m ρ) c
  Φ t := match t with
    | ⟨0, _⟩ => iprop(start m ρ c ∗ Scr (F := F) c)
    | ⟨_ + 1, _⟩ => iprop(Sems c ∗ Scr (F := F) c)
  q _ := fullShare
  owed t := match t with
    | ⟨0, _⟩ => O₀ c
    | ⟨_ + 1, _⟩ => 0

abbrev pt₀ : Fin cfg0.N := t0_0

/-- A buffer staged at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_of_owns (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
omit [FloatOps F] in
theorem own_stg {c : Dev nD} {b : Ref sig .tc} {X Y : b.ty.Contents (Elt F)} (h : X = Y) :
    (stg c b X : sProp 𝕄) ⊢ Own c (Memref.whole b) fullShare Finset.univ Y := by
  subst h
  iintro ⟨%f, %hf, H⟩
  subst hf
  iapply (own_of_pts b fullShare f); iexact H
omit [FloatOps F] in
theorem stg_own {c : Dev nD} {b : Ref sig .tc} {X : b.ty.Contents (Elt F)} :
    (Own c (Memref.whole b) fullShare Finset.univ X : sProp 𝕄) ⊢ stg c b X := by
  iintro H
  iexists X
  isplitr; · (ipureintro; rfl)
  iapply (pts_of_own b fullShare X); iexact H

/-- What the body finds, -/
def bodyPre (c : Dev nD) : sProp 𝕄 :=
  iprop(iprop(start m ρ c ∗ Scr (F := F) c) ∗ (dats m ρ 0 c).owesAt () pt₀.castSucc
    ∗ (∃ d, stg c cc0_stg0_0 ((dats m ρ 0 c).before (0 : Fin 10) pt₀ d)) ∗ (∃ d, stg c cc0_stg1_0 ((dats m ρ 0 c).before (1 : Fin 10) pt₀ d))
    ∗ (∃ d, stg c cc0_stg2_0 ((dats m ρ 0 c).before (2 : Fin 10) pt₀ d)) ∗ (∃ d, stg c cc0_stg3_0 ((dats m ρ 0 c).before (3 : Fin 10) pt₀ d))
    ∗ (∃ d, stg c cc0_stg4_0 ((dats m ρ 0 c).before (4 : Fin 10) pt₀ d)) ∗ (∃ d, stg c cc0_stg5_0 ((dats m ρ 0 c).before (5 : Fin 10) pt₀ d))
    ∗ (∃ d, stg c cc0_stg6_0 ((dats m ρ 0 c).before (6 : Fin 10) pt₀ d)) ∗ (∃ d, stg c cc0_stg7_0 ((dats m ρ 0 c).before (7 : Fin 10) pt₀ d))
    ∗ (∃ d, stg c cc0_stg8_0 ((dats m ρ 0 c).before (8 : Fin 10) pt₀ d)) ∗ (∃ d, stg c cc0_stg9_0 ((dats m ρ 0 c).before (9 : Fin 10) pt₀ d)))
/-- and what it leaves. -/
def bodyPost (c : Dev nD) : sProp 𝕄 :=
  iprop(iprop(Sems c ∗ Scr (F := F) c) ∗ (dats m ρ 0 c).owesAt () pt₀.succ
    ∗ stg c cc0_stg0_0 (ins m ρ c).x ∗ stg c cc0_stg1_0 (ins m ρ c).wq ∗ stg c cc0_stg2_0 (ins m ρ c).wk ∗ stg c cc0_stg3_0 (ins m ρ c).wv
    ∗ stg c cc0_stg4_0 (ins m ρ c).wo ∗ stg c cc0_stg5_0 (ins m ρ c).tv ∗ stg c cc0_stg6_0 (ins m ρ c).wa ∗ stg c cc0_stg7_0 (ins m ρ c).w1
    ∗ stg c cc0_stg8_0 (ins m ρ c).w2 ∗ stg c cc0_stg9_0 (OUT (ins m ρ) c))

theorem sound_body (c : Dev nD) : bodyPre m ρ c ⊢ Runs c (withBufs (cc0_body (F := F))) (fun _ => bodyPost m ρ c) := by
  have own_in {b : Ref sig .tc} {X : b.ty.Contents (Elt F) → b.ty.Contents (Elt F)} {Y : b.ty.Contents (Elt F)} (h : ∀ d, X d = Y) :
      (iprop(∃ d, stg c b (X d)) : sProp 𝕄) ⊢ Own c (Memref.whole b) fullShare Finset.univ Y := by
    iintro ⟨%d, H⟩; iapply (own_stg (h d)); iexact H
  unfold bodyPre start
  iintro ⟨⟨⟨⟨%K, HR⟩, Hd, Hb, Ht⟩, Hs⟩, Ho, H0, H1, H2, H3, H4, H5, H6, H7, H8, H9⟩
  unfold Dat.owesAt Pipeline.owesWithin
  icases Ho with ⟨%W, %hW, HO⟩
  iapply (body_runs (ins m ρ) K c (Q := fun _ => bodyPost m ρ c)) $$ [HR Hd Hb Ht Hs HO H0 H1 H2 H3 H4 H5 H6 H7 H8 H9]
  · isplitl [HR]; · iexact HR
    isplitl [HO]; · iexists W; iexact HO
    isplitl [Hd]; · iexact Hd
    isplitl [Hb]; · iexact Hb
    isplitl [Ht]; · iexact Ht
    isplitl [H0 H1 H2 H3 H4 H5 H6 H7 H8]
    · unfold Ins
      isplitl [H0]; · iapply (own_in (X := (dats m ρ 0 c).before (0 : Fin 10) pt₀) fun d => by unfold Dat.before; rw [if_pos (fetch0_0 pt₀)]; rfl); iexact H0
      isplitl [H1]; · iapply (own_in (X := (dats m ρ 0 c).before (1 : Fin 10) pt₀) fun d => by unfold Dat.before; rw [if_pos (fetch0_1 pt₀)]; rfl); iexact H1
      isplitl [H2]; · iapply (own_in (X := (dats m ρ 0 c).before (2 : Fin 10) pt₀) fun d => by unfold Dat.before; rw [if_pos (fetch0_2 pt₀)]; rfl); iexact H2
      isplitl [H3]; · iapply (own_in (X := (dats m ρ 0 c).before (3 : Fin 10) pt₀) fun d => by unfold Dat.before; rw [if_pos (fetch0_3 pt₀)]; rfl); iexact H3
      isplitl [H4]; · iapply (own_in (X := (dats m ρ 0 c).before (4 : Fin 10) pt₀) fun d => by unfold Dat.before; rw [if_pos (fetch0_4 pt₀)]; rfl); iexact H4
      isplitl [H5]; · iapply (own_in (X := (dats m ρ 0 c).before (5 : Fin 10) pt₀) fun d => by unfold Dat.before; rw [if_pos (fetch0_5 pt₀)]; rfl); iexact H5
      isplitl [H6]; · iapply (own_in (X := (dats m ρ 0 c).before (6 : Fin 10) pt₀) fun d => by unfold Dat.before; rw [if_pos (fetch0_6 pt₀)]; rfl); iexact H6
      isplitl [H7]; · iapply (own_in (X := (dats m ρ 0 c).before (7 : Fin 10) pt₀) fun d => by unfold Dat.before; rw [if_pos (fetch0_7 pt₀)]; rfl); iexact H7
      iapply (own_in (X := (dats m ρ 0 c).before (8 : Fin 10) pt₀) fun d => by unfold Dat.before; rw [if_pos (fetch0_8 pt₀)]; rfl); iexact H8
    isplitl [H9]
    · icases H9 with ⟨%d, H9⟩
      unfold Any
      iexists _
      iapply (own_stg rfl); iexact H9
    iexact Hs
  unfold Ins bodyPost Dat.owesAt Pipeline.owesWithin
  iintro ⟨⟨%W', HO⟩, Hz, ⟨H0, H1, H2, H3, H4, H5, H6, H7, H8⟩, H9, Hs⟩
  isplitl [Hz Hs]
  · isplitl [Hz] <;> iassumption
  isplitl [HO]
  · iexists W'
    isplitr; · ipureintro; exact fun _ _ => Or.inl trivial
    iexact HO
  isplitl [H0]; · iapply stg_own; iexact H0
  isplitl [H1]; · iapply stg_own; iexact H1
  isplitl [H2]; · iapply stg_own; iexact H2
  isplitl [H3]; · iapply stg_own; iexact H3
  isplitl [H4]; · iapply stg_own; iexact H4
  isplitl [H5]; · iapply stg_own; iexact H5
  isplitl [H6]; · iapply stg_own; iexact H6
  isplitl [H7]; · iapply stg_own; iexact H7
  isplitl [H8]; · iapply stg_own; iexact H8
  iapply stg_own; iexact H9

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [stg_of_owns]
  exact sound_body m ρ c

/-! ## What the launch hands over -/

theorem ownSemFacts : Pipeline.OwnSemFacts cfg0.spec osem := by decide
theorem share_eq (c : Dev nD) (w : Fin cfg0.W) : (dats m ρ 0 c).share w = fullShare := by unfold Dat.share; split <;> rfl

set_option maxRecDepth 4000 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m ρ) c)
      ⊢ |={Set.univ}=> iprop(start m ρ c ∗ emp) := by
  unfold G' records start Recs Toks payToks
  iintro ⟨-, #Hlev, Hcr, -, ⟨%K, #HR, Hat, Hbt, Htk⟩⟩
  ihave Hc := (credits (F := F) c) $$ Hcr
  icases Hc with ⟨Hc2, Hcr⟩
  ihave Hat := (Entails.of_eq (bigSep_opt (F := F) fun k => atPos ER (kcell (c, k)) 0 ∅ 0)) $$ Hat
  icases Hat with ⟨Hab, Hat⟩
  ihave Hat := (Entails.of_eq (bigSep_xfer (F := F) fun k => atPos ER (kcell (c, some k)) 0 ∅ 0)) $$ Hat
  icases Hat with ⟨Has, Har⟩
  imodintro
  isplitl
  · isplitr
    · iexists K
      isplitl; · iexact HR
      iexact Hlev
    isplitl [Hbt]; · iexact Hbt
    isplitl [Hab Hc2]
    · isplitl [Hab]; · iexact Hab
      iexact Hc2
    isplitl [Htk]; · iexact Htk
    isplitl [Has]; · iexact Has
    rw [bigSep_sep']
    isplitl [Har]; · iexact Har
    iexact Hcr
  · iempintro

omit [FloatOps F] in
/-- A whole buffer held at something is owned at something, and conversely. -/
theorem any_pts {c : Dev nD} {b : Ref sig .tc} :
    (iprop(∃ f : Buf (Elt F) ((c : Thread nD τ).loc b), ((c : Thread nD τ).loc b) ↦{fullShare} f) : sProp 𝕄) ⊢ iprop(∃ X, Own c (Memref.whole b) fullShare Finset.univ X) := by
  iintro ⟨%f, H⟩
  iexists f
  iapply (own_of_pts b fullShare f); iexact H
omit [FloatOps F] in
theorem pts_any {c : Dev nD} {b : Ref sig .tc} :
    (iprop(∃ X, Own c (Memref.whole b) fullShare Finset.univ X) : sProp 𝕄) ⊢ iprop(∃ f : Buf (Elt F) ((c : Thread nD τ).loc b), ((c : Thread nD τ).loc b) ↦{fullShare} f) := by
  iintro ⟨%f, H⟩
  iexists f
  iapply (pts_of_own b fullShare f); iexact H

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ Scr (F := F) c) from rfl, scopedRest0_eq]
  unfold Scr Any
  iintro ⟨Hs, -, H0, H1, H2, H3, H4, H5⟩
  isplitl [Hs]; · iexact Hs
  isplitl [H0]; · iapply (any_pts (b := cc0_scratch0)); iexact H0
  isplitl [H1]; · iapply (any_pts (b := cc0_scratch1)); iexact H1
  isplitl [H2]; · iapply (any_pts (b := cc0_scratch2)); iexact H2
  isplitl [H3]; · iapply (any_pts (b := cc0_scratch3)); iexact H3
  isplitl [H4]; · iapply (any_pts (b := cc0_scratch4)); iexact H4
  iapply (any_pts (b := cc0_scratch5)); iexact H5

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Sems c ∗ Scr (F := F) c) from rfl, scopedRest0_eq, barSem_eq, xferSems_eq]
  unfold Scr Sems Any
  iintro ⟨⟨Hb, Hx⟩, H0, H1, H2, H3, H4, H5⟩
  isplitl [Hb]; · iexact Hb
  isplitl [Hx]; · iexact Hx
  isplitl [H0]; · iapply (pts_any (b := cc0_scratch0)); iexact H0
  isplitl [H1]; · iapply (pts_any (b := cc0_scratch1)); iexact H1
  isplitl [H2]; · iapply (pts_any (b := cc0_scratch2)); iexact H2
  isplitl [H3]; · iapply (pts_any (b := cc0_scratch3)); iexact H3
  isplitl [H4]; · iapply (pts_any (b := cc0_scratch4)); iexact H4
  iapply (pts_any (b := cc0_scratch5)); iexact H5

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

set_option maxRecDepth 8000 in
/-- From any memory with every count zero the four devices run to the end: each array then holds `finalA`, every count zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m ρ)) (G' := G' (ins m ρ)) (u₀ := u₀)
    (hu₀ := by
      unfold u₀
      iintro Hu
      ihave H := (ownU_pair _ _) $$ Hu
      icases H with ⟨HP, HX⟩
      imod (fund_cells (ins m ρ)) $$ HX with HG
      imodintro
      isplitl [HP] <;> iassumption)
    (hglob := glob (ins m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof
-- ==== Proof.Final.lean ====
/-
# What the run leaves

The arguments as they were, and each device's result the contents computed from the devices' blocks.
-/
module

public import proofs.«01_k».proof.Proof.Run
public import Idealize.ShloMosaic.Lib.Pipeline.Value

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

section
omit [FloatOps F]
/-- The block of a window on a whole array is the array. -/
theorem rect_emb {s : Shape} {e : EltTy} {cs : CoreSpace} {arr : Memref sig .tc .hbm s e} {isOut sync : Bool}
    {st : Memref sig .tc (.core cs) ⟨s.rank, s.size⟩ e} {sem : DmaSem sig} {ha : arr.IsWhole} {hs : st.IsWhole} (t : Fin Pipeline.Grid.none.N)
    (i : ((Pipeline.Window.whole arr isOut sync st sem ha hs).rect t).shape.Idx) :
    ((Pipeline.Window.whole arr isOut sync st sem ha hs).rect t).emb i = i :=
  funext fun a => Fin.ext (by show 0 * s.size a + 1 * (i a : Nat) = i a; omega)
end

theorem ins_x : (ins m ρ c).x = m ((c : Thread nD τ).loc main_arg0) :=
  funext fun i => congrArg (m ((c : Thread nD τ).loc main_arg0)) (rect_emb (arr := Memref.whole main_arg0) (0 : Fin 1) i)
theorem ins_wq : (ins m ρ c).wq = m ((c : Thread nD τ).loc main_arg1) :=
  funext fun i => congrArg (m ((c : Thread nD τ).loc main_arg1)) (rect_emb (arr := Memref.whole main_arg1) (0 : Fin 1) i)
theorem ins_wk : (ins m ρ c).wk = m ((c : Thread nD τ).loc main_arg2) :=
  funext fun i => congrArg (m ((c : Thread nD τ).loc main_arg2)) (rect_emb (arr := Memref.whole main_arg2) (0 : Fin 1) i)
theorem ins_wv : (ins m ρ c).wv = m ((c : Thread nD τ).loc main_arg3) :=
  funext fun i => congrArg (m ((c : Thread nD τ).loc main_arg3)) (rect_emb (arr := Memref.whole main_arg3) (0 : Fin 1) i)
theorem ins_wo : (ins m ρ c).wo = m ((c : Thread nD τ).loc main_arg4) :=
  funext fun i => congrArg (m ((c : Thread nD τ).loc main_arg4)) (rect_emb (arr := Memref.whole main_arg4) (0 : Fin 1) i)
theorem ins_tv : (ins m ρ c).tv = m ((c : Thread nD τ).loc main_arg5) :=
  funext fun i => congrArg (m ((c : Thread nD τ).loc main_arg5)) (rect_emb (arr := Memref.whole main_arg5) (0 : Fin 1) i)
theorem ins_wa : (ins m ρ c).wa = m ((c : Thread nD τ).loc main_arg6) :=
  funext fun i => congrArg (m ((c : Thread nD τ).loc main_arg6)) (rect_emb (arr := Memref.whole main_arg6) (0 : Fin 1) i)
theorem ins_w1 : (ins m ρ c).w1 = m ((c : Thread nD τ).loc main_arg7) :=
  funext fun i => congrArg (m ((c : Thread nD τ).loc main_arg7)) (rect_emb (arr := Memref.whole main_arg7) (0 : Fin 1) i)
theorem ins_w2 : (ins m ρ c).w2 = m ((c : Thread nD τ).loc main_arg8) :=
  funext fun i => congrArg (m ((c : Thread nD τ).loc main_arg8)) (rect_emb (arr := Memref.whole main_arg8) (0 : Fin 1) i)

/-- The result array ends at the computed contents, -/
theorem finalA_out : finalA m ρ c (9 : Fin 10) = OUT (ins m ρ) c :=
  (dats m ρ 0 c).arrAt_eq_of_cover (9 : Fin 10) (OUT (ins m ρ) c)
    (fun t _ => funext fun i => (congrArg (OUT (ins m ρ) c) (rect_emb (arr := Memref.whole main_v1) (ha := Memref.isWhole_whole _) (hs := hstage0_9 0) t i)).symm)
    (fun i => ⟨t0_0, flush0_9 _, Finset.mem_map.mpr ⟨i, Finset.mem_univ _, rect_emb (arr := Memref.whole main_v1) (ha := Memref.isWhole_whole _) (hs := hstage0_9 0) t0_0 i⟩⟩)
/-- and an argument's at what it held. -/
theorem finalA_in (w : Fin cfg0.W) (h : (cfg0.win w).isOut = false) :
    finalA m ρ c w = m ((cfg0.win w).arr.view.loc (c : Thread nD τ)) := (dats (F := F) m ρ 0 c).arrAt_in w h _

/-- The whole program's run, read buffer by buffer. -/
theorem run_final : θ_run defs (onTc (τ := τ) (main (F := F))) ⟨m, fun _ => 0, ρ⟩ (fun r => (∀ c : Dev nD,
    r.2.mem ((c : Thread nD τ).loc main_v1) = OUT (ins m ρ) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) ∧ r.2.sem = fun _ => 0) :=
  (θ_run defs _ _).mono (fun r h => ⟨fun c => ⟨(h.1 c (9 : Fin 10)).trans (finalA_out m ρ c),
    (h.1 c (0 : Fin 10)).trans (finalA_in m ρ c (0 : Fin 10) rfl),
    (h.1 c (1 : Fin 10)).trans (finalA_in m ρ c (1 : Fin 10) rfl),
    (h.1 c (2 : Fin 10)).trans (finalA_in m ρ c (2 : Fin 10) rfl),
    (h.1 c (3 : Fin 10)).trans (finalA_in m ρ c (3 : Fin 10) rfl),
    (h.1 c (4 : Fin 10)).trans (finalA_in m ρ c (4 : Fin 10) rfl),
    (h.1 c (5 : Fin 10)).trans (finalA_in m ρ c (5 : Fin 10) rfl),
    (h.1 c (6 : Fin 10)).trans (finalA_in m ρ c (6 : Fin 10) rfl),
    (h.1 c (7 : Fin 10)).trans (finalA_in m ρ c (7 : Fin 10) rfl),
    (h.1 c (8 : Fin 10)).trans (finalA_in m ρ c (8 : Fin 10) rfl)⟩, h.2⟩) (run_main m ρ)

/-- The arguments end as they were and every count at zero. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) ∧ r.2.sem = fun _ => 0) :=
  (θ_run defs _ _).mono (fun _ h => ⟨fun c => (h.1 c).2, h.2⟩) (run_final m ρ)

end Cert.KernelProof
-- ==== Proof.Same.lean ====
/- The kernel is printed twice, for the machine's floats and for the extended reals, and no
   operation was rewritten between the two: here the two prints are shown to be one program. -/
module

public import proofs.«01_k».proof.Defs
public import proofs.«01_k».proof.Proof.Gen.Kernel
public import proofs.«01_k».proof.Proof.Gen.KernelIdeal

@[expose] public section

noncomputable section

namespace Cert.KernelProof

open Idealize.ShloMosaic Idealize.SL.Sem

variable {F : FTy → Type} [FloatOps F] [Cert.Kernel.Facts] [Cert.KernelIdeal.Facts]

/-- The two bodies agree, -/
theorem body_same : Cert.Kernel.cc0_body (F := F) = Cert.KernelIdeal.cc0_body (F := F) := rfl

/-- so do the tables that name them, -/
theorem defs₀_same : Cert.Kernel.defs₀ (F := F) = Cert.KernelIdeal.defs₀ (F := F) := by
  unfold Cert.Kernel.defs₀ Cert.KernelIdeal.defs₀
  refine congrArg Defs.onTc ?_
  funext l a
  match l with
  | 0 =>
    obtain ⟨t, s⟩ := a
    show Cert.Kernel.cc0_body (F := F) _ _ _ _ _ _ _ _ _ _ _ _ _ _ _ _ _ _ _ _ _ _ _ _ _ _ _ _ _ _ _ _ _ _
      = Cert.KernelIdeal.cc0_body (F := F) _ _ _ _ _ _ _ _ _ _ _ _ _ _ _ _ _ _ _ _ _ _ _ _ _ _ _ _ _ _ _ _ _ _
    rfl

/-- and the tables of the whole programs. -/
theorem defs_same : Cert.Kernel.defs (F := F) = Cert.KernelIdeal.defs (F := F) := by
  unfold Cert.Kernel.defs Cert.KernelIdeal.defs
  exact congrArg (Pipeline.defs _) defs₀_same

end Cert.KernelProof

end
-- ==== Proof.Value1.lean ====
/-
# The kernel's intermediates, entry by entry

The block of the network in plain extended-real arithmetic (`Net`), and what each of the kernel's intermediates
holds at an index, in those terms.
-/
module

public import proofs.«01_k».proof.Proof.Contents
public import Idealize.ShloMosaic.Lib.Pointwise

@[expose] public section

noncomputable section

namespace Cert.KernelProof

open Cert.KernelIdeal Cert.KernelIdeal.Gen

open Idealize.ShloMosaic
open Idealize.ShloMosaic.TcCoe

/-! ### One row, one head -/

namespace Row

/-- The length of a row, 768, as the programs write it. -/
def width : EReal := Ideal.ofBits .f32 0x44400000#32
def eps : EReal := Ideal.ofBits .f32 0x3727C5AC#32
def lowest : EReal := Ideal.ofBits .f32 0xFF800000#32
/-- One over the square root of a head's 96 features. -/
def scale : EReal := Ideal.ofBits .f32 0x3DD105EC#32

def mean (f : Fin 768 → EReal) : EReal := Ideal.div (∑ k, f k) width
def var (f : Fin 768 → EReal) : EReal := Ideal.div (∑ k, (f k - mean f) * (f k - mean f)) width

/-- A row normalised, scaled by `1 + s` and shifted by `b`. -/
def norm (f s b : Fin 768 → EReal) (j : Fin 768) : EReal :=
  (f j - mean f) * Ideal.rsqrt (var f + eps) * (1 + s j) + b j

def silu (h : EReal) : EReal := h * Ideal.div 1 (1 + Ideal.exp (0 - h))

/-- One query against 512 keys: the scaled scores, the weights, and the weighted average of the values. -/
def score (q : Fin 96 → EReal) (k : Fin 512 → Fin 96 → EReal) (j : Fin 512) : EReal := (∑ d, q d * k j d) * scale
def weight (q : Fin 96 → EReal) (k : Fin 512 → Fin 96 → EReal) (j : Fin 512) : EReal :=
  Ideal.exp (score q k j - Finset.univ.fold max lowest (score q k))
def head (q : Fin 96 → EReal) (k v : Fin 512 → Fin 96 → EReal) (d : Fin 96) : EReal :=
  Ideal.div (∑ j, weight q k j * v j d) (∑ j, weight q k j)

/-- The MLP of one row: normalised and modulated, through the first weights, `silu`, and the second weights. -/
def mlp (f s b : Fin 768 → EReal) (w1 w2 : S768x768.Idx → EReal) (n : Fin 768) : EReal :=
  ∑ i, silu (∑ k, norm f s b k * w1 (ix2 k i)) * w2 (ix2 i n)

end Row

/-- Modulation row `m` of six, for batch `b`. -/
def modRow (tv : S2x128.Idx → EReal) (wa : S128x4608.Idx → EReal) (m : Fin 6) (b : Fin 2) (j : Fin 768) : EReal :=
  ∑ k, tv (ix2 b k) * wa (ix2 k ⟨768 * m.val + j.val, by omega⟩)

/-- Four blocks of 96 columns side by side, as one choice by block number. -/
theorem blocks4 {α : Type} (f : (h : ℕ) → h < 4 → Fin 96 → α) (x : Fin 384) :
    (if h : x.val < 96 then f 0 (by decide) ⟨x.val, h⟩ else if h : x.val - 96 < 96 then f 1 (by decide) ⟨x.val - 96, h⟩
      else if h : x.val - 96 - 96 < 96 then f 2 (by decide) ⟨x.val - 96 - 96, h⟩
      else f 3 (by decide) ⟨x.val - 96 - 96 - 96, by omega⟩)
    = f (x.val / 96) (by omega) ⟨x.val % 96, by omega⟩ := by
  have key : ∀ (n : ℕ) (hn : n < 4) (e : ℕ) (he : e < 96), x.val / 96 = n → x.val % 96 = e →
      f n hn ⟨e, he⟩ = f (x.val / 96) (by omega) ⟨x.val % 96, by omega⟩ := by
    intro n hn e he h1 h2; subst h1 h2; rfl
  split_ifs <;> exact key _ _ _ _ (by omega) (by omega)

/-! ### What a device computes, at an index -/

namespace In
variable (J : In Ideal)

def mod (m : Fin 6) (b : Fin 2) (j : Fin 768) : EReal := modRow J.tv J.wa m b j

theorem m_at (b : Fin 2) (j : Fin 768) :
    J.m0 (ix2 b j) = J.mod 0 b j ∧ J.m1 (ix2 b j) = J.mod 1 b j ∧ J.m2 (ix2 b j) = J.mod 2 b j
    ∧ J.m3 (ix2 b j) = J.mod 3 b j ∧ J.m4 (ix2 b j) = J.mod 4 b j ∧ J.m5 (ix2 b j) = J.mod 5 b j := by
  refine ⟨?_, ?_, ?_, ?_, ?_, ?_⟩ <;>
  · pointwise [m0, m1, m2, m3, m4, m5, k0_pay1, k0_pay2, k0_pay3, k0_pay4, k0_pay5, k0_pay6, k0_pay7,
      dot_S2x128_S128x4608_S2x4608_1_0_0_1_n_n]
    refine Finset.sum_congr rfl fun k _ => congrArg (fun n => J.tv (ix2 b k) * J.wa (ix2 k n)) (Fin.ext ?_)
    simp

/-- The normalised, modulated input of row `r`. -/
def xRow (r : Fin 1024) (k : Fin 768) : EReal := J.x (ix3 ⟨r.val / 512, by omega⟩ ⟨r.val % 512, by omega⟩ k)
def nRow (r : Fin 1024) : Fin 768 → EReal := Row.norm (J.xRow r) (J.mod 0 ⟨r.val / 512, by omega⟩) (J.mod 1 ⟨r.val / 512, by omega⟩)

theorem xn_at (r : Fin 1024) (j : Fin 768) : J.xn (ix2 r j) = J.nRow r j := by
  have h0 := fun k => (J.m_at ⟨r.val / 512, by omega⟩ k).1
  have h1 := fun k => (J.m_at ⟨r.val / 512, by omega⟩ k).2.1
  simp only [m0, m1] at h0 h1
  pointwise [xn, k0_pay9, k0_pay8, h0, h1]
  rfl

theorem qkv_at (r : Fin 1024) (n : Fin 384) :
    J.q (ix2 r n) = ∑ k, J.nRow r k * J.wq (ix2 k n) ∧ J.kk (ix2 r n) = ∑ k, J.nRow r k * J.wk (ix2 k n)
    ∧ J.vv (ix2 r n) = ∑ k, J.nRow r k * J.wv (ix2 k n) := by
  have h := fun k => J.xn_at r k
  simp only [xn] at h
  refine ⟨?_, ?_, ?_⟩ <;>
  pointwise [q, kk, vv, xn, h, k0_pay10, k0_pay11, k0_pay13, k0_pay14, k0_pay15, k0_pay16, dot_S1024x768_S768x384_S1024x384_1_0_0_1_n_n]

/-- Head `h`'s output for the queries `Q`, from batch `b`'s keys and values. -/
def headOf (Q : Fin 384 → EReal) (b : ℕ) (hb : b < 2) (h : ℕ) (hh : h < 4) : Fin 96 → EReal :=
  Row.head (fun d => Q ⟨96 * h + d.val, by omega⟩)
    (fun j d => J.kk (ix2 ⟨512 * b + j.val, by omega⟩ ⟨96 * h + d.val, by omega⟩))
    (fun j d => J.vv (ix2 ⟨512 * b + j.val, by omega⟩ ⟨96 * h + d.val, by omega⟩))

theorem att_heads (qc : S256x384.Idx → EReal) (s : Fin 256) (n : Fin 768) :
    J.att0 qc (ix2 s n) = ∑ e : Fin 384, J.headOf (fun m => qc (ix2 s m)) 0 (by decide) (e.val / 96) (by omega) ⟨e.val % 96, by omega⟩ * J.wo (ix2 e n)
    ∧ J.att1 qc (ix2 s n) = ∑ e : Fin 384, J.headOf (fun m => qc (ix2 s m)) 1 (by decide) (e.val / 96) (by omega) ⟨e.val % 96, by omega⟩ * J.wo (ix2 e n) := by
  constructor
  · pointwise [att0, wob, k0_pay12, k0_pay17, k0_pay18, k0_pay19, dot_S256x96_S512x96_S256x512_1_1_0_0_n_n,
      dot_S256x512_S512x96_S256x96_1_0_0_1_n_n, dot_S256x384_S384x768_S256x768_1_0_0_1_n_n]
    refine Finset.sum_congr rfl fun e _ => congrArg (· * _) ?_
    rw [← blocks4 (fun h hh d => J.headOf (fun m => qc (ix2 s m)) 0 (by decide) h hh d)]
    simp only [headOf, Nat.mul_zero, Nat.zero_add, Nat.reduceMul]
    rfl
  · pointwise [att1, wob, k0_pay12, k0_pay20, k0_pay21, k0_pay22, k0_pay23, k0_pay24, dot_S256x96_S512x96_S256x512_1_1_0_0_n_n,
      dot_S256x512_S512x96_S256x96_1_0_0_1_n_n, dot_S256x384_S384x768_S256x768_1_0_0_1_n_n]
    refine Finset.sum_congr rfl fun e _ => congrArg (· * _) ?_
    rw [← blocks4 (fun h hh d => J.headOf (fun m => qc (ix2 s m)) 1 (by decide) h hh d)]
    simp only [headOf, Nat.mul_zero, Nat.zero_add, Nat.reduceMul]
    rfl

/-- The MLP of a row of batch `b`. -/
def mlpRow (g : Fin 768 → EReal) (b : Fin 2) : Fin 768 → EReal := Row.mlp g (J.mod 3 b) (J.mod 4 b) J.w1 J.w2

theorem mlpU_rows (g : S128x768.Idx → EReal) (s : Fin 128) (n : Fin 768) :
    J.mlpU0 g (ix2 s n) = J.mlpRow (fun k => g (ix2 s k)) 0 n ∧ J.mlpU1 g (ix2 s n) = J.mlpRow (fun k => g (ix2 s k)) 1 n := by
  have h3 := fun b k => (J.m_at b k).2.2.2.1
  have h4 := fun b k => (J.m_at b k).2.2.2.2.1
  simp only [m3, m4] at h3 h4
  constructor <;>
  · pointwise [mlpU0, mlpU1, w1b, w2b, k0_pay43, k0_pay44, k0_pay53, k0_pay54, k0_pay55, k0_pay56, k0_pay57, k0_pay58, k0_pay59, h3, h4,
      dot_S128x768_S768x768_S128x768_1_0_0_1_n_n]
    rfl

theorem mlpT_rows (g : S256x768.Idx → EReal) (s : Fin 256) (n : Fin 768) :
    J.mlpT0 g (ix2 s n) = J.mlpRow (fun k => g (ix2 s k)) 0 n ∧ J.mlpT1 g (ix2 s n) = J.mlpRow (fun k => g (ix2 s k)) 1 n := by
  have h3 := fun b k => (J.m_at b k).2.2.2.1
  have h4 := fun b k => (J.m_at b k).2.2.2.2.1
  simp only [m3, m4] at h3 h4
  constructor <;>
  · pointwise [mlpT0, mlpT1, w1b, w2b, k0_pay43, k0_pay44, k0_pay60, k0_pay61, k0_pay62, k0_pay63, k0_pay64, k0_pay65, h3, h4,
      dot_S256x768_S768x768_S256x768_1_0_0_1_n_n]
    rfl

end In

/-! ### The sums and the residuals, at an index -/

theorem liftT_at (v : S256x768.Idx → EReal) (s : Fin 256) (n : Fin 768) : liftT v (ix3 0 s n) = v (ix2 s n) := by
  refine congrArg v ?_
  rw [Equiv.symm_apply_eq]
  pointwise []

theorem sumT_at (a b : S256x768.Idx → EReal) (s : Fin 256) (n : Fin 768) :
    sumT (F := Ideal) a b (ix2 s n) = a (ix2 s n) + b (ix2 s n) := by
  have h := liftT_at b s n
  pointwise [sumT, k0_pay37, h]

end Cert.KernelProof
-- ==== Proof.Net.lean ====
/-
# The block on the whole arrays

What both programs compute, as one function of the nine whole arrays (`Whole.out`), and the facts of extended-real
arithmetic that let one spelling be read as the other: dividing by a square root and multiplying by the reciprocal
square root agree on positive numbers, and a variance plus a positive number is positive.
-/
module

public import proofs.«01_k».proof.Proof.Value1
public import Idealize.ShloMosaic.Lib.IdealHost
public import Idealize.ShloMosaic.Lib.KernelVsHost

@[expose] public section

noncomputable section

namespace Cert.KernelProof

open Idealize.ShloMosaic
open Idealize.ShloMosaic.TcCoe

/-- The nine whole arrays. -/
structure Whole where
  x : (⟨3, ![2, 512, 768]⟩ : Shape).Idx → EReal
  wq : (⟨2, ![768, 1536]⟩ : Shape).Idx → EReal
  wk : (⟨2, ![768, 1536]⟩ : Shape).Idx → EReal
  wv : (⟨2, ![768, 1536]⟩ : Shape).Idx → EReal
  wo : (⟨2, ![1536, 768]⟩ : Shape).Idx → EReal
  tv : (⟨2, ![2, 128]⟩ : Shape).Idx → EReal
  wa : (⟨2, ![128, 4608]⟩ : Shape).Idx → EReal
  w1 : (⟨2, ![768, 3072]⟩ : Shape).Idx → EReal
  w2 : (⟨2, ![3072, 768]⟩ : Shape).Idx → EReal

namespace Whole
variable (W : Whole)

def mod (m : Fin 6) (b : Fin 2) (j : Fin 768) : EReal := modRow W.tv W.wa m b j
/-- The normalised, modulated input of one token; its query, key and value. -/
def nRow (b : Fin 2) (s : Fin 512) : Fin 768 → EReal := Row.norm (fun k => W.x (ix3 b s k)) (W.mod 0 b) (W.mod 1 b)
def q (b : Fin 2) (s : Fin 512) (n : Fin 1536) : EReal := ∑ k, W.nRow b s k * W.wq (ix2 k n)
def k (b : Fin 2) (s : Fin 512) (n : Fin 1536) : EReal := ∑ k, W.nRow b s k * W.wk (ix2 k n)
def v (b : Fin 2) (s : Fin 512) (n : Fin 1536) : EReal := ∑ k, W.nRow b s k * W.wv (ix2 k n)
/-- Feature `d` of head `h`. -/
def feat (h : Fin 16) (d : Fin 96) : Fin 1536 := ⟨h.val * 96 + d.val, by omega⟩
def head (b : Fin 2) (s : Fin 512) (h : Fin 16) : Fin 96 → EReal :=
  Row.head (fun d => W.q b s (feat h d)) (fun j d => W.k b j (feat h d)) (fun j d => W.v b j (feat h d))
/-- The first residual, the MLP's hidden layer, and the result. -/
def x1 (b : Fin 2) (s : Fin 512) (n : Fin 768) : EReal :=
  W.x (ix3 b s n) + W.mod 2 b n * ∑ e : Fin 1536, W.head b s ⟨e.val / 96, by omega⟩ ⟨e.val % 96, by omega⟩ * W.wo (ix2 e n)
def hid (b : Fin 2) (s : Fin 512) (i : Fin 3072) : EReal :=
  ∑ k, Row.norm (W.x1 b s) (W.mod 3 b) (W.mod 4 b) k * W.w1 (ix2 k i)
def out (b : Fin 2) (s : Fin 512) (n : Fin 768) : EReal :=
  W.x1 b s n + W.mod 5 b n * ∑ i : Fin 3072, Row.silu (W.hid b s i) * W.w2 (ix2 i n)

end Whole

/-! ### The arithmetic -/

namespace Row

theorem width_eq : width = ((768 : ℝ) : EReal) := by
  unfold width
  simp [Ideal.ofBits, Ideal.ieee, -EReal.coe_mul]; norm_num

theorem eps_pos : 0 < eps := by
  have h : eps = (((10995116 : ℝ) * 2 ^ (-40 : ℤ) : ℝ) : EReal) := by
    unfold eps
    simp [Ideal.ofBits, Ideal.ieee, -EReal.coe_mul]
  rw [h]
  exact EReal.coe_pos.mpr (by positivity)

theorem mul_self_nonneg (a : EReal) : 0 ≤ a * a := by
  rcases le_total 0 a with h | h
  · exact mul_nonneg h h
  · rw [← neg_mul_neg]; exact mul_nonneg (EReal.neg_nonneg.mpr h) (EReal.neg_nonneg.mpr h)

theorem var_nonneg (f : Fin 768 → EReal) : 0 ≤ var f := by
  have h0 : width ≠ 0 := by rw [width_eq]; exact_mod_cast (by norm_num : (768 : ℝ) ≠ 0)
  have h1 : 0 ≤ width⁻¹ := by rw [width_eq, ← EReal.coe_inv]; exact EReal.coe_nonneg.mpr (by norm_num)
  unfold var Ideal.div
  rw [if_neg h0]
  exact mul_nonneg (Finset.sum_nonneg fun k _ => mul_self_nonneg _) h1

/-- Dividing by the square root of a positive number is multiplying by its reciprocal square root. -/
theorem div_sqrt (a : EReal) {y : EReal} (hy : 0 < y) : Ideal.div a (Ideal.sqrt y) = a * Ideal.rsqrt y := by
  induction y using EReal.rec with
  | bot => exact absurd hy (by simp)
  | top => simp [Ideal.div]
  | coe r =>
    have hr : 0 < r := EReal.coe_pos.mp hy
    have hs : Real.sqrt r ≠ 0 := (Real.sqrt_pos.mpr hr).ne'
    rw [Ideal.sqrt_coe, Ideal.rsqrt_coe, if_neg hr.not_gt, if_neg hr.not_gt, if_neg hr.ne', Ideal.div, if_neg (by exact_mod_cast hs), EReal.coe_inv]

/-- The other spelling of a normalised row: the variance over the width less no correction, and the quotient by a root. -/
theorem norm_quot (f s b : Fin 768 → EReal) (c z : EReal) (hz : z = 0) (j : Fin 768) :
    Ideal.div (f j - Ideal.div (∑ x, f x) width) (Ideal.sqrt ((if 0 < width - z then
        Ideal.div (∑ x, (f x - Ideal.div (∑ x, f x) width) * (f x - Ideal.div (∑ x, f x) width)) (width - z) else c) + eps)) * (1 + s j) + b j
      = norm f s b j := by
  have hw : (0 : EReal) < width := by rw [width_eq]; exact EReal.coe_pos.mpr (by norm_num)
  subst hz
  rw [sub_zero, if_pos hw]
  change Ideal.div (f j - mean f) (Ideal.sqrt (var f + eps)) * (1 + s j) + b j = norm f s b j
  rw [div_sqrt _ (lt_of_lt_of_le eps_pos (le_add_of_nonneg_left (var_nonneg f)))]
  rfl

theorem exp_nonneg (a : EReal) : 0 ≤ Ideal.exp a := by
  induction a using EReal.rec with
  | bot => simp
  | top => simp
  | coe r => exact EReal.coe_nonneg.mpr (Real.exp_pos r).le

theorem silu_quot (h : EReal) : Ideal.div h (1 + Ideal.exp (-h)) = silu h := by
  have h1 : (1 : EReal) + Ideal.exp (-h) ≠ 0 := by
    have h0 : (1 : EReal) ≤ 1 + Ideal.exp (-h) := le_add_of_nonneg_right (exp_nonneg _)
    intro e; rw [e] at h0; exact absurd h0 (by simp)
  rw [silu, zero_sub, Ideal.mul_one_div h1]

/-- The maximum with the fold's own starting value is the fold. -/
theorem max_fold (f : Fin 512 → EReal) (l : EReal) : max l (Finset.univ.fold max l f) = Finset.univ.fold max l f :=
  max_eq_right ((Finset.le_fold_max l).mpr (Or.inl le_rfl))

end Row

end Cert.KernelProof
-- ==== Proof.Value3.lean ====
/-
# The reference's result, entry by entry

Each named intermediate of the reference at an index, and the result as `Whole.out`. Its attention runs over the keys in
one chunk, so the running maximum starts from the lowest number and the running sums from zero: both drop out.
-/
module

public import proofs.«01_k».proof.Proof.Net
public import proofs.«01_k».proof.Proof.Gen.ReferenceIdeal.Run

@[expose] public section

noncomputable section

namespace Cert.KernelProof

open Cert.ReferenceIdeal Cert.ReferenceIdeal.Gen Cert.ReferenceIdeal.Value

open Idealize.ShloMosaic
open Idealize.ShloMosaic.TcCoe

variable (V : Valuation τ sig (Elt Ideal))

/-- The arguments as the reference reads them. -/
def whole : Whole where
  x := V (Proc.devRef .tc main_arg0)
  wq := V (Proc.devRef .tc main_arg1)
  wk := V (Proc.devRef .tc main_arg2)
  wv := V (Proc.devRef .tc main_arg3)
  wo := V (Proc.devRef .tc main_arg4)
  tv := V (Proc.devRef .tc main_arg5)
  wa := V (Proc.devRef .tc main_arg6)
  w1 := V (Proc.devRef .tc main_arg7)
  w2 := V (Proc.devRef .tc main_arg8)

theorem zero_word : (FloatOps.sitofp (F := Ideal) FTy.f32 (0#32 : BitVec 32) : EReal) = 0 := Idealize.ShloMosaic.sitofp_zero

theorem v0_at (m : Fin 6) (b : Fin 2) (j : Fin 768) :
    (res_main_v0 V : S2x4608.Idx → EReal) (ix2 b ⟨768 * m.val + j.val, by omega⟩) = (whole V).mod m b j := by
  pointwise [res_main_v0, dot_S2x128_S128x4608_S2x4608_1_0_0_1_n_n]
  rfl

/-- The six slices of the modulation. -/
theorem slice_at (b : Fin 2) (j : Fin 768) :
    (res_main_v0 V : S2x4608.Idx → EReal) (ix2 b ⟨j.val, by omega⟩) = (whole V).mod 0 b j :=
  (congrArg (fun n => (res_main_v0 V : S2x4608.Idx → EReal) (ix2 b n)) (Fin.ext (Nat.zero_add _).symm)).trans (v0_at V 0 b j)

theorem v26_at (b : Fin 2) (s : Fin 512) (n : Fin 768) :
    (res_main_v26 V : S2x512x768.Idx → EReal) (ix3 b s n) = (whole V).nRow b s n := by
  have h0 := fun b j => slice_at V b j
  have h1 := fun b j => v0_at V 1 b j
  pointwise [res_main_v26, res_main_call0_v5, res_main_call0_v8]
  refine Eq.trans ?_ (Row.norm_quot (fun k => (whole V).x (ix3 b s k)) ((whole V).mod 0 b) ((whole V).mod 1 b)
    (id (constant (F := Ideal) S_ FTy.f32 2143289344#32) ix0) _ zero_word n)
  rw [← h0, ← h1]
  rfl

theorem v38_at (b : Fin 2) (h : Fin 16) (s t : Fin 512) : (res_main_v38 V : S2x16x512x512.Idx → EReal) (ix4 b h s t)
    = Row.score (fun d => (whole V).q b s (Whole.feat h d)) (fun j d => (whole V).k b j (Whole.feat h d)) t := by
  have hn := fun b s n => v26_at V b s n
  pointwise [res_main_v38, dot_S2x512x16x96_S2x512x16x96_S2x16x512x512_3_3_1_1_02_02, dot_S2x512x768_S768x1536_S2x512x1536_2_0_01_1_n_n, hn]
  rfl

theorem max_at (v : FVec Ideal S2x16x512x512 .f32) (b : Fin 2) (h : Fin 16) (s : Fin 512) :
    (Host.reduce (α := Ideal .f32) FloatOps.maximumf v (constant (F := Ideal) S_ .f32 0xFF800000#32) reducesTo_S2x16x512x512_S2x16x512_d3 h_S_ : S2x16x512.Idx → EReal) (ix3 b h s)
      = Finset.univ.fold max (Ideal.ofBits .f32 0xFF800000#32) (fun t => v (ix4 b h s t)) := by
  pointwise []

theorem top_at (M : FVec Ideal S2x16x512 .f32) (b : Fin 2) (h : Fin 16) (s : Fin 512) :
    (maximumf (broadcastInDim S2x16x512x1 ![] bcast_S_S2x16x512x1 (constant (F := Ideal) S_ .f32 0xFF800000#32))
      (broadcastInDim S2x16x512x1 ![0, 1, 2] bcast_S2x16x512_S2x16x512x1_0_1_2 M) : S2x16x512x1.Idx → EReal) (ix4 b h s 0)
      = max (Ideal.ofBits .f32 0xFF800000#32) (M (ix3 b h s)) := by
  pointwise []

/-- The running maximum after its one chunk is the chunk's maximum. -/
theorem v41_at (b : Fin 2) (h : Fin 16) (s : Fin 512) : (res_main_v41 V : S2x16x512x1.Idx → EReal) (ix4 b h s 0)
    = Finset.univ.fold max Row.lowest (Row.score (fun d => (whole V).q b s (Whole.feat h d)) (fun j d => (whole V).k b j (Whole.feat h d))) := by
  have hn := funext fun t => v38_at V b h s t
  refine (top_at _ b h s).trans ?_
  rw [max_at, hn]
  exact Row.max_fold _ _

theorem v46_at (b : Fin 2) (h : Fin 16) (s t : Fin 512) : (res_main_v46 V : S2x16x512x512.Idx → EReal) (ix4 b h s t)
    = Row.weight (fun d => (whole V).q b s (Whole.feat h d)) (fun j d => (whole V).k b j (Whole.feat h d)) t := by
  have hn := fun b h s t => v38_at V b h s t
  have hm := fun b h s => v41_at V b h s
  pointwise [res_main_v46, hn, hm]
  rfl

theorem v65_at (b : Fin 2) (s : Fin 512) (n : Fin 768) : (res_main_v65 V : S2x512x768.Idx → EReal) (ix3 b s n) = (whole V).x1 b s n := by
  have hn := fun b s n => v26_at V b s n
  have hw := fun b h s t => v46_at V b h s t
  have h2 := fun b j => v0_at V 2 b j
  have hf : ∀ (x : Fin 1536), (⟨x.val / 96 * 96 + x.val % 96, by omega⟩ : Fin 1536) = x := fun x => Fin.ext (by show x.val / 96 * 96 + x.val % 96 = x.val; omega)
  pointwise [res_main_v65, dot_S2x512x1536_S1536x768_S2x512x768_2_0_01_1_n_n, dot_S2x512x768_S768x1536_S2x512x1536_2_0_01_1_n_n, dot_S2x512x16x96_S2x16x512x512_S2x16x96x512_1_3_3_2_02_01, hn, hw]
  simp only [zero_mul, zero_add, Whole.x1, Whole.head, Row.head, Whole.v, Whole.feat, hf, ← h2]
  refine congrArg₂ (· + ·) rfl (congrArg₂ (· * ·) rfl (Finset.sum_congr rfl fun x _ => congrArg₂ (· * ·) (congrArg₂ Ideal.div ?_ rfl) rfl))
  exact Finset.sum_congr rfl fun t _ => mul_comm _ _

theorem v86_at (b : Fin 2) (s : Fin 512) (i : Fin 3072) :
    (res_main_v86 V : S2x512x3072.Idx → EReal) (ix3 b s i) = (whole V).hid b s i := by
  have hx := fun b s n => v65_at V b s n
  have h3 := fun b j => v0_at V 3 b j
  have h4 := fun b j => v0_at V 4 b j
  pointwise [res_main_v86, res_main_call1_v5, res_main_call1_v8, dot_S2x512x768_S768x3072_S2x512x3072_2_0_01_1_n_n, hx]
  change @Eq EReal _ _
  refine Finset.sum_congr rfl fun k _ => congrArg₂ (· * ·) ?_ rfl
  refine Eq.trans ?_ (Row.norm_quot ((whole V).x1 b s) ((whole V).mod 3 b) ((whole V).mod 4 b)
    (id (constant (F := Ideal) S_ FTy.f32 2143289344#32) ix0) _ zero_word k)
  rw [← h3, ← h4]
  rfl

/-- The reference's result. -/
def refOut : S2x512x768.Idx → EReal := fun i => (whole V).out (i 0) (i 1) (i 2)

theorem ref_at : addf (res_main_v65 V) (mulf (broadcastInDim S2x512x768 ![0, 1, 2] bcast_S2x1x768_S2x512x768_0_1_2 (broadcastInDim S2x1x768 ![0, 2] bcast_S2x768_S2x1x768_0_2 (extractStridedSlice S2x768 ![0, 3840] (res_main_v0 V) slices_S2x4608_S2x768_0_3840)))
      (Host.dotGeneral (F := Ideal) (φ₂ := .f32) dot_S2x512x3072_S3072x768_S2x512x768_2_0_01_1_n_n none (Host.divf (res_main_v86 V) (addf (broadcastInDim S2x512x3072 ![] bcast_S_S2x512x3072 (constant S_ .f32 0x3F800000#32)) (Host.exp (Host.negf (res_main_v86 V)))))
        (V (Proc.devRef .tc main_arg8)))) = refOut V := by
  funext i
  obtain ⟨b, s, n, rfl⟩ : ∃ b s n, i = ix3 b s n := ⟨i 0, i 1, i 2, eq_ix3 i⟩
  have hx := fun b s n => v65_at V b s n
  have hh := fun b s n => v86_at V b s n
  have h5 := fun b j => v0_at V 5 b j
  pointwise [dot_S2x512x3072_S3072x768_S2x512x768_2_0_01_1_n_n, hx, hh]
  change @Eq EReal _ ((whole V).out b s n)
  simp only [Whole.out, ← Row.silu_quot, ← h5]
  rfl

end Cert.KernelProof
-- ==== Proof.Value2.lean ====
/-
# The kernel's result, entry by entry

The chunks put together: which devices' partial products each entry adds up (all four, whoever finishes it), and what
every device stores as its result.
-/
module

public import proofs.«01_k».proof.Proof.Value1

@[expose] public section

noncomputable section

namespace Cert.KernelProof

open Cert.KernelIdeal Cert.KernelIdeal.Gen

open Idealize.ShloMosaic
open Idealize.ShloMosaic.TcCoe

theorem liftU_at (v : S128x768.Idx → EReal) (s : Fin 128) (n : Fin 768) : liftU v (ix3 0 s n) = v (ix2 s n) := by
  refine congrArg v ?_
  rw [Equiv.symm_apply_eq]
  pointwise []

theorem res_at (b' : Fin 2) (g : S2x768.Idx → EReal) (a b : S128x768.Idx → EReal) (x : S1x128x768.Idx → EReal) (s : Fin 128) (n : Fin 768) :
    (if b' = 0 then res0 (F := Ideal) g a b x else res1 (F := Ideal) g a b x) (ix2 s n)
      = x (ix3 0 s n) + g (ix2 b' n) * (a (ix2 s n) + b (ix2 s n)) := by
  have h := liftU_at b s n
  obtain rfl | rfl : b' = 0 ∨ b' = 1 := by omega
  · rw [if_pos rfl]; pointwise [res0, k0_pay39, k0_pay40, k0_pay41, h]
  · rw [if_neg (by decide)]; pointwise [res1, k0_pay42, h]

theorem fin_at (b' : Fin 2) (g : S2x768.Idx → EReal) (a b x : S128x768.Idx → EReal) (s : Fin 128) (n : Fin 768) :
    (if b' = 0 then fin0 (F := Ideal) g a b x else fin1 (F := Ideal) g a b x) (ix2 s n)
      = x (ix2 s n) + g (ix2 b' n) * (a (ix2 s n) + b (ix2 s n)) := by
  have h := liftU_at b s n
  obtain rfl | rfl : b' = 0 ∨ b' = 1 := by omega
  · rw [if_pos rfl]; pointwise [fin0, k0_pay68, k0_pay69, h]
  · rw [if_neg (by decide)]; pointwise [fin1, k0_pay70, h]

/-! ### Indices -/

/-- The batch of a row. -/
def bt (r : Fin 1024) : Fin 2 := ⟨r.val / 512, by omega⟩

theorem hT_tOf (r : Fin 1024) (n : Fin 768) : hT (tOf (ix2 r n)) = bt r := Fin.ext (by show r.val / 256 / 2 = r.val / 512; omega)
theorem hU_uOf (r : Fin 1024) (n : Fin 768) : hU (uOf (ix2 r n)) = bt r := Fin.ext (by show r.val / 128 / 4 = r.val / 512; omega)
theorem locT_ix (r : Fin 1024) (n : Fin 768) : locT (ix2 r n) = ix2 ⟨r.val % 256, by omega⟩ n := eq_ix2 _
theorem locU_ix (r : Fin 1024) (n : Fin 768) : locU (ix2 r n) = ix2 ⟨r.val % 128, by omega⟩ n := eq_ix2 _

theorem cutT_at {α : Type} (X : S1024x768.Idx → α) (r : Fin 1024) (n k : Fin 768) :
    cutT (tOf (ix2 r n)) X (ix2 ⟨r.val % 256, by omega⟩ k) = X (ix2 r k) := by
  refine congrArg X ((eq_ix2 _).trans ?_)
  exact congrArg (ix2 · k) (Fin.ext (by show 256 * (r.val / 256) + r.val % 256 = r.val; omega))
theorem cutU_at {α : Type} (X : S1024x768.Idx → α) (r : Fin 1024) (n k : Fin 768) :
    cutU (uOf (ix2 r n)) X (ix2 ⟨r.val % 128, by omega⟩ k) = X (ix2 r k) := by
  refine congrArg X ((eq_ix2 _).trans ?_)
  exact congrArg (ix2 · k) (Fin.ext (by show 128 * (r.val / 128) + r.val % 128 = r.val; omega))
theorem cutQ_at {α : Type} (X : S1024x384.Idx → α) (r : Fin 1024) (n : Fin 768) (k : Fin 384) :
    cutQ (tOf (ix2 r n)) X (ix2 ⟨r.val % 256, by omega⟩ k) = X (ix2 r k) := by
  refine congrArg X ((eq_ix2 _).trans ?_)
  exact congrArg (ix2 · k) (Fin.ext (by show 256 * (r.val / 256) + r.val % 256 = r.val; omega))
theorem cut3_at {α : Type} (X : S2x512x768.Idx → α) (r : Fin 1024) (n k : Fin 768) :
    cut3 (uOf (ix2 r n)) X (ix3 0 ⟨r.val % 128, by omega⟩ k) = X (ix3 (bt r) ⟨r.val % 512, by omega⟩ k) := by
  refine congrArg X ((eq_ix3 _).trans ?_)
  refine congrArg₂ (ix3 · · k) (Fin.ext ?_) (Fin.ext ?_)
  · show r.val / 128 / 4 = r.val / 512; omega
  · show 128 * (r.val / 128 % 4) + r.val % 128 = r.val % 512; omega

/-- The four devices are a device, its two partners, and its partner's partner. -/
theorem sum_devices (f : Dev nD → EReal) (h : Fin 2) (c : Dev nD) :
    f c + f (peer h 0 c) + (f (peer h 1 c) + f (peer h 0 (peer h 1 c))) = ∑ d, f d := by
  have e : (Finset.univ : Finset (Dev nD)).val = {c, peer h 0 c, peer h 1 c, peer h 0 (peer h 1 c)} := by revert h c; decide
  rw [Finset.sum_eq_multiset_sum, e]
  simp only [Multiset.insert_eq_cons, Multiset.map_cons, Multiset.sum_cons, Multiset.map_singleton, Multiset.sum_singleton, add_assoc]

namespace In
variable (J : In Ideal)

/-- A device's share of the attention output at row `r`. -/
def attRow (r : Fin 1024) (n : Fin 768) : EReal :=
  ∑ e : Fin 384, J.headOf (fun m => J.q (ix2 r m)) (r.val / 512) (by omega) (e.val / 96) (by omega) ⟨e.val % 96, by omega⟩ * J.wo (ix2 e n)

theorem headOf_batch (Q : Fin 384 → EReal) {b b' : ℕ} (e : b = b') (hb : b < 2) (hb' : b' < 2) (h : ℕ) (hh : h < 4) :
    J.headOf Q b hb h hh = J.headOf Q b' hb' h hh := by subst e; rfl

theorem att_at (r : Fin 1024) (n : Fin 768) : J.att (tOf (ix2 r n)) (ix2 ⟨r.val % 256, by omega⟩ n) = J.attRow r n := by
  rw [att, hT_tOf]
  have key : ∀ b : ℕ, (hb : b < 2) → b = r.val / 512 →
      (∑ e : Fin 384, J.headOf (fun m => cutQ (tOf (ix2 r n)) J.q (ix2 ⟨r.val % 256, by omega⟩ m)) b hb (e.val / 96) (by omega)
        ⟨e.val % 96, by omega⟩ * J.wo (ix2 e n)) = J.attRow r n := by
    intro b hb e
    subst e
    simp only [cutQ_at]
    rfl
  by_cases h : bt r = 0
  · rw [if_pos h, (J.att_heads _ _ _).1]
    exact key 0 (by decide) (congrArg Fin.val h).symm
  · rw [if_neg h, (J.att_heads _ _ _).2]
    refine key 1 (by decide) ?_
    have h' : ¬ r.val / 512 = 0 := fun e => h (Fin.ext e)
    omega

theorem mlp_at (G : S1024x768.Idx → EReal) (r : Fin 1024) (n : Fin 768) :
    J.mlpT (tOf (ix2 r n)) (cutT (tOf (ix2 r n)) G) (ix2 ⟨r.val % 256, by omega⟩ n) = J.mlpRow (fun k => G (ix2 r k)) (bt r) n
    ∧ J.mlpU (uOf (ix2 r n)) (cutU (uOf (ix2 r n)) G) (ix2 ⟨r.val % 128, by omega⟩ n) = J.mlpRow (fun k => G (ix2 r k)) (bt r) n := by
  rw [mlpT, mlpU, hT_tOf, hU_uOf]
  by_cases h : bt r = 0
  · rw [if_pos h, if_pos h, (J.mlpT_rows _ _ _).1, (J.mlpU_rows _ _ _).1, h]
    simp only [cutT_at, cutU_at, and_self]
  · have h' : bt r = 1 := by omega
    rw [if_neg h, if_neg h, (J.mlpT_rows _ _ _).2, (J.mlpU_rows _ _ _).2, h']
    simp only [cutT_at, cutU_at, and_self]

end In

/-! ### The whole of the result -/

section Global
variable (J : Dev nD → In Ideal)

theorem A0_at (c : Dev nD) (r : Fin 1024) (n : Fin 768) : A0 J c (ix2 r n) = (J c).attRow r n := by
  rw [A0, locT_ix, In.att_at]

theorem sumA_at (A : Dev nD → S1024x768.Idx → EReal) (c : Dev nD) (r : Fin 1024) (n : Fin 768) :
    sumA (F := Ideal) A c (ix2 r n) = A c (ix2 r n) + A (peer (bt r) 0 c) (ix2 r n) := by
  rw [sumA, locT_ix, sumT_at, cutT_at, cutT_at, hT_tOf]

/-- The first residual: the input plus the gated sum of the devices' shares of the attention output. -/
theorem G1_at {x : S2x512x768.Idx → EReal} {m : Fin 2 → Fin 768 → EReal} (hx : ∀ c, (J c).x = x) (hm : ∀ c b j, (J c).mod 2 b j = m b j)
    (r : Fin 1024) (n : Fin 768) :
    G1 J (ix2 r n) = x (ix3 (bt r) ⟨r.val % 512, by omega⟩ n) + m (bt r) n * ∑ c, (J c).attRow r n := by
  have hm2 := fun c => ((J c).m_at (bt r) n).2.2.1
  rw [G1, g1U, locU_ix, hU_uOf, res_at, cutU_at, cutU_at, cut3_at, hx, hm2, hm, sumA_at, sumA_at, A0_at, A0_at, A0_at, A0_at,
    sum_devices (fun c => (J c).attRow r n)]

theorem A1_at (c : Dev nD) (r : Fin 1024) (n : Fin 768) : A1 J c (ix2 r n) = (J c).mlpRow (fun k => G1 J (ix2 r k)) (bt r) n := by
  rw [A1, locT_ix, locU_ix, ((J c).mlp_at _ r n).1, ((J c).mlp_at _ r n).2, ite_self]

theorem G2_at {m : Fin 2 → Fin 768 → EReal} (hm : ∀ c b j, (J c).mod 5 b j = m b j) (r : Fin 1024) (n : Fin 768) :
    G2 J (ix2 r n) = G1 J (ix2 r n) + m (bt r) n * ∑ c, (J c).mlpRow (fun k => G1 J (ix2 r k)) (bt r) n := by
  have hm5 := fun c => ((J c).m_at (bt r) n).2.2.2.2.2
  rw [G2, g2U, locU_ix, hU_uOf, fin_at, cutU_at, cutU_at, cutU_at, hm5, hm, sumA_at, sumA_at, A1_at, A1_at, A1_at, A1_at,
    sum_devices (fun c => (J c).mlpRow (fun k => G1 J (ix2 r k)) (bt r) n)]

theorem OUT_at (c : Dev nD) (b : Fin 2) (s : Fin 512) (n : Fin 768) :
    OUT J c (ix3 b s n) = G2 J (ix2 ⟨512 * b.val + s.val, by omega⟩ n) := by
  have hT' : loc3T (ix3 b s n) = ix3 0 ⟨s.val % 256, by omega⟩ n := eq_ix3 _
  have hU' : loc3U (ix3 b s n) = ix3 0 ⟨s.val % 128, by omega⟩ n := eq_ix3 _
  have p75 : ∀ v : S256x768.Idx → EReal, ∀ s n, k0_pay75 (F := Ideal) v (ix3 0 s n) = v (ix2 s n) := by
    intro v s n; pointwise [k0_pay75]
  have p71 : ∀ v : S128x768.Idx → EReal, ∀ s n, k0_pay71 (F := Ideal) v (ix3 0 s n) = v (ix2 s n) := by
    intro v s n; pointwise [k0_pay71]
  rw [OUT, hT', hU', p75, p71]
  split_ifs
  · refine congrArg (G2 J) ((eq_ix2 _).trans (congrArg (ix2 · n) (Fin.ext ?_)))
    show 256 * (2 * b.val + s.val / 256) + s.val % 256 = 512 * b.val + s.val; omega
  · refine congrArg (G2 J) ((eq_ix2 _).trans (congrArg (ix2 · n) (Fin.ext ?_)))
    show 128 * (4 * b.val + s.val / 128) + s.val % 128 = 512 * b.val + s.val; omega

end Global

end Cert.KernelProof
-- ==== Proof.Value4.lean ====
/-
# The kernel's result is the block's

With the weights cut over the four devices — the three projections, the first output weight and the two MLP weights —
device `c`'s four heads are heads `4c … 4c+3` of the whole block and its 768 hidden units are `768c …`. The devices'
partial products then add up to the whole products.
-/
module

public import proofs.«01_k».proof.Proof.Value2
public import proofs.«01_k».proof.Proof.Net

@[expose] public section

noncomputable section

namespace Cert.KernelProof

open Cert.KernelIdeal Cert.KernelIdeal.Gen

open Idealize.ShloMosaic
open Idealize.ShloMosaic.TcCoe

/-- Device `c` holds the input and the modulation whole, and its own block of every weight. -/
structure Cut (W : Whole) (c : Fin 4) (J : In Ideal) : Prop where
  x : J.x = W.x
  tv : J.tv = W.tv
  wa : J.wa = W.wa
  wq : ∀ (k : Fin 768) (e : Fin 384), J.wq (ix2 k e) = W.wq (ix2 k ⟨c.val * 384 + e.val, by omega⟩)
  wk : ∀ (k : Fin 768) (e : Fin 384), J.wk (ix2 k e) = W.wk (ix2 k ⟨c.val * 384 + e.val, by omega⟩)
  wv : ∀ (k : Fin 768) (e : Fin 384), J.wv (ix2 k e) = W.wv (ix2 k ⟨c.val * 384 + e.val, by omega⟩)
  wo : ∀ (e : Fin 384) (n : Fin 768), J.wo (ix2 e n) = W.wo (ix2 ⟨c.val * 384 + e.val, by omega⟩ n)
  w1 : ∀ (k : Fin 768) (i : Fin 768), J.w1 (ix2 k i) = W.w1 (ix2 k ⟨c.val * 768 + i.val, by omega⟩)
  w2 : ∀ (i : Fin 768) (n : Fin 768), J.w2 (ix2 i n) = W.w2 (ix2 ⟨c.val * 768 + i.val, by omega⟩ n)

/-- The token of a row within its batch. -/
def tk (r : Fin 1024) : Fin 512 := ⟨r.val % 512, by omega⟩

namespace Cut
variable {W : Whole} {c : Fin 4} {J : In Ideal} (H : Cut W c J)
include H

theorem mod_eq (m : Fin 6) : J.mod m = W.mod m := by
  funext b j
  rw [In.mod, Whole.mod, H.tv, H.wa]

theorem nRow_eq (r : Fin 1024) : J.nRow r = W.nRow (bt r) (tk r) := by
  funext k
  unfold In.nRow Whole.nRow In.xRow
  rw [H.mod_eq, H.mod_eq, H.x]
  rfl

theorem q_eq (r : Fin 1024) (e : Fin 384) : J.q (ix2 r e) = W.q (bt r) (tk r) ⟨c.val * 384 + e.val, by omega⟩ := by
  rw [(J.qkv_at r e).1, H.nRow_eq]; exact Finset.sum_congr rfl fun k _ => by rw [H.wq]
theorem k_eq (r : Fin 1024) (e : Fin 384) : J.kk (ix2 r e) = W.k (bt r) (tk r) ⟨c.val * 384 + e.val, by omega⟩ := by
  rw [(J.qkv_at r e).2.1, H.nRow_eq]; exact Finset.sum_congr rfl fun k _ => by rw [H.wk]
theorem v_eq (r : Fin 1024) (e : Fin 384) : J.vv (ix2 r e) = W.v (bt r) (tk r) ⟨c.val * 384 + e.val, by omega⟩ := by
  rw [(J.qkv_at r e).2.2, H.nRow_eq]; exact Finset.sum_congr rfl fun k _ => by rw [H.wv]

theorem head_eq (r : Fin 1024) (h : ℕ) (hh : h < 4) :
    J.headOf (fun m => J.q (ix2 r m)) (r.val / 512) (by omega) h hh = W.head (bt r) (tk r) ⟨4 * c.val + h, by omega⟩ := by
  have hf : ∀ d : Fin 96, (⟨c.val * 384 + (96 * h + d.val), by omega⟩ : Fin 1536) = Whole.feat ⟨4 * c.val + h, by omega⟩ d :=
    fun d => Fin.ext (by show c.val * 384 + (96 * h + d.val) = (4 * c.val + h) * 96 + d.val; omega)
  have hb : ∀ j : Fin 512, bt ⟨512 * (r.val / 512) + j.val, by omega⟩ = bt r :=
    fun j => Fin.ext (by show (512 * (r.val / 512) + j.val) / 512 = r.val / 512; omega)
  have ht : ∀ j : Fin 512, tk ⟨512 * (r.val / 512) + j.val, by omega⟩ = j :=
    fun j => Fin.ext (by show (512 * (r.val / 512) + j.val) % 512 = j.val; omega)
  unfold In.headOf Whole.head
  simp only [H.q_eq, H.k_eq, H.v_eq, hf, hb, ht]

end Cut

variable {W : Whole} {J : Dev nD → In Ideal} (H : ∀ c, Cut W c (J c))
include H

theorem att_sum (r : Fin 1024) (n : Fin 768) : ∑ c, (J c).attRow r n
    = ∑ e : Fin 1536, W.head (bt r) (tk r) ⟨e.val / 96, by omega⟩ ⟨e.val % 96, by omega⟩ * W.wo (ix2 e n) := by
  rw [Fin.sum_univ_tiles 4 384 rfl]
  refine Finset.sum_congr rfl fun c _ => Finset.sum_congr rfl fun e _ => ?_
  rw [(H c).head_eq, (H c).wo]
  refine congrArg₂ (· * ·) (congrArg₂ (W.head (bt r) (tk r)) (Fin.ext ?_) (Fin.ext ?_)) rfl
  · show 4 * c.val + e.val / 96 = (c.val * 384 + e.val) / 96; omega
  · show e.val % 96 = (c.val * 384 + e.val) % 96; omega

theorem G1_eq (r : Fin 1024) (n : Fin 768) : G1 J (ix2 r n) = W.x1 (bt r) (tk r) n := by
  rw [G1_at J (fun c => (H c).x) (m := W.mod 2) (fun c b j => by rw [(H c).mod_eq]), att_sum H]
  rfl

theorem mlp_sum (r : Fin 1024) (n : Fin 768) : ∑ c, (J c).mlpRow (fun k => G1 J (ix2 r k)) (bt r) n
    = ∑ i : Fin 3072, Row.silu (W.hid (bt r) (tk r) i) * W.w2 (ix2 i n) := by
  have hg : (fun k => G1 J (ix2 r k)) = W.x1 (bt r) (tk r) := funext fun k => G1_eq H r k
  rw [Fin.sum_univ_tiles 4 768 rfl, hg]
  refine Finset.sum_congr rfl fun c _ => ?_
  unfold In.mlpRow Row.mlp
  refine Finset.sum_congr rfl fun i _ => ?_
  rw [(H c).w2, (H c).mod_eq, (H c).mod_eq]
  refine congrArg₂ (· * ·) (congrArg Row.silu (Finset.sum_congr rfl fun k _ => ?_)) rfl
  rw [(H c).w1]

theorem OUT_eq (c : Dev nD) (b : Fin 2) (s : Fin 512) (n : Fin 768) : OUT J c (ix3 b s n) = W.out b s n := by
  have hb : bt ⟨512 * b.val + s.val, by omega⟩ = b := Fin.ext (by show (512 * b.val + s.val) / 512 = b.val; omega)
  have ht : tk ⟨512 * b.val + s.val, by omega⟩ = s := Fin.ext (by show (512 * b.val + s.val) % 512 = s.val; omega)
  rw [OUT_at, G2_at J (m := W.mod 5) (fun c b j => by rw [(H c).mod_eq]), mlp_sum H, G1_eq H, hb, ht]
  rfl

end Cert.KernelProof
-- ==== Proof.Algebra.lean ====
/-
# Both programs hold the block

The kernel's result on every device and the reference's are one array, for arguments laid out over the devices as the
claim says.
-/
module

public import proofs.«01_k».proof.Proof.Value3
public import proofs.«01_k».proof.Proof.Value4
public import proofs.«01_k».proof.Proof.Final
public import proofs.«01_k».proof.Defs

@[expose] public section

noncomputable section

namespace Cert.KernelProof

open Idealize.ShloMosaic Idealize.SL.Sem Idealize.ShloMosaic.StableHlo
open Idealize.ShloMosaic.TcCoe

/-- A block of columns at an index, -/
theorem cols_at {a n N : ℕ} (c : Fin 4) (v : (⟨2, ![a, N]⟩ : Shape).Idx → EReal) (h : Layout.Tiles ⟨2, ![a, n]⟩ ⟨2, ![a, N]⟩ 1 4)
    (k : Fin a) (e : Fin n) (hlt : c.val * n + e.val < N) :
    Layout.block ⟨2, ![a, n]⟩ ⟨2, ![a, N]⟩ 1 4 c v h (ix2 k e) = v (ix2 k ⟨c.val * n + e.val, hlt⟩) :=
  congrArg v ((eq_ix2 _).trans (congrArg₂ ix2 (Fin.ext (Layout.idx_cols_val h c (ix2 k e)).1) (Fin.ext (Layout.idx_cols_val h c (ix2 k e)).2)))

/-- and a block of rows. -/
theorem rows_at {b n N : ℕ} (c : Fin 4) (v : (⟨2, ![N, b]⟩ : Shape).Idx → EReal) (h : Layout.Tiles ⟨2, ![n, b]⟩ ⟨2, ![N, b]⟩ 0 4)
    (e : Fin n) (k : Fin b) (hlt : c.val * n + e.val < N) :
    Layout.block ⟨2, ![n, b]⟩ ⟨2, ![N, b]⟩ 0 4 c v h (ix2 e k) = v (ix2 ⟨c.val * n + e.val, hlt⟩ k) :=
  congrArg v ((eq_ix2 _).trans (congrArg₂ ix2 (Fin.ext (Layout.idx_rows_val h c (ix2 e k)).1) (Fin.ext (Layout.idx_rows_val h c (ix2 e k)).2)))

/-- From arguments laid out so, both programs end with the block's output and their arguments as they were. -/
theorem algebraic : Cert.algebraic_KernelIdeal_ReferenceIdeal (hKernelIdeal := Cert.KernelIdeal.Gen.facts) (hReferenceIdeal := Cert.ReferenceIdeal.Gen.facts) := by
  intro m ρ m' ρ' _ h
  have H : ∀ c : Fin 4, Cut (whole (launchContents m' (0 : Dev Cert.ReferenceIdeal.nD))) c (ins m ρ c) := fun c => {
    x := (ins_x m ρ c).trans ((h c).1)
    tv := (ins_tv m ρ c).trans ((h c).2.2.2.2.2.1)
    wa := (ins_wa m ρ c).trans ((h c).2.2.2.2.2.2.1)
    wq k e := (congrFun ((ins_wq m ρ c).trans ((h c).2.1)) (ix2 k e)).trans (cols_at c _ _ k e _)
    wk k e := (congrFun ((ins_wk m ρ c).trans ((h c).2.2.1)) (ix2 k e)).trans (cols_at c _ _ k e _)
    wv k e := (congrFun ((ins_wv m ρ c).trans ((h c).2.2.2.1)) (ix2 k e)).trans (cols_at c _ _ k e _)
    wo e n := (congrFun ((ins_wo m ρ c).trans ((h c).2.2.2.2.1)) (ix2 e n)).trans (rows_at c _ _ e n _)
    w1 k e := (congrFun ((ins_w1 m ρ c).trans ((h c).2.2.2.2.2.2.2.1)) (ix2 k e)).trans (cols_at c _ _ k e _)
    w2 e n := (congrFun ((ins_w2 m ρ c).trans ((h c).2.2.2.2.2.2.2.2)) (ix2 e n)).trans (rows_at c _ _ e n _)
  }
  refine ⟨refOut (launchContents m' (0 : Dev Cert.ReferenceIdeal.nD)), ?_, ?_⟩
  · refine (θ_run (Cert.KernelIdeal.defs (F := Ideal)) _ _).mono (fun r hr c => ⟨(hr.1 c).1.trans ?_, (hr.1 c).2⟩) (run_final (F := Ideal) m ρ)
    exact funext fun i => (congrArg (OUT (ins m ρ) c) (eq_ix3 i)).trans (OUT_eq H c (i 0) (i 1) (i 2))
  · exact (θ_run (Cert.ReferenceIdeal.defs (F := Ideal)) _ _).mono (fun r hr => ⟨(hr 0).1.trans (ref_at _), (hr 0).2⟩) (Cert.ReferenceIdeal.Value.run (F := Ideal) m' ρ')

end Cert.KernelProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Algebra
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Every run of the kernel ends, its arguments as they were and its counts at zero, at the machine's floats -/
theorem frame_kernel : Cert.quiescent_Kernel (hKernel := Cert.Kernel.Gen.facts) := by
  intro m ρ _
  letI := Cert.Kernel.Gen.facts
  letI := Cert.KernelIdeal.Gen.facts
  rw [Cert.KernelProof.defs_same]
  exact Cert.KernelProof.run_frame (F := Bits) m ρ
/-- and at the extended reals; -/
theorem frame_ideal : Cert.quiescent_KernelIdeal (hKernelIdeal := Cert.KernelIdeal.Gen.facts) := fun m ρ _ => Cert.KernelProof.run_frame (F := Ideal) m ρ
/-- the reference too. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelProof.algebraic⟩

end Cert.Proof

end
